-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 8192]⟩ : Shape).Idx, (Layout.blockN ⟨2, ![1024, 8192]⟩ ⟨2, ![2048, 8192]⟩ (Layout.meshBlock [2, 2, 2] ![[0], []] c) ((Cert.On_settled.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 8192]⟩ : Shape).Idx → _) i = 1#1 → r.2.mem ((c.tc : Thread Cert.KernelIdeal.nD Cert.KernelIdeal.τ).loc Cert.KernelIdeal.main_v1) i = (Layout.blockN ⟨2, ![1024, 8192]⟩ ⟨2, ![2048, 8192]⟩ (Layout.meshBlock [2, 2, 2] ![[0], []] c) v0 : (⟨2, ![1024, 8192]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 8192]⟩ : Shape).Idx, (Cert.On_settled.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v2) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_settled : Cert.On_settled.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_settled (hKernelIdeal := hKernelIdeal) (hReferenceIdeal := hReferenceIdeal) (hOn_settled := hOn_settled)
-- ==== On_settled.lean ====
abbrev S4096x2048 : Shape := ⟨2, ![4096, 2048]⟩
abbrev S4096x8192 : Shape := ⟨2, ![4096, 8192]⟩
abbrev S2048x8192 : Shape := ⟨2, ![2048, 8192]⟩
abbrev S_ : Shape := ⟨0, ![]⟩

class Facts : Prop where
  bcast_S_S2048x8192 : S_.BroadcastsInDim S2048x8192 (![] : Fin 0 → Fin S2048x8192.rank)

variable [Facts]

def fn {F : FTy → Type} [FloatOps F] (main_arg0 : FVec F S4096x2048 .bf16) (main_arg1 : FVec F S4096x8192 .bf16) : IVec S2048x8192 1 :=
  let main_v0 : IVec S2048x8192 32 := iotaInDim S2048x8192 32 1
  let main_c : IVec S_ 32 := constantI S_ 32 1536#32
  let main_v1 : IVec S2048x8192 32 := broadcastInDim S2048x8192 ![] bcast_S_S2048x8192 main_c
  let main_v2 : IVec S2048x8192 1 := cmpi .sge main_v0 main_v1
  main_v2
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2048x512 : Shape := ⟨2, ![2048, 512]⟩
abbrev S1024x512 : Shape := ⟨2, ![1024, 512]⟩
abbrev S2048x1280 : Shape := ⟨2, ![2048, 1280]⟩
abbrev S8x1024x512 : Shape := ⟨3, ![8, 1024, 512]⟩
abbrev S12x2x256x256 : Shape := ⟨4, ![12, 2, 256, 256]⟩
abbrev S5x12 : Shape := ⟨2, ![5, 12]⟩
abbrev S2048x1024 : Shape := ⟨2, ![2048, 1024]⟩
abbrev S2048x256 : Shape := ⟨2, ![2048, 256]⟩
abbrev S1x1 : Shape := ⟨2, ![1, 1]⟩
abbrev S_ : Shape := ⟨0, ![]⟩
abbrev S1x2x256x256 : Shape := ⟨4, ![1, 2, 256, 256]⟩
abbrev S2x256x256 : Shape := ⟨3, ![2, 256, 256]⟩
abbrev S1x1x256x256 : Shape := ⟨4, ![1, 1, 256, 256]⟩
abbrev S256x256 : Shape := ⟨2, ![256, 256]⟩
abbrev S1x256x256 : Shape := ⟨3, ![1, 256, 256]⟩
abbrev S256x512 : Shape := ⟨2, ![256, 512]⟩
abbrev S1x1024x512 : Shape := ⟨3, ![1, 1024, 512]⟩

abbrev nBuf : Space → Nat
  | .hbm => 3
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S1024x8192, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S2048x1280, .bf16⟩
  | .local _ .vmem, ⟨6, _⟩ => ⟨S8x1024x512, .bf16⟩
  | .local _ .vmem, ⟨7, _⟩ => ⟨S12x2x256x256, .bf16⟩
  | .local _ .vmem, ⟨8, _⟩ => ⟨S12x2x256x256, .bf16⟩
  | .local _ .vmem, ⟨9, _⟩ => ⟨S12x2x256x256, .bf16⟩
  | .local _ .vmem, ⟨10, _⟩ => ⟨S12x2x256x256, .bf16⟩
  | .local _ .vmem, ⟨11, _⟩ => ⟨S12x2x256x256, .bf16⟩
  | .local _ .vmem, ⟨12, _⟩ => ⟨S12x2x256x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  ofTc nBuf bufTy 0 125 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 8
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_6 : BitVec 32 := 0#32
  let v14 : BitVec 1 := Scalar.cmpi .ne v13 c0_i32_6
  v14

def k0_off1 (d0 : Dev nD) : Fin 2 → Nat :=
  let c0 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v33 : BitVec 32 := Scalar.muli v2 c1024_i32
  let v34 : Index := Scalar.indexCast v33
  ![0, v34.toNat]
def k0_off2 (d0 : Dev nD) : Fin 2 → Nat :=
  let c0_16 : Index := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_14 v2
  let c1024_i32_15 : BitVec 32 := 1024#32
  let v38 : BitVec 32 := Scalar.muli v37 c1024_i32_15
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v40 : BitVec 32 := Scalar.addi v38 v39
  let v41 : Index := Scalar.indexCast v40
  ![0, v41.toNat]
def k0_cond2 (i : grid0.Coords) : BitVec 1 :=
  let arg0 : BitVec 32 := BitVec.ofNat 32 (i 0).val
  let c2_i32_7 : BitVec 32 := 2#32
  let v15 : BitVec 1 := Scalar.cmpi .sge arg0 c2_i32_7
  let c17_i32 : BitVec 32 := 17#32
  let v16 : BitVec 1 := Scalar.cmpi .sle arg0 c17_i32
  let v17 : BitVec 1 := Scalar.andi v15 v16
  let v18 : BitVec 32 := Scalar.extui v17
  let c0_i32_8 : BitVec 32 := 0#32
  let v19 : BitVec 1 := Scalar.cmpi .ne v18 c0_i32_8
  v19

def k0_off3 (i : grid0.Coords) : Fin 2 → Nat :=
  let c0_i32_15 : BitVec 32 := 0#32
  let arg0 : BitVec 32 := BitVec.ofNat 32 (i 0).val
  let c12_i32 : BitVec 32 := 12#32
  let v31 : BitVec 32 := Scalar.addi arg0 c12_i32
  let c2_i32_13 : BitVec 32 := 2#32
  let v32 : BitVec 32 := Scalar.subi v31 c2_i32_13
  let c12_i32_14 : BitVec 32 := 12#32
  let v33 : BitVec 32 := Scalar.remsi v32 c12_i32_14
  ![0, v33.toNat]
def k0_off4 (i : grid0.Coords) : Fin 4 → Nat :=
  let arg0 : BitVec 32 := BitVec.ofNat 32 (i 0).val
  let c12_i32 : BitVec 32 := 12#32
  let v31 : BitVec 32 := Scalar.addi arg0 c12_i32
  let c2_i32_13 : BitVec 32 := 2#32
  let v32 : BitVec 32 := Scalar.subi v31 c2_i32_13
  let c12_i32_14 : BitVec 32 := 12#32
  let v33 : BitVec 32 := Scalar.remsi v32 c12_i32_14
  let c0_i32_18 : BitVec 32 := 0#32
  let c0_i32_19 : BitVec 32 := 0#32
  let c0_i32_20 : BitVec 32 := 0#32
  ![v33.toNat, 0, 0, 0]
def k0_off5 (i : grid0.Coords) : Fin 4 → Nat :=
  let arg0 : BitVec 32 := BitVec.ofNat 32 (i 0).val
  let c12_i32 : BitVec 32 := 12#32
  let v31 : BitVec 32 := Scalar.addi arg0 c12_i32
  let c2_i32_13 : BitVec 32 := 2#32
  let v32 : BitVec 32 := Scalar.subi v31 c2_i32_13
  let c12_i32_14 : BitVec 32 := 12#32
  let v33 : BitVec 32 := Scalar.remsi v32 c12_i32_14
  let v52 : Index := Scalar.indexCast v33
  let c0 : Index := 0#32
  let c0_36 : Index := 0#32
  let c0_37 : Index := 0#32
  ![v52.toNat, 0, 0, 0]
def k0_off6 (i : grid0.Coords) : Fin 4 → Nat :=
  let arg0 : BitVec 32 := BitVec.ofNat 32 (i 0).val
  let c12_i32 : BitVec 32 := 12#32
  let v31 : BitVec 32 := Scalar.addi arg0 c12_i32
  let c2_i32_13 : BitVec 32 := 2#32
  let v32 : BitVec 32 := Scalar.subi v31 c2_i32_13
  let c12_i32_14 : BitVec 32 := 12#32
  let v33 : BitVec 32 := Scalar.remsi v32 c12_i32_14
  let v59 : Index := Scalar.indexCast v33
  let c1 : Index := 1#32
  let c0_41 : Index := 0#32
  let c0_42 : Index := 0#32
  ![v59.toNat, 1, 0, 0]
def k0_off7 (i : grid0.Coords) : Fin 2 → Nat :=
  let c1_i32_49 : BitVec 32 := 1#32
  let arg0 : BitVec 32 := BitVec.ofNat 32 (i 0).val
  let c12_i32 : BitVec 32 := 12#32
  let v31 : BitVec 32 := Scalar.addi arg0 c12_i32
  let c2_i32_13 : BitVec 32 := 2#32
  let v32 : BitVec 32 := Scalar.subi v31 c2_i32_13
  let c12_i32_14 : BitVec 32 := 12#32
  let v33 : BitVec 32 := Scalar.remsi v32 c12_i32_14
  ![1, v33.toNat]
def k0_off8 (i : grid0.Coords) : Fin 4 → Nat :=
  let arg0 : BitVec 32 := BitVec.ofNat 32 (i 0).val
  let c12_i32 : BitVec 32 := 12#32
  let v31 : BitVec 32 := Scalar.addi arg0 c12_i32
  let c2_i32_13 : BitVec 32 := 2#32
  let v32 : BitVec 32 := Scalar.subi v31 c2_i32_13
  let c12_i32_14 : BitVec 32 := 12#32
  let v33 : BitVec 32 := Scalar.remsi v32 c12_i32_14
  let c1_i32_47 : BitVec 32 := 1#32
  let c0_i32_54 : BitVec 32 := 0#32
  let c0_i32_55 : BitVec 32 := 0#32
  ![v33.toNat, 1, 0, 0]
def k0_off9 (i : grid0.Coords) : Fin 4 → Nat :=
  let arg0 : BitVec 32 := BitVec.ofNat 32 (i 0).val
  let c12_i32 : BitVec 32 := 12#32
  let v31 : BitVec 32 := Scalar.addi arg0 c12_i32
  let c2_i32_13 : BitVec 32 := 2#32
  let v32 : BitVec 32 := Scalar.subi v31 c2_i32_13
  let c12_i32_14 : BitVec 32 := 12#32
  let v33 : BitVec 32 := Scalar.remsi v32 c12_i32_14
  let c0_i32_46 : BitVec 32 := 0#32
  let c0_i32_56 : BitVec 32 := 0#32
  let c0_i32_57 : BitVec 32 := 0#32
  ![v33.toNat, 0, 0, 0]
def k0_dev1 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v66 : BitVec 32 := Scalar.muli v2 c4_i32_50
  let v67 : BitVec 32 := Scalar.addi c0_i32_51 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v68 : BitVec 32 := Scalar.muli v5 c2_i32_52
  let v69 : BitVec 32 := Scalar.addi v67 v68
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_53 : BitVec 32 := 1#32
  let v70 : BitVec 32 := Scalar.muli v10 c1_i32_53
  let v71 : BitVec 32 := Scalar.addi v69 v70
  v71.toNat
def k0_off10 (i : grid0.Coords) : Fin 2 → Nat :=
  let c2_i32_61 : BitVec 32 := 2#32
  let arg0 : BitVec 32 := BitVec.ofNat 32 (i 0).val
  let c12_i32 : BitVec 32 := 12#32
  let v31 : BitVec 32 := Scalar.addi arg0 c12_i32
  let c2_i32_13 : BitVec 32 := 2#32
  let v32 : BitVec 32 := Scalar.subi v31 c2_i32_13
  let c12_i32_14 : BitVec 32 := 12#32
  let v33 : BitVec 32 := Scalar.remsi v32 c12_i32_14
  ![2, v33.toNat]
def k0_dev2 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v80 : BitVec 32 := Scalar.muli v2 c4_i32_62
  let v81 : BitVec 32 := Scalar.addi c0_i32_63 v80
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_64 : BitVec 32 := 2#32
  let v82 : BitVec 32 := Scalar.muli v11 c2_i32_64
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v84 : BitVec 32 := Scalar.muli v8 c1_i32_65
  let v85 : BitVec 32 := Scalar.addi v83 v84
  v85.toNat
def k0_cond3 (i : grid0.Coords) : BitVec 1 :=
  let arg0 : BitVec 32 := BitVec.ofNat 32 (i 0).val
  let c4_i32_9 : BitVec 32 := 4#32
  let v20 : BitVec 1 := Scalar.cmpi .sge arg0 c4_i32_9
  let c19_i32 : BitVec 32 := 19#32
  let v21 : BitVec 1 := Scalar.cmpi .sle arg0 c19_i32
  let v22 : BitVec 1 := Scalar.andi v20 v21
  let v23 : BitVec 32 := Scalar.extui v22
  let c0_i32_10 : BitVec 32 := 0#32
  let v24 : BitVec 1 := Scalar.cmpi .ne v23 c0_i32_10
  v24

def k0_off11 (i : grid0.Coords) : Fin 2 → Nat :=
  let c1_i32_17 : BitVec 32 := 1#32
  let arg0 : BitVec 32 := BitVec.ofNat 32 (i 0).val
  let c12_i32 : BitVec 32 := 12#32
  let v31 : BitVec 32 := Scalar.addi arg0 c12_i32
  let c4_i32_13 : BitVec 32 := 4#32
  let v32 : BitVec 32 := Scalar.subi v31 c4_i32_13
  let c12_i32_14 : BitVec 32 := 12#32
  let v33 : BitVec 32 := Scalar.remsi v32 c12_i32_14
  ![1, v33.toNat]
def k0_off12 (i : grid0.Coords) : Fin 4 → Nat :=
  let arg0 : BitVec 32 := BitVec.ofNat 32 (i 0).val
  let c12_i32 : BitVec 32 := 12#32
  let v31 : BitVec 32 := Scalar.addi arg0 c12_i32
  let c4_i32_13 : BitVec 32 := 4#32
  let v32 : BitVec 32 := Scalar.subi v31 c4_i32_13
  let c12_i32_14 : BitVec 32 := 12#32
  let v33 : BitVec 32 := Scalar.remsi v32 c12_i32_14
  let c0_i32_16 : BitVec 32 := 0#32
  let c0_i32_20 : BitVec 32 := 0#32
  let c0_i32_21 : BitVec 32 := 0#32
  ![v33.toNat, 0, 0, 0]
def k0_off13 (i : grid0.Coords) : Fin 4 → Nat :=
  let arg0 : BitVec 32 := BitVec.ofNat 32 (i 0).val
  let c12_i32 : BitVec 32 := 12#32
  let v31 : BitVec 32 := Scalar.addi arg0 c12_i32
  let c4_i32_13 : BitVec 32 := 4#32
  let v32 : BitVec 32 := Scalar.subi v31 c4_i32_13
  let c12_i32_14 : BitVec 32 := 12#32
  let v33 : BitVec 32 := Scalar.remsi v32 c12_i32_14
  let c1_i32_15 : BitVec 32 := 1#32
  let c0_i32_22 : BitVec 32 := 0#32
  let c0_i32_23 : BitVec 32 := 0#32
  ![v33.toNat, 1, 0, 0]
def k0_off14 (i : grid0.Coords) : Fin 2 → Nat :=
  let c2_i32_38 : BitVec 32 := 2#32
  let arg0 : BitVec 32 := BitVec.ofNat 32 (i 0).val
  let c12_i32 : BitVec 32 := 12#32
  let v31 : BitVec 32 := Scalar.addi arg0 c12_i32
  let c4_i32_13 : BitVec 32 := 4#32
  let v32 : BitVec 32 := Scalar.subi v31 c4_i32_13
  let c12_i32_14 : BitVec 32 := 12#32
  let v33 : BitVec 32 := Scalar.remsi v32 c12_i32_14
  ![2, v33.toNat]
def k0_off15 (i : grid0.Coords) : Fin 2 → Nat :=
  let c3_i32_57 : BitVec 32 := 3#32
  let arg0 : BitVec 32 := BitVec.ofNat 32 (i 0).val
  let c12_i32 : BitVec 32 := 12#32
  let v31 : BitVec 32 := Scalar.addi arg0 c12_i32
  let c4_i32_13 : BitVec 32 := 4#32
  let v32 : BitVec 32 := Scalar.subi v31 c4_i32_13
  let c12_i32_14 : BitVec 32 := 12#32
  let v33 : BitVec 32 := Scalar.remsi v32 c12_i32_14
  ![3, v33.toNat]
def k0_off16 (i : grid0.Coords) : Fin 4 → Nat :=
  let arg0 : BitVec 32 := BitVec.ofNat 32 (i 0).val
  let c12_i32 : BitVec 32 := 12#32
  let v31 : BitVec 32 := Scalar.addi arg0 c12_i32
  let c4_i32_13 : BitVec 32 := 4#32
  let v32 : BitVec 32 := Scalar.subi v31 c4_i32_13
  let c12_i32_14 : BitVec 32 := 12#32
  let v33 : BitVec 32 := Scalar.remsi v32 c12_i32_14
  let c0_i32_62 : BitVec 32 := 0#32
  let c0_i32_63 : BitVec 32 := 0#32
  let c0_i32_64 : BitVec 32 := 0#32
  ![v33.toNat, 0, 0, 0]
def k0_dev3 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v70 : BitVec 32 := Scalar.muli v2 c4_i32_58
  let v71 : BitVec 32 := Scalar.addi c0_i32_59 v70
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_60 : BitVec 32 := 2#32
  let v72 : BitVec 32 := Scalar.muli v11 c2_i32_60
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v74 : BitVec 32 := Scalar.muli v8 c1_i32_61
  let v75 : BitVec 32 := Scalar.addi v73 v74
  v75.toNat
def k0_off17 (i : grid0.Coords) : Fin 2 → Nat :=
  let c4_i32_69 : BitVec 32 := 4#32
  let arg0 : BitVec 32 := BitVec.ofNat 32 (i 0).val
  let c12_i32 : BitVec 32 := 12#32
  let v31 : BitVec 32 := Scalar.addi arg0 c12_i32
  let c4_i32_13 : BitVec 32 := 4#32
  let v32 : BitVec 32 := Scalar.subi v31 c4_i32_13
  let c12_i32_14 : BitVec 32 := 12#32
  let v33 : BitVec 32 := Scalar.remsi v32 c12_i32_14
  ![4, v33.toNat]
def k0_dev4 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v84 : BitVec 32 := Scalar.muli v2 c4_i32_70
  let v85 : BitVec 32 := Scalar.addi c0_i32_71 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v86 : BitVec 32 := Scalar.muli v5 c2_i32_72
  let v87 : BitVec 32 := Scalar.addi v85 v86
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_73 : BitVec 32 := 1#32
  let v88 : BitVec 32 := Scalar.muli v10 c1_i32_73
  let v89 : BitVec 32 := Scalar.addi v87 v88
  v89.toNat
def k0_cond4 (i : grid0.Coords) : BitVec 1 :=
  let arg0 : BitVec 32 := BitVec.ofNat 32 (i 0).val
  let c6_i32 : BitVec 32 := 6#32
  let v25 : BitVec 1 := Scalar.cmpi .sge arg0 c6_i32
  let v26 : BitVec 32 := Scalar.extui v25
  let c0_i32_11 : BitVec 32 := 0#32
  let v27 : BitVec 1 := Scalar.cmpi .ne v26 c0_i32_11
  v27

def k0_off18 (i : grid0.Coords) : Fin 2 → Nat :=
  let c3_i32 : BitVec 32 := 3#32
  let arg0 : BitVec 32 := BitVec.ofNat 32 (i 0).val
  let c12_i32 : BitVec 32 := 12#32
  let v31 : BitVec 32 := Scalar.addi arg0 c12_i32
  let c6_i32_13 : BitVec 32 := 6#32
  let v32 : BitVec 32 := Scalar.subi v31 c6_i32_13
  let c12_i32_14 : BitVec 32 := 12#32
  let v33 : BitVec 32 := Scalar.remsi v32 c12_i32_14
  ![3, v33.toNat]
def k0_off19 (i : grid0.Coords) : Fin 4 → Nat :=
  let arg0 : BitVec 32 := BitVec.ofNat 32 (i 0).val
  let c12_i32 : BitVec 32 := 12#32
  let v31 : BitVec 32 := Scalar.addi arg0 c12_i32
  let c6_i32_13 : BitVec 32 := 6#32
  let v32 : BitVec 32 := Scalar.subi v31 c6_i32_13
  let c12_i32_14 : BitVec 32 := 12#32
  let v33 : BitVec 32 := Scalar.remsi v32 c12_i32_14
  let c0_i32_19 : BitVec 32 := 0#32
  let c0_i32_20 : BitVec 32 := 0#32
  let c0_i32_21 : BitVec 32 := 0#32
  ![v33.toNat, 0, 0, 0]
def k0_off20 (i : grid0.Coords) : Fin 2 → Nat :=
  let c4_i32_37 : BitVec 32 := 4#32
  let arg0 : BitVec 32 := BitVec.ofNat 32 (i 0).val
  let c12_i32 : BitVec 32 := 12#32
  let v31 : BitVec 32 := Scalar.addi arg0 c12_i32
  let c6_i32_13 : BitVec 32 := 6#32
  let v32 : BitVec 32 := Scalar.subi v31 c6_i32_13
  let c12_i32_14 : BitVec 32 := 12#32
  let v33 : BitVec 32 := Scalar.remsi v32 c12_i32_14
  ![4, v33.toNat]
def k0_off21 (i : grid0.Coords) (d0 : Dev nD) : Fin 3 → Nat :=
  let arg0 : BitVec 32 := BitVec.ofNat 32 (i 0).val
  let c8_i32 : BitVec 32 := 8#32
  let v34 : BitVec 32 := Scalar.addi arg0 c8_i32
  let c6_i32_15 : BitVec 32 := 6#32
  let v35 : BitVec 32 := Scalar.subi v34 c6_i32_15
  let c8_i32_16 : BitVec 32 := 8#32
  let v36 : BitVec 32 := Scalar.remsi v35 c8_i32_16
  let v98 : Index := Scalar.indexCast v36
  let c2_i32_58 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.muli c2_i32_58 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.addi v73 v8
  let c256_i32 : BitVec 32 := 256#32
  let v97 : BitVec 32 := Scalar.muli v74 c256_i32
  let v99 : Index := Scalar.indexCast v97
  let c0 : Index := 0#32
  ![v98.toNat, v99.toNat, 0]
def k0_off22 (i : grid0.Coords) : Fin 4 → Nat :=
  let arg0 : BitVec 32 := BitVec.ofNat 32 (i 0).val
  let c12_i32 : BitVec 32 := 12#32
  let v31 : BitVec 32 := Scalar.addi arg0 c12_i32
  let c6_i32_13 : BitVec 32 := 6#32
  let v32 : BitVec 32 := Scalar.subi v31 c6_i32_13
  let c12_i32_14 : BitVec 32 := 12#32
  let v33 : BitVec 32 := Scalar.remsi v32 c12_i32_14
  let v102 : Index := Scalar.indexCast v33
  let c0_74 : Index := 0#32
  let c0_75 : Index := 0#32
  let c0_76 : Index := 0#32
  ![v102.toNat, 0, 0, 0]
def k0_off23 (d0 : Dev nD) : Fin 2 → Nat :=
  let c2_i32_58 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.muli c2_i32_58 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.addi v73 v8
  let c256_i32 : BitVec 32 := 256#32
  let v97 : BitVec 32 := Scalar.muli v74 c256_i32
  let v106 : Index := Scalar.indexCast v97
  let c0_77 : Index := 0#32
  ![v106.toNat, 0]
def k0_off24 (i : grid0.Coords) (d0 : Dev nD) : Fin 3 → Nat :=
  let arg0 : BitVec 32 := BitVec.ofNat 32 (i 0).val
  let c8_i32 : BitVec 32 := 8#32
  let v34 : BitVec 32 := Scalar.addi arg0 c8_i32
  let c6_i32_15 : BitVec 32 := 6#32
  let v35 : BitVec 32 := Scalar.subi v34 c6_i32_15
  let c8_i32_16 : BitVec 32 := 8#32
  let v36 : BitVec 32 := Scalar.remsi v35 c8_i32_16
  let v109 : Index := Scalar.indexCast v36
  let c2_i32_59 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v75 : BitVec 32 := Scalar.muli c2_i32_59 v5
  let c1_i32_60 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v76 : BitVec 32 := Scalar.subi c1_i32_60 v8
  let v77 : BitVec 32 := Scalar.addi v75 v76
  let c256_i32_78 : BitVec 32 := 256#32
  let v108 : BitVec 32 := Scalar.muli v77 c256_i32_78
  let v110 : Index := Scalar.indexCast v108
  let c0_79 : Index := 0#32
  ![v109.toNat, v110.toNat, 0]
def k0_off25 (i : grid0.Coords) : Fin 4 → Nat :=
  let arg0 : BitVec 32 := BitVec.ofNat 32 (i 0).val
  let c12_i32 : BitVec 32 := 12#32
  let v31 : BitVec 32 := Scalar.addi arg0 c12_i32
  let c6_i32_13 : BitVec 32 := 6#32
  let v32 : BitVec 32 := Scalar.subi v31 c6_i32_13
  let c12_i32_14 : BitVec 32 := 12#32
  let v33 : BitVec 32 := Scalar.remsi v32 c12_i32_14
  let v113 : Index := Scalar.indexCast v33
  let c1 : Index := 1#32
  let c0_80 : Index := 0#32
  let c0_81 : Index := 0#32
  ![v113.toNat, 1, 0, 0]
def k0_off26 (d0 : Dev nD) : Fin 2 → Nat :=
  let c2_i32_59 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v75 : BitVec 32 := Scalar.muli c2_i32_59 v5
  let c1_i32_60 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v76 : BitVec 32 := Scalar.subi c1_i32_60 v8
  let v77 : BitVec 32 := Scalar.addi v75 v76
  let c256_i32_78 : BitVec 32 := 256#32
  let v108 : BitVec 32 := Scalar.muli v77 c256_i32_78
  let v117 : Index := Scalar.indexCast v108
  let c0_82 : Index := 0#32
  ![v117.toNat, 0]
def k0_off27 (i : grid0.Coords) (d0 : Dev nD) : Fin 3 → Nat :=
  let arg0 : BitVec 32 := BitVec.ofNat 32 (i 0).val
  let c8_i32 : BitVec 32 := 8#32
  let v34 : BitVec 32 := Scalar.addi arg0 c8_i32
  let c6_i32_15 : BitVec 32 := 6#32
  let v35 : BitVec 32 := Scalar.subi v34 c6_i32_15
  let c8_i32_16 : BitVec 32 := 8#32
  let v36 : BitVec 32 := Scalar.remsi v35 c8_i32_16
  let v120 : Index := Scalar.indexCast v36
  let c2_i32_62 : BitVec 32 := 2#32
  let c1_i32_61 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_61 v5
  let v79 : BitVec 32 := Scalar.muli c2_i32_62 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v80 : BitVec 32 := Scalar.addi v79 v8
  let c256_i32_83 : BitVec 32 := 256#32
  let v119 : BitVec 32 := Scalar.muli v80 c256_i32_83
  let v121 : Index := Scalar.indexCast v119
  let c0_84 : Index := 0#32
  ![v120.toNat, v121.toNat, 0]
def k0_off28 (d0 : Dev nD) : Fin 2 → Nat :=
  let c2_i32_62 : BitVec 32 := 2#32
  let c1_i32_61 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_61 v5
  let v79 : BitVec 32 := Scalar.muli c2_i32_62 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v80 : BitVec 32 := Scalar.addi v79 v8
  let c256_i32_83 : BitVec 32 := 256#32
  let v119 : BitVec 32 := Scalar.muli v80 c256_i32_83
  let v128 : Index := Scalar.indexCast v119
  let c0_88 : Index := 0#32
  ![v128.toNat, 0]
def k0_off29 (i : grid0.Coords) (d0 : Dev nD) : Fin 3 → Nat :=
  let arg0 : BitVec 32 := BitVec.ofNat 32 (i 0).val
  let c8_i32 : BitVec 32 := 8#32
  let v34 : BitVec 32 := Scalar.addi arg0 c8_i32
  let c6_i32_15 : BitVec 32 := 6#32
  let v35 : BitVec 32 := Scalar.subi v34 c6_i32_15
  let c8_i32_16 : BitVec 32 := 8#32
  let v36 : BitVec 32 := Scalar.remsi v35 c8_i32_16
  let v131 : Index := Scalar.indexCast v36
  let c2_i32_64 : BitVec 32 := 2#32
  let c1_i32_63 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v81 : BitVec 32 := Scalar.subi c1_i32_63 v5
  let v82 : BitVec 32 := Scalar.muli c2_i32_64 v81
  let c1_i32_65 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v83 : BitVec 32 := Scalar.subi c1_i32_65 v8
  let v84 : BitVec 32 := Scalar.addi v82 v83
  let c256_i32_89 : BitVec 32 := 256#32
  let v130 : BitVec 32 := Scalar.muli v84 c256_i32_89
  let v132 : Index := Scalar.indexCast v130
  let c0_90 : Index := 0#32
  ![v131.toNat, v132.toNat, 0]
def k0_off30 (d0 : Dev nD) : Fin 2 → Nat :=
  let c2_i32_64 : BitVec 32 := 2#32
  let c1_i32_63 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v81 : BitVec 32 := Scalar.subi c1_i32_63 v5
  let v82 : BitVec 32 := Scalar.muli c2_i32_64 v81
  let c1_i32_65 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v83 : BitVec 32 := Scalar.subi c1_i32_65 v8
  let v84 : BitVec 32 := Scalar.addi v82 v83
  let c256_i32_89 : BitVec 32 := 256#32
  let v130 : BitVec 32 := Scalar.muli v84 c256_i32_89
  let v139 : Index := Scalar.indexCast v130
  let c0_94 : Index := 0#32
  ![v139.toNat, 0]
def k0_off31 (i : grid0.Coords) (d0 : Dev nD) : Fin 3 → Nat :=
  let arg0 : BitVec 32 := BitVec.ofNat 32 (i 0).val
  let c8_i32 : BitVec 32 := 8#32
  let v34 : BitVec 32 := Scalar.addi arg0 c8_i32
  let c6_i32_15 : BitVec 32 := 6#32
  let v35 : BitVec 32 := Scalar.subi v34 c6_i32_15
  let c8_i32_16 : BitVec 32 := 8#32
  let v36 : BitVec 32 := Scalar.remsi v35 c8_i32_16
  let v142 : Index := Scalar.indexCast v36
  let c2_i32_66 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v85 : BitVec 32 := Scalar.muli c2_i32_66 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v86 : BitVec 32 := Scalar.addi v85 v8
  let c256_i32_95 : BitVec 32 := 256#32
  let v141 : BitVec 32 := Scalar.muli v86 c256_i32_95
  let v143 : Index := Scalar.indexCast v141
  let c256 : Index := 256#32
  ![v142.toNat, v143.toNat, 256]
def k0_off32 (d0 : Dev nD) : Fin 2 → Nat :=
  let c2_i32_66 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v85 : BitVec 32 := Scalar.muli c2_i32_66 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v86 : BitVec 32 := Scalar.addi v85 v8
  let c256_i32_95 : BitVec 32 := 256#32
  let v141 : BitVec 32 := Scalar.muli v86 c256_i32_95
  let v150 : Index := Scalar.indexCast v141
  let c256_99 : Index := 256#32
  ![v150.toNat, 256]
def k0_off33 (i : grid0.Coords) (d0 : Dev nD) : Fin 3 → Nat :=
  let arg0 : BitVec 32 := BitVec.ofNat 32 (i 0).val
  let c8_i32 : BitVec 32 := 8#32
  let v34 : BitVec 32 := Scalar.addi arg0 c8_i32
  let c6_i32_15 : BitVec 32 := 6#32
  let v35 : BitVec 32 := Scalar.subi v34 c6_i32_15
  let c8_i32_16 : BitVec 32 := 8#32
  let v36 : BitVec 32 := Scalar.remsi v35 c8_i32_16
  let v153 : Index := Scalar.indexCast v36
  let c2_i32_68 : BitVec 32 := 2#32
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v87 : BitVec 32 := Scalar.subi c1_i32_67 v5
  let v88 : BitVec 32 := Scalar.muli c2_i32_68 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v89 : BitVec 32 := Scalar.addi v88 v8
  let c256_i32_100 : BitVec 32 := 256#32
  let v152 : BitVec 32 := Scalar.muli v89 c256_i32_100
  let v154 : Index := Scalar.indexCast v152
  let c256_101 : Index := 256#32
  ![v153.toNat, v154.toNat, 256]
def k0_off34 (d0 : Dev nD) : Fin 2 → Nat :=
  let c2_i32_68 : BitVec 32 := 2#32
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v87 : BitVec 32 := Scalar.subi c1_i32_67 v5
  let v88 : BitVec 32 := Scalar.muli c2_i32_68 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v89 : BitVec 32 := Scalar.addi v88 v8
  let c256_i32_100 : BitVec 32 := 256#32
  let v152 : BitVec 32 := Scalar.muli v89 c256_i32_100
  let v161 : Index := Scalar.indexCast v152
  let c256_105 : Index := 256#32
  ![v161.toNat, 256]
def k0_off35 (i : grid0.Coords) (d0 : Dev nD) : Fin 3 → Nat :=
  let arg0 : BitVec 32 := BitVec.ofNat 32 (i 0).val
  let c8_i32 : BitVec 32 := 8#32
  let v34 : BitVec 32 := Scalar.addi arg0 c8_i32
  let c6_i32_15 : BitVec 32 := 6#32
  let v35 : BitVec 32 := Scalar.subi v34 c6_i32_15
  let c8_i32_16 : BitVec 32 := 8#32
  let v36 : BitVec 32 := Scalar.remsi v35 c8_i32_16
  let v164 : Index := Scalar.indexCast v36
  let c2_i32_69 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v90 : BitVec 32 := Scalar.muli c2_i32_69 v5
  let c1_i32_70 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v91 : BitVec 32 := Scalar.subi c1_i32_70 v8
  let v92 : BitVec 32 := Scalar.addi v90 v91
  let c256_i32_106 : BitVec 32 := 256#32
  let v163 : BitVec 32 := Scalar.muli v92 c256_i32_106
  let v165 : Index := Scalar.indexCast v163
  let c256_107 : Index := 256#32
  ![v164.toNat, v165.toNat, 256]
def k0_off36 (d0 : Dev nD) : Fin 2 → Nat :=
  let c2_i32_69 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v90 : BitVec 32 := Scalar.muli c2_i32_69 v5
  let c1_i32_70 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v91 : BitVec 32 := Scalar.subi c1_i32_70 v8
  let v92 : BitVec 32 := Scalar.addi v90 v91
  let c256_i32_106 : BitVec 32 := 256#32
  let v163 : BitVec 32 := Scalar.muli v92 c256_i32_106
  let v172 : Index := Scalar.indexCast v163
  let c256_111 : Index := 256#32
  ![v172.toNat, 256]
def k0_off37 (i : grid0.Coords) (d0 : Dev nD) : Fin 3 → Nat :=
  let arg0 : BitVec 32 := BitVec.ofNat 32 (i 0).val
  let c8_i32 : BitVec 32 := 8#32
  let v34 : BitVec 32 := Scalar.addi arg0 c8_i32
  let c6_i32_15 : BitVec 32 := 6#32
  let v35 : BitVec 32 := Scalar.subi v34 c6_i32_15
  let c8_i32_16 : BitVec 32 := 8#32
  let v36 : BitVec 32 := Scalar.remsi v35 c8_i32_16
  let v175 : Index := Scalar.indexCast v36
  let c2_i32_72 : BitVec 32 := 2#32
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v93 : BitVec 32 := Scalar.subi c1_i32_71 v5
  let v94 : BitVec 32 := Scalar.muli c2_i32_72 v93
  let c1_i32_73 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_73 v8
  let v96 : BitVec 32 := Scalar.addi v94 v95
  let c256_i32_112 : BitVec 32 := 256#32
  let v174 : BitVec 32 := Scalar.muli v96 c256_i32_112
  let v176 : Index := Scalar.indexCast v174
  let c256_113 : Index := 256#32
  ![v175.toNat, v176.toNat, 256]
def k0_off38 (d0 : Dev nD) : Fin 2 → Nat :=
  let c2_i32_72 : BitVec 32 := 2#32
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v93 : BitVec 32 := Scalar.subi c1_i32_71 v5
  let v94 : BitVec 32 := Scalar.muli c2_i32_72 v93
  let c1_i32_73 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_73 v8
  let v96 : BitVec 32 := Scalar.addi v94 v95
  let c256_i32_112 : BitVec 32 := 256#32
  let v174 : BitVec 32 := Scalar.muli v96 c256_i32_112
  let v183 : Index := Scalar.indexCast v174
  let c256_117 : Index := 256#32
  ![v183.toNat, 256]
def k0_cond5 (i : grid0.Coords) : BitVec 1 :=
  let arg0 : BitVec 32 := BitVec.ofNat 32 (i 0).val
  let c16_i32 : BitVec 32 := 16#32
  let v28 : BitVec 1 := Scalar.cmpi .slt arg0 c16_i32
  let v29 : BitVec 32 := Scalar.extui v28
  let c0_i32_12 : BitVec 32 := 0#32
  let v30 : BitVec 1 := Scalar.cmpi .ne v29 c0_i32_12
  v30

def k0_off39 (i : grid0.Coords) : Fin 4 → Nat :=
  let arg0 : BitVec 32 := BitVec.ofNat 32 (i 0).val
  let c12_i32 : BitVec 32 := 12#32
  let v31 : BitVec 32 := Scalar.remsi arg0 c12_i32
  let v39 : Index := Scalar.indexCast v31
  let c0_15 : Index := 0#32
  let c0_16 : Index := 0#32
  let c0_17 : Index := 0#32
  ![v39.toNat, 0, 0, 0]
def k0_off40 (i : grid0.Coords) : Fin 4 → Nat :=
  let arg0 : BitVec 32 := BitVec.ofNat 32 (i 0).val
  let c12_i32 : BitVec 32 := 12#32
  let v31 : BitVec 32 := Scalar.remsi arg0 c12_i32
  let v45 : Index := Scalar.indexCast v31
  let c1 : Index := 1#32
  let c0_18 : Index := 0#32
  let c0_19 : Index := 0#32
  ![v45.toNat, 1, 0, 0]
def k0_off41 (i : grid0.Coords) : Fin 2 → Nat :=
  let c0_i32_21 : BitVec 32 := 0#32
  let arg0 : BitVec 32 := BitVec.ofNat 32 (i 0).val
  let c12_i32 : BitVec 32 := 12#32
  let v31 : BitVec 32 := Scalar.remsi arg0 c12_i32
  ![0, v31.toNat]
def k0_off42 (i : grid0.Coords) : Fin 4 → Nat :=
  let arg0 : BitVec 32 := BitVec.ofNat 32 (i 0).val
  let c12_i32 : BitVec 32 := 12#32
  let v31 : BitVec 32 := Scalar.remsi arg0 c12_i32
  let c0_i32_26 : BitVec 32 := 0#32
  let c0_i32_27 : BitVec 32 := 0#32
  let c0_i32_28 : BitVec 32 := 0#32
  ![v31.toNat, 0, 0, 0]
def k0_dev5 (d0 : Dev nD) : Nat :=
  let c0_i32_23 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_22 : BitVec 32 := 4#32
  let v49 : BitVec 32 := Scalar.muli v9 c4_i32_22
  let v50 : BitVec 32 := Scalar.addi c0_i32_23 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v51 : BitVec 32 := Scalar.muli v5 c2_i32_24
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v53 : BitVec 32 := Scalar.muli v8 c1_i32_25
  let v54 : BitVec 32 := Scalar.addi v52 v53
  v54.toNat
def k0_off43 (i : grid0.Coords) : Fin 3 → Nat :=
  let arg0 : BitVec 32 := BitVec.ofNat 32 (i 0).val
  let c8_i32 : BitVec 32 := 8#32
  let v32 : BitVec 32 := Scalar.remsi arg0 c8_i32
  let v66 : Index := Scalar.indexCast v32
  let c0_35 : Index := 0#32
  let c0_36 : Index := 0#32
  ![v66.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x4096, .bf16⟩
  | .hbm, ⟨3, _⟩ => ⟨S2048x8192, .f32⟩
  | .hbm, ⟨4, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Pieces.lean ====
/-
# Pieces of the slot buffers

Every exchange buffer of the kernel is an array of twelve slots, each of two 256 × 256 halves. What the devices
pass to one another is a half or a whole slot. This file fixes the half of a slot as the unit of ownership and
states the kernel's accesses (loads, stores, the landing of a copy) at that unit.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one rounds algebra for the pipeline's cells, one for the exchange's. -/
abbrev UU : Type := UR sig nD τ × UR sig nD τ

local notation "𝕄" => MT nD τ sig ℕ (Elt F) ℕ UU ℕ

abbrev EP : Emb (UR sig nD τ) (MT nD τ sig ℕ (Elt F) ℕ UU ℕ) := embL
abbrev ER : Emb (UR sig nD τ) (MT nD τ sig ℕ (Elt F) ℕ UU ℕ) := embR

abbrev 𝒱₀ : Variants := Variants.none

/-- The type of the six exchange buffers. -/
abbrev Buf4 : Type := Memref sig .tc .vmem S12x2x256x256 .bf16

/-- A half of a slot, as it is loaded and stored. -/
abbrev Half (F : FTy → Type) : Type := S1x1x256x256.Idx → Elt F .bf16

theorem half_inb (s : Fin 12) (h : Fin 2) : ∀ a, (![s.val, h.val, 0, 0] : Fin 4 → ℕ) a + S1x1x256x256.size a ≤ S12x2x256x256.size a := by
  revert s h; decide

theorem slot_inb (s : Fin 12) : ∀ a, (![s.val, 0, 0, 0] : Fin 4 → ℕ) a + S1x2x256x256.size a ≤ S12x2x256x256.size a := by
  revert s; decide

/-- The rectangle of half `h` of slot `s`. -/
abbrev halfR (s : Fin 12) (h : Fin 2) : Rect S12x2x256x256 :=
  Rect.unit (s := S12x2x256x256) ![s.val, h.val, 0, 0] S1x1x256x256.size (half_inb s h)

/-- The rectangle of slot `s`. -/
abbrev slotR (s : Fin 12) : Rect S12x2x256x256 :=
  Rect.unit (s := S12x2x256x256) ![s.val, 0, 0, 0] S1x2x256x256.size (slot_inb s)

/-- Device `c` owns half `h` of slot `s` of the buffer `M`, holding `X`. -/
def pc (c : Dev nD) (M : Buf4) (s : Fin 12) (h : Fin 2) (X : Half F) : sProp 𝕄 :=
  owns (c : Thread nD τ) (M.slice (halfR s h) (fun _ => rfl)) fullShare X

omit [FloatOps F] in
instance pc_storable (c : Dev nD) (M : Buf4) (s : Fin 12) (h : Fin 2) (X : Half F) : BI.Storable (upEmb : UEmb _ 𝕄) (pc c M s h X) := by
  unfold pc; infer_instance

/-- Device `c` owns that half, whatever it holds. -/
def fr (c : Dev nD) (M : Buf4) (s : Fin 12) (h : Fin 2) : sProp 𝕄 := iprop(∃ X : Half F, pc c M s h X)

omit [FloatOps F] in
instance fr_storable (c : Dev nD) (M : Buf4) (s : Fin 12) (h : Fin 2) : BI.Storable (upEmb : UEmb _ 𝕄) (fr (F := F) c M s h) := by
  unfold fr; infer_instance

section Accesses

variable (c : Dev nD) (M : Buf4)

/-- A load of a half of a slot gives what the half holds. -/
theorem wp_load_pc {off : Fin 4 → ℕ} {inb} (s : Fin 12) (h : Fin 2) (hoff : off = ![s.val, h.val, 0, 0]) (X : Half F)
    {hl : M.view.LoadsAt (Rect.unit (s := S12x2x256x256) off S1x1x256x256.size inb).toLoadRect} {α : Type} {Q : α → sProp 𝕄}
    {k : (S1x1x256x256.Idx → Elt F .bf16) → Prog (TpuEff nD τ sig (Elt F) Λ₀ .tc) α} :
    pc c M s h X
      ⊢ iprop((pc c M s h X -∗ wp frame (wpE (defs₀ (F := F)) 𝒱₀ (c : Thread nD τ) none) Set.univ (k X) Q)
          -∗ wp frame (wpE (defs₀ (F := F)) 𝒱₀ (c : Thread nD τ) none) Set.univ
              (.op (.load M (Rect.unit (s := S12x2x256x256) off S1x1x256x256.size inb).toLoadRect hl) k) Q) := by
  subst hoff
  unfold pc owns
  iintro ⟨%f, %hf, H⟩ Hk
  iapply (wp_load_rect 𝒱₀ (c : Thread nD τ) none Set.univ (m := M) (r := halfR s h) (f := f) (S := (M.view.slice (halfR s h)).set) subset_rfl) $$ H
  iintro H
  rw [show (M.access (halfR s h)).read (Elt F) f = X from hf]
  iapply Hk
  iexists f
  isplitr; · ipureintro; exact hf
  iexact H

/-- A store of a half of a slot: the half holds what is stored. -/
theorem wp_store_pc {off : Fin 4 → ℕ} {inb} (s : Fin 12) (h : Fin 2) (hoff : off = ![s.val, h.val, 0, 0]) (X w : Half F)
    {hx : (M.access (Rect.unit (s := S12x2x256x256) off S1x1x256x256.size inb)).Stores Finset.univ} {hm} {α : Type} {Q : α → sProp 𝕄}
    {k : PUnit → Prog (TpuEff nD τ sig (Elt F) Λ₀ .tc) α} :
    pc c M s h X
      ⊢ iprop((pc c M s h w -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := S12x2x256x256) off S1x1x256x256.size inb) w Finset.univ hx hm) k) Q) := by
  subst hoff
  unfold pc owns
  iintro ⟨%f, %hf, H⟩ Hk
  iapply (wp_store 𝒱₀ (c : Thread nD τ) none Set.univ (m := M) (r := halfR s h) (Mk := Finset.univ) (f := f) (S := (M.view.slice (halfR s h)).set)
    (by exact subset_rfl)) $$ H
  iintro H
  iapply Hk
  iexists _
  isplitr
  · ipureintro; exact View.read_write_univ (v := M.view.slice (halfR s h)) f w
  iexact H

end Accesses

/-! ## Landing a half -/

section Landing

variable (c : Dev nD)

/-- A half of a slot seen as a 256 × 256 array: the memref a copy of a half goes through. -/
abbrev halfM (M : Buf4) (s : Fin 12) (h : Fin 2) : Memref sig .tc .vmem S256x256 .bf16 :=
  (M.slice (halfR s h) (fun _ => rfl)).squeeze S256x256 squeezes_S1x1x256x256_S256x256

/-- A slot seen as a 2 × 256 × 256 array: the memref a copy of a slot goes through. -/
abbrev slotM (M : Buf4) (s : Fin 12) : Memref sig .tc .vmem S2x256x256 .bf16 :=
  (M.slice (slotR s) (fun _ => rfl)).squeeze S2x256x256 squeezes_S1x2x256x256_S2x256x256

omit [FloatOps F] in
theorem halfM_set (M : Buf4) (s : Fin 12) (h : Fin 2) : (halfM M s h).view.set = (M.view.slice (halfR s h)).set := View.set_reshape _ _

omit [FloatOps F] in
theorem halfM_read (M : Buf4) (s : Fin 12) (h : Fin 2) (f : M.view.ty.Contents (Elt F)) (i : S1x1x256x256.Idx) :
    (M.view.slice (halfR s h)).read (Elt F) f i
      = (halfM M s h).view.read (Elt F) f ((Shape.reshapeEquiv squeezes_S1x1x256x256_S256x256.numel_eq).symm i) := by
  show (M.view.slice (halfR s h)).read (Elt F) f i
    = (M.view.slice (halfR s h)).read (Elt F) f (Shape.reshapeEquiv squeezes_S1x1x256x256_S256x256.numel_eq ((Shape.reshapeEquiv squeezes_S1x1x256x256_S256x256.numel_eq).symm i))
  rw [Equiv.apply_symm_apply]

omit [FloatOps F] in
/-- Owning a half through its slice is owning the buffer's elements there, with contents that read so. -/
theorem pc_out (M : Buf4) (s : Fin 12) (h : Fin 2) (X : Half F) :
    (pc c M s h X : sProp 𝕄) ⊢ iprop(∃ f, ⌜(M.view.slice (halfR s h)).read (Elt F) f = X⌝
      ∗ ((halfM M s h).view.loc (c : Thread nD τ) ↦[(halfM M s h).view.set]{fullShare} f)) := by
  rw [halfM_set]; exact BI.Entails.refl _

omit [FloatOps F] in
theorem pc_in (M : Buf4) (s : Fin 12) (h : Fin 2) (f : M.view.ty.Contents (Elt F)) :
    ((halfM M s h).view.loc (c : Thread nD τ) ↦[(halfM M s h).view.set]{fullShare} f : sProp 𝕄)
      ⊢ pc c M s h ((M.view.slice (halfR s h)).read (Elt F) f) := by
  rw [halfM_set]; unfold pc owns
  iintro H; iexists f
  isplitr; · ipureintro; rfl
  iexact H

omit [FloatOps F] in
/-- What a half holds once a half has been copied into it. -/
theorem half_landed (M M' : Buf4) (s : Fin 12) (h h' : Fin 2) (fs : M.view.ty.Contents (Elt F)) (fd : M'.view.ty.Contents (Elt F)) :
    (M'.view.slice (halfR s h')).read (Elt F) ((halfM M' s h').view.write (Elt F) fd ((halfM M s h).view.read (Elt F) fs) Finset.univ)
      = (M.view.slice (halfR s h)).read (Elt F) fs := by
  funext i
  rw [halfM_read, View.read_write_univ, halfM_read]

/-! ## Landing a slot -/

omit [FloatOps F] in
theorem slotR_set (s : Fin 12) : (slotR s).set = (halfR s 0).set ∪ (halfR s 1).set := by
  ext i
  rw [Finset.mem_union]
  erw [Rect.mem_set_unit, Rect.mem_set_unit, Rect.mem_set_unit]
  constructor
  · intro H
    have h1 := H 1
    by_cases hi : (i 1).val = 0
    · left; intro a
      have ha := H a
      fin_cases a <;> simp_all [Fin.forall_fin_succ]
    · right; intro a
      have ha := H a
      fin_cases a <;> simp_all [Fin.forall_fin_succ] <;> omega
  · rintro (H | H) <;> intro a <;> have ha := H a <;> fin_cases a <;> simp_all [Fin.forall_fin_succ] <;> omega

omit [FloatOps F] in
theorem halfR_disjoint (s s' : Fin 12) (h h' : Fin 2) (hne : (s, h) ≠ (s', h')) : Disjoint (halfR s h).set (halfR s' h').set := by
  rw [Finset.disjoint_left]
  intro i H H'
  erw [Rect.mem_set_unit] at H H'
  have h0 := H 0; have h1 := H 1; have h0' := H' 0; have h1' := H' 1
  simp at h0 h1 h0' h1'
  have e0 : s = s' := Fin.ext (by omega)
  have e1 : h = h' := Fin.ext (by omega)
  exact hne (by rw [e0, e1])

/-- The elements of a half of a slot in the buffer under `M`. -/
abbrev hset (M : Buf4) (s : Fin 12) (h : Fin 2) : Finset (Idx (M.view.loc (c : Thread nD τ))) := (M.view.slice (halfR s h)).set

omit [FloatOps F] in
theorem hset_disjoint (M : Buf4) (s s' : Fin 12) (h h' : Fin 2) (hne : (s, h) ≠ (s', h')) : Disjoint (hset c M s h) (hset c M s' h') := by
  unfold hset
  rw [View.set_slice, View.set_slice]
  exact (Finset.disjoint_map _).mpr (halfR_disjoint s s' h h' hne)

omit [FloatOps F] in
theorem halves_disjoint (M : Buf4) (s : Fin 12) : Disjoint (hset c M s 0) (hset c M s 1) :=
  hset_disjoint c M s s 0 1 fun h => by cases congrArg Prod.snd h

omit [FloatOps F] in
theorem slotM_set (M : Buf4) (s : Fin 12) : (slotM M s).view.set = hset c M s 0 ∪ hset c M s 1 := by
  unfold hset
  rw [View.set_slice, View.set_slice, ← Finset.map_union, ← slotR_set, ← View.set_slice]
  exact View.set_reshape _ _

omit [FloatOps F] in
/-- An element of a half is an element of the slot, at the same place in every buffer. -/
theorem slot_at (s : Fin 12) (h : Fin 2) (i : S1x1x256x256.Idx) : ∃ k : S2x256x256.Idx, ∀ (M : Buf4) (f : M.view.ty.Contents (Elt F)),
    (M.view.slice (halfR s h)).read (Elt F) f i = (slotM M s).view.read (Elt F) f k := by
  have hm : (halfR s h).emb i ∈ (slotR s).set := by
    rw [slotR_set, Finset.mem_union]
    have : (halfR s h).emb i ∈ (halfR s h).set := (halfR s h).toLoadRect.mem_set.mpr fun a => ⟨i a, (i a).isLt, rfl⟩
    fin_cases h
    · exact .inl this
    · exact .inr this
  rw [← Rect.map_emb_univ, Finset.mem_map] at hm
  obtain ⟨j, -, hj⟩ := hm
  refine ⟨(Shape.reshapeEquiv squeezes_S1x2x256x256_S2x256x256.numel_eq).symm j, fun M f => ?_⟩
  show M.view.read (Elt F) f ((halfR s h).emb i)
    = M.view.read (Elt F) f ((slotR s).emb (Shape.reshapeEquiv squeezes_S1x2x256x256_S2x256x256.numel_eq ((Shape.reshapeEquiv squeezes_S1x2x256x256_S2x256x256.numel_eq).symm j)))
  rw [Equiv.apply_symm_apply, hj]

omit [FloatOps F] in
/-- What a half holds once the slot around it has been copied into. -/
theorem slot_landed (M M' : Buf4) (s : Fin 12) (h : Fin 2) (fs : M.view.ty.Contents (Elt F)) (fd : M'.view.ty.Contents (Elt F)) :
    (M'.view.slice (halfR s h)).read (Elt F) ((slotM M' s).view.write (Elt F) fd ((slotM M s).view.read (Elt F) fs) Finset.univ)
      = (M.view.slice (halfR s h)).read (Elt F) fs := by
  funext i
  obtain ⟨k, hk⟩ := slot_at (F := F) s h i
  rw [hk, View.read_write_univ, hk]

omit [FloatOps F] in
/-- Elements of a buffer in two disjoint sets, held at two contents, are the elements of the union at one. -/
theorem join_any {ℓ : Loc nD τ sig} {I J : Finset (Idx ℓ)} (h : Disjoint I J) (f g : Buf (Elt F) ℓ) :
    (iprop((ℓ ↦[I]{fullShare} f) ∗ (ℓ ↦[J]{fullShare} g)) : sProp 𝕄)
      ⊢ iprop(∃ k, ⌜(∀ i ∈ I, k i = f i) ∧ ∀ i ∈ J, k i = g i⌝ ∗ (ℓ ↦[I ∪ J]{fullShare} k)) := by
  iintro H
  iexists (J.piecewise g f)
  isplitr
  · ipureintro
    exact ⟨fun i hi => Finset.piecewise_eq_of_notMem _ _ _ (Finset.disjoint_left.mp h hi), fun i hi => Finset.piecewise_eq_of_mem _ _ _ hi⟩
  iapply (pointsTo_join h)
  iexact H

omit [FloatOps F] in
/-- The two halves of a slot are the slot. -/
theorem slot_out (M : Buf4) (s : Fin 12) (X Y : Half F) :
    (iprop(pc c M s 0 X ∗ pc c M s 1 Y) : sProp 𝕄) ⊢ iprop(∃ f, ⌜(M.view.slice (halfR s 0)).read (Elt F) f = X ∧ (M.view.slice (halfR s 1)).read (Elt F) f = Y⌝
      ∗ ((slotM M s).view.loc (c : Thread nD τ) ↦[(slotM M s).view.set]{fullShare} f)) := by
  have hj := fun f g => join_any (F := F) (halves_disjoint c M s) f g
  rw [← slotM_set c] at hj
  unfold pc owns
  iintro ⟨⟨%f, %hf, H⟩, ⟨%g, %hg, H'⟩⟩
  ihave H := (hj f g) $$ [H H']
  · isplitl [H]; · iexact H
    iexact H'
  icases H with ⟨%k, %hk, H⟩
  iexists k
  isplitr
  · ipureintro
    refine ⟨?_, ?_⟩
    · rw [← hf]; exact funext fun i => congrArg (cast (congrArg (Elt F) (M.view.slice (halfR s 0)).elt_eq)) (hk.1 _ ((M.view.slice (halfR s 0)).emb_mem_set i))
    · rw [← hg]; exact funext fun i => congrArg (cast (congrArg (Elt F) (M.view.slice (halfR s 1)).elt_eq)) (hk.2 _ ((M.view.slice (halfR s 1)).emb_mem_set i))
  iexact H

omit [FloatOps F] in
theorem slot_in (M : Buf4) (s : Fin 12) (f : M.view.ty.Contents (Elt F)) :
    ((slotM M s).view.loc (c : Thread nD τ) ↦[(slotM M s).view.set]{fullShare} f : sProp 𝕄)
      ⊢ iprop(pc c M s 0 ((M.view.slice (halfR s 0)).read (Elt F) f) ∗ pc c M s 1 ((M.view.slice (halfR s 1)).read (Elt F) f)) := by
  unfold pc owns
  rw [slotM_set c]
  iintro H
  ihave H' := (pointsTo_union (halves_disjoint c M s)).1 $$ H
  icases H' with ⟨H, H'⟩
  isplitl [H]
  · iexists f; isplitr; · ipureintro; rfl
    iexact H
  · iexists f; isplitr; · ipureintro; rfl
    iexact H'

/-! ## The whole buffer -/

omit [FloatOps F] in
theorem halfR_cover (i : S12x2x256x256.Idx) : ∃ p : Fin 12 × Fin 2, i ∈ (halfR p.1 p.2).set := by
  refine ⟨(⟨(i 0).val, (i 0).isLt⟩, ⟨(i 1).val, (i 1).isLt⟩), ?_⟩
  erw [Rect.mem_set_unit]
  intro a
  have ha := (i a).isLt
  fin_cases a <;> simp_all

omit [FloatOps F] in
theorem hset_union (b : Ref sig .tc) (M : Buf4) (hw : M.view.set = Finset.univ) :
    (Finset.univ : Finset (Fin 12 × Fin 2)).biUnion (fun p => hset c M p.1 p.2) = Finset.univ := by
  refine Finset.eq_univ_of_forall fun x => ?_
  have hx : x ∈ M.view.set := by rw [hw]; exact Finset.mem_univ _
  obtain ⟨i, -, rfl⟩ := Finset.mem_map.mp hx
  obtain ⟨p, hp⟩ := halfR_cover i
  refine Finset.mem_biUnion.mpr ⟨p, Finset.mem_univ _, ?_⟩
  unfold hset
  rw [View.set_slice]
  exact Finset.mem_map_of_mem _ hp

omit [FloatOps F] in
/-- A whole buffer is its twenty-four halves. -/
theorem buf_out (M : Buf4) (hw : M.view.set = Finset.univ) (f : Buf (Elt F) (M.view.loc (c : Thread nD τ))) :
    (M.view.loc (c : Thread nD τ) ↦{fullShare} f : sProp 𝕄) ⊢ bigSep Finset.univ fun p : Fin 12 × Fin 2 => fr c M p.1 p.2 := by
  rw [← hset_union c cc0_scratch0 M hw, pointsTo_biUnion Finset.univ (fun p : Fin 12 × Fin 2 => hset c M p.1 p.2)
    (fun p _ p' _ hne => hset_disjoint c M p.1 p'.1 p.2 p'.2 hne)]
  have hp : ∀ p : Fin 12 × Fin 2, (M.view.loc (c : Thread nD τ) ↦[hset c M p.1 p.2]{fullShare} f : sProp 𝕄) ⊢ fr c M p.1 p.2 := fun p => by
    unfold fr pc owns
    iintro H
    iexists _, f
    isplitr; · ipureintro; rfl
    iexact H
  exact bigSep_mono fun p _ => hp p

omit [FloatOps F] in
theorem buf_in (M : Buf4) (hw : M.view.set = Finset.univ) (f₀ : Buf (Elt F) (M.view.loc (c : Thread nD τ))) :
    (bigSep Finset.univ fun p : Fin 12 × Fin 2 => fr c M p.1 p.2 : sProp 𝕄) ⊢ iprop(∃ f, M.view.loc (c : Thread nD τ) ↦{fullShare} f) := by
  have hp : ∀ p : Fin 12 × Fin 2, (fr c M p.1 p.2 : sProp 𝕄) ⊢ iprop(∃ f, M.view.loc (c : Thread nD τ) ↦[hset c M p.1 p.2]{fullShare} f) := fun p => by
    unfold fr pc owns
    iintro ⟨%X, %f, -, H⟩
    iexists f
    iexact H
  have : Nonempty (Buf (Elt F) (M.view.loc (c : Thread nD τ))) := ⟨f₀⟩
  refine (bigSep_mono fun p _ => hp p).trans ?_
  have h1 := BI.bigSep_exists_pi (M := 𝕄) (Finset.univ : Finset (Fin 12 × Fin 2)) (fun p f => (M.view.loc (c : Thread nD τ) ↦[hset c M p.1 p.2]{fullShare} f : sProp 𝕄))
  refine h1.trans ?_
  iintro ⟨%fs, H⟩
  ihave H := (pointsTo_biUnion_join (Finset.univ : Finset (Fin 12 × Fin 2)) (fun p => hset c M p.1 p.2) fs f₀
    (fun p _ p' _ hne => hset_disjoint c M p.1 p'.1 p.2 p'.2 hne)) $$ H
  icases H with ⟨%g, -, H⟩
  rw [hset_union c cc0_scratch0 M hw]
  iexists g
  iexact H

end Landing

/-! ## Sending -/

section Send

variable (c c' : Dev nD)

/-- A write update is monotone in what it yields. -/
theorem writeUpdate_mono {c : Thread nD τ} {sp : Space} {s : Shape} {e : EltTy} {v : View sig c.2.kind sp s e} {w : s.Idx → Elt F e} {R R' : sProp 𝕄}
    (h : R ⊢ R') : (writeUpdate c v w R : sProp 𝕄) ⊢ writeUpdate c v w R' := by
  rw [writeUpdate, writeUpdateFrom_def, writeUpdate, writeUpdateFrom_def]
  iintro ⟨%A, HA, HS, HR⟩
  iexists A
  isplitl [HA]; · iexact HA
  isplitl [HS]; · iexact HS
  iintro HA
  iapply h
  iapply HR
  iexact HA

/-- Room at `c'` for a half: the half itself, whatever it holds, allows the write of a copy into it, which then
    holds what the source held. -/
theorem fr_room_half (M M' : Buf4) (s : Fin 12) (h h' : Fin 2) (X : Half F) (fs : M.view.ty.Contents (Elt F))
    (hX : (M.view.slice (halfR s h)).read (Elt F) fs = X) :
    (fr c' M' s h' : sProp 𝕄) ⊢ writeUpdate (c' : Thread nD τ) (halfM M' s h').view ((halfM M s h).view.read (Elt F) fs) (pc c' M' s h' X) := by
  unfold fr
  iintro ⟨%Y, H⟩
  ihave H := (pc_out c' M' s h' Y) $$ H
  icases H with ⟨%f, -, H⟩
  ihave H := (pointsTo_writeUpdate (c' : Thread nD τ) (v := (halfM M' s h').view) (w := (halfM M s h).view.read (Elt F) fs) subset_rfl) $$ H
  have hr : (((halfM M' s h').view.loc (c' : Thread nD τ) ↦[(halfM M' s h').view.set]{fullShare} ((halfM M' s h').view.write (Elt F) f ((halfM M s h).view.read (Elt F) fs) Finset.univ)) : sProp 𝕄)
      ⊢ pc c' M' s h' X := (pc_in c' M' s h' _).trans (Entails.of_eq (by rw [half_landed, hX]))
  iapply (writeUpdate_mono hr)
  iexact H

/-- The same of a whole slot. -/
theorem fr_room_slot (M M' : Buf4) (s : Fin 12) (X Y : Half F) (fs : M.view.ty.Contents (Elt F))
    (hX : (M.view.slice (halfR s 0)).read (Elt F) fs = X) (hY : (M.view.slice (halfR s 1)).read (Elt F) fs = Y) :
    (iprop(fr c' M' s 0 ∗ fr c' M' s 1) : sProp 𝕄)
      ⊢ writeUpdate (c' : Thread nD τ) (slotM M' s).view ((slotM M s).view.read (Elt F) fs) iprop(pc c' M' s 0 X ∗ pc c' M' s 1 Y) := by
  unfold fr
  iintro ⟨⟨%Z, H⟩, ⟨%Z', H'⟩⟩
  ihave H := (slot_out c' M' s Z Z') $$ [H H']
  · isplitl [H]; · iexact H
    iexact H'
  icases H with ⟨%f, -, H⟩
  ihave H := (pointsTo_writeUpdate (c' : Thread nD τ) (v := (slotM M' s).view) (w := (slotM M s).view.read (Elt F) fs) subset_rfl) $$ H
  have hr : (((slotM M' s).view.loc (c' : Thread nD τ) ↦[(slotM M' s).view.set]{fullShare} ((slotM M' s).view.write (Elt F) f ((slotM M s).view.read (Elt F) fs) Finset.univ)) : sProp 𝕄)
      ⊢ iprop(pc c' M' s 0 X ∗ pc c' M' s 1 Y) := (slot_in c' M' s _).trans (Entails.of_eq (by rw [slot_landed, slot_landed, hX, hY]))
  iapply (writeUpdate_mono hr)
  iexact H

/-- The credit of a copy of a half, and of a slot: the same for every buffer. -/
def NH : ℕ := (halfM (Memref.whole cc0_scratch2) 0 0).view.dmaCredit
def NS : ℕ := (slotM (Memref.whole cc0_scratch2) 0).view.dmaCredit

theorem NH_pos : 0 < NH := View.dmaCredit_pos _ (by decide)
theorem NS_pos : 0 < NS := View.dmaCredit_pos _ (by decide)

theorem NH_eq (v : View sig .tc .vmem S256x256 .bf16) : v.dmaCredit = NH := rfl
theorem NS_eq (v : View sig .tc .vmem S2x256x256 .bf16) : v.dmaCredit = NS := rfl

/-- Sending a half of a slot of `M` into a half of the same slot of `M'` on `c'`. -/
theorem wp_send_half (Rd : Rounds.Schedule (GSem nD τ sig) Unit 𝕄) (n : Dev nD) (hn : n = c') (M M' : Buf4) (s : Fin 12) (h h' : Fin 2) {offS offD : Fin 4 → ℕ} {inbS inbD}
    (hS : offS = ![s.val, h.val, 0, 0]) (hD : offD = ![s.val, h'.val, 0, 0]) {sS sR : DmaSem sig} (X : Half F) (Rt R : sProp 𝕄) (r : ℕ) (κ₁ κ₂ : ℕ)
    (hd₁ : () ∈ Rd.duties ((c : Thread nD τ), .dma sS) r) (hd₂ : () ∈ Rd.duties ((c' : Thread nD τ), .dma sR) r) (ι : ℕ)
    (hk₁ : Rd.amount ((c : Thread nD τ), .dma sS) r () = NH) (hk₂ : Rd.amount ((c' : Thread nD τ), .dma sR) r () = NH)
    {O₀ : CellTallies nD τ sig ℕ} (O : CellTallies nD τ sig ℕ) (hO : O₀ = O + tallyAt ((c' : Thread nD τ), .dma sR) ι NH) {W : Waits sig ℕ}
    (hpay₁ : pc c M s h X ⊢ Rd.payload ((c : Thread nD τ), .dma sS) r ()) (hpay₂ : R ⊢ Rd.payload ((c' : Thread nD τ), .dma sR) r ())
    (hroom : ∀ fs : M.view.ty.Contents (Elt F), (M.view.slice (halfR s h)).read (Elt F) fs = X
      → Rt ⊢ writeUpdate (c' : Thread nD τ) (halfM M' s h').view ((halfM M s h).view.read (Elt F) fs) R)
    {hsc hsrc hdst hsem} {α : Type} {Q : α → sProp 𝕄} {k : PUnit → Prog (TpuEff nD τ sig (Elt F) Λ₀ .tc) α} :
    iprop(cellInv (ER (F := F)) Rd κ₁ ((c : Thread nD τ), .dma sS) ∗ cellInv (ER (F := F)) Rd κ₂ ((c' : Thread nD τ), .dma sR)
        ∗ pc c M s h X ∗ Rt ∗ owes (c : Thread nD τ) O₀ W
        ∗ dutyTok (ER (F := F)) ((c : Thread nD τ), .dma sS) r () ∗ reached (ER (F := F)) ((c : Thread nD τ), .dma sS) r
        ∗ dutyTok (ER (F := F)) ((c' : Thread nD τ), .dma sR) r () ∗ reached (ER (F := F)) ((c' : Thread nD τ), .dma sR) r)
      ⊢ iprop(((cred (tallyAt ((c : Thread nD τ), .dma sS) ι NH) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := S12x2x256x256) offS S1x1x256x256.size inbS) (fun _ => rfl)).squeeze S256x256 squeezes_S1x1x256x256_S256x256)
                (.remote (Dev.tc n : Thread nD τ) ((M'.slice (Rect.unit (s := S12x2x256x256) offD S1x1x256x256.size inbD) (fun _ => rfl)).squeeze S256x256 squeezes_S1x1x256x256_S256x256) (.dma sS) hsc)
                (.dma sR) hsrc hdst hsem) k) Q) := by
  subst hn; subst hS; subst hD
  iintro ⟨#Hi₁, #Hi₂, Hp, Hrt, HO, Ht₁, Hr₁, Ht₂, Hr₂⟩ Hk
  ihave Hp := (pc_out c M s h X) $$ Hp
  icases Hp with ⟨%fs, %hfs, Hp⟩
  ihave Hrt := (hroom fs hfs) $$ Hrt
  iapply (Rounds.wp_send 𝒱₀ ER Rd (c : Thread nD τ) none (c' := (n : Thread nD τ)) (src := halfM M s h) (dst := halfM M' s h') (κ₁ := κ₁) (κ₂ := κ₂)
    (r₁ := r) (r₂ := r) (d₁ := ()) (d₂ := ()) (fs := fs) (R := R) hd₁ hd₂ ι ι NH (NH_eq (halfM M' s h').view) hk₁ hk₂ O hO (W := W)
    (((pc_in c M s h fs).trans (Entails.of_eq (by rw [hfs]))).trans hpay₁) hpay₂) $$ [Hp Hrt HO Ht₁ Hr₁ Ht₂ Hr₂]
  · isplitr; · iexact Hi₁
    isplitr; · iexact Hi₂
    isplitl [Hp]; · iexact Hp
    isplitl [Hrt]; · iexact Hrt
    isplitl [HO]; · iexact HO
    isplitl [Ht₁]; · iexact Ht₁
    isplitl [Hr₁]; · iexact Hr₁
    isplitl [Ht₂]; · iexact Ht₂
    iexact Hr₂
  iexact Hk

/-- Sending a slot of `M` into the same slot of `M'` on `c'`. -/
theorem wp_send_slot (Rd : Rounds.Schedule (GSem nD τ sig) Unit 𝕄) (n : Dev nD) (hn : n = c') (M M' : Buf4) (s : Fin 12) {off : Fin 4 → ℕ} {inbS inbD}
    (hS : off = ![s.val, 0, 0, 0]) {sS sR : DmaSem sig} (X Y : Half F) (Rt R : sProp 𝕄) (r : ℕ) (κ₁ κ₂ : ℕ)
    (hd₁ : () ∈ Rd.duties ((c : Thread nD τ), .dma sS) r) (hd₂ : () ∈ Rd.duties ((c' : Thread nD τ), .dma sR) r) (ι : ℕ)
    (hk₁ : Rd.amount ((c : Thread nD τ), .dma sS) r () = NS) (hk₂ : Rd.amount ((c' : Thread nD τ), .dma sR) r () = NS)
    {O₀ : CellTallies nD τ sig ℕ} (O : CellTallies nD τ sig ℕ) (hO : O₀ = O + tallyAt ((c' : Thread nD τ), .dma sR) ι NS) {W : Waits sig ℕ}
    (hpay₁ : iprop(pc c M s 0 X ∗ pc c M s 1 Y) ⊢ Rd.payload ((c : Thread nD τ), .dma sS) r ()) (hpay₂ : R ⊢ Rd.payload ((c' : Thread nD τ), .dma sR) r ())
    (hroom : ∀ fs : M.view.ty.Contents (Elt F), (M.view.slice (halfR s 0)).read (Elt F) fs = X → (M.view.slice (halfR s 1)).read (Elt F) fs = Y
      → Rt ⊢ writeUpdate (c' : Thread nD τ) (slotM M' s).view ((slotM M s).view.read (Elt F) fs) R)
    {hsc hsrc hdst hsem} {α : Type} {Q : α → sProp 𝕄} {k : PUnit → Prog (TpuEff nD τ sig (Elt F) Λ₀ .tc) α} :
    iprop(cellInv (ER (F := F)) Rd κ₁ ((c : Thread nD τ), .dma sS) ∗ cellInv (ER (F := F)) Rd κ₂ ((c' : Thread nD τ), .dma sR)
        ∗ (pc c M s 0 X ∗ pc c M s 1 Y) ∗ Rt ∗ owes (c : Thread nD τ) O₀ W
        ∗ dutyTok (ER (F := F)) ((c : Thread nD τ), .dma sS) r () ∗ reached (ER (F := F)) ((c : Thread nD τ), .dma sS) r
        ∗ dutyTok (ER (F := F)) ((c' : Thread nD τ), .dma sR) r () ∗ reached (ER (F := F)) ((c' : Thread nD τ), .dma sR) r)
      ⊢ iprop(((cred (tallyAt ((c : Thread nD τ), .dma sS) ι NS) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := S12x2x256x256) off S1x2x256x256.size inbS) (fun _ => rfl)).squeeze S2x256x256 squeezes_S1x2x256x256_S2x256x256)
                (.remote (Dev.tc n : Thread nD τ) ((M'.slice (Rect.unit (s := S12x2x256x256) off S1x2x256x256.size inbD) (fun _ => rfl)).squeeze S2x256x256 squeezes_S1x2x256x256_S2x256x256) (.dma sS) hsc)
                (.dma sR) hsrc hdst hsem) k) Q) := by
  subst hn; subst hS
  iintro ⟨#Hi₁, #Hi₂, Hp, Hrt, HO, Ht₁, Hr₁, Ht₂, Hr₂⟩ Hk
  ihave Hp := (slot_out c M s X Y) $$ Hp
  icases Hp with ⟨%fs, %hfs, Hp⟩
  ihave Hrt := (hroom fs hfs.1 hfs.2) $$ Hrt
  iapply (Rounds.wp_send 𝒱₀ ER Rd (c : Thread nD τ) none (c' := (n : Thread nD τ)) (src := slotM M s) (dst := slotM M' s) (κ₁ := κ₁) (κ₂ := κ₂)
    (r₁ := r) (r₂ := r) (d₁ := ()) (d₂ := ()) (fs := fs) (R := R) hd₁ hd₂ ι ι NS (NS_eq (slotM M' s).view) hk₁ hk₂ O hO (W := W)
    (((slot_in c M s fs).trans (Entails.of_eq (by rw [hfs.1, hfs.2]))).trans hpay₁) hpay₂) $$ [Hp Hrt HO Ht₁ Hr₁ Ht₂ Hr₂]
  · isplitr; · iexact Hi₁
    isplitr; · iexact Hi₂
    isplitl [Hp]; · iexact Hp
    isplitl [Hrt]; · iexact Hrt
    isplitl [HO]; · iexact HO
    isplitl [Ht₁]; · iexact Ht₁
    isplitl [Hr₁]; · iexact Hr₁
    isplitl [Ht₂]; · iexact Ht₂
    iexact Hr₂
  iexact Hk

end Send
end Cert.GradExchange
-- ==== Proof.Protocol.lean ====
/-
# The protocol of the exchange

Eight devices stand at the corners of a cube. A tile of the result takes three hops: device `c` sends a quarter of
its own product across the first axis (`x`), passes what it receives there on along the other two axes (`z1`, `y1`),
and passes those on once more (`y2`, `z2`). This file fixes who sends what where, in which tile slot, on which
semaphores, and what each semaphore hands over.
-/
module

public import proofs.«01_k».proof.Proof.Pieces

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Devices and hops -/

/-- The five hops a piece of a tile can take. -/
inductive Kd | x | z1 | y1 | y2 | z2
  deriving DecidableEq

instance : Fintype Kd := ⟨{.x, .z1, .y1, .y2, .z2}, fun k => by cases k <;> decide⟩

/-- The row of the semaphore arrays a hop uses. -/
def Kd.num : Kd → ℕ | .x => 0 | .z1 => 1 | .y1 => 2 | .y2 => 3 | .z2 => 4

theorem Kd.num_lt (k : Kd) : k.num < 5 := by cases k <;> decide

/-- The hop of a row. -/
def Kd.ofNum : ℕ → Kd | 0 => .x | 1 => .z1 | 2 => .y1 | 3 => .y2 | _ => .z2

theorem Kd.ofNum_num (k : Kd) : Kd.ofNum k.num = k := by cases k <;> rfl

/-- The neighbour along the first axis. -/
def xn (c : Dev nD) : Dev nD := ⟨(c.val + 4) % 8, Nat.mod_lt _ (by decide)⟩
/-- The neighbour along the third axis. -/
def zn (c : Dev nD) : Dev nD := ⟨(2 * (c.val / 2) + (1 - c.val % 2)) % 8, Nat.mod_lt _ (by decide)⟩
/-- The neighbour along the second axis. -/
def yn (c : Dev nD) : Dev nD := ⟨(4 * (c.val / 4) + 2 * (1 - (c.val / 2) % 2) + c.val % 2) % 8, Nat.mod_lt _ (by decide)⟩

theorem xn_xn (c : Dev nD) : xn (xn c) = c := by revert c; decide
theorem zn_zn (c : Dev nD) : zn (zn c) = c := by revert c; decide
theorem yn_yn (c : Dev nD) : yn (yn c) = c := by revert c; decide
theorem yn_zn (c : Dev nD) : yn (zn c) = zn (yn c) := by revert c; decide
theorem xn_zn (c : Dev nD) : xn (zn c) = zn (xn c) := by revert c; decide
theorem xn_yn (c : Dev nD) : xn (yn c) = yn (xn c) := by revert c; decide

/-- Where a hop goes to. -/
def Kd.nb : Kd → Dev nD → Dev nD | .x => xn | .z1 => zn | .y1 => yn | .y2 => yn | .z2 => zn

theorem nb_nb (k : Kd) (c : Dev nD) : k.nb (k.nb c) = c := by cases k <;> first | exact xn_xn c | exact zn_zn c | exact yn_yn c

/-- The slot of tile `t`. -/
def sl (t : ℕ) : Fin 12 := ⟨t % 12, Nat.mod_lt _ (by decide)⟩

theorem sl_add (t : ℕ) : sl (t + 12) = sl t := Fin.ext (by simp [sl])

/-! ## Semaphores -/

/-- The semaphore device's hop `k` of slot `s` reports its sending on. -/
def semS (k : Kd) (s : Fin 12) : DmaSem sig := ⟨5 + 12 * k.num + s.val, by have := k.num_lt; have := s.isLt; show _ < 125; omega⟩
/-- The semaphore its arrival is reported on. -/
def semR (k : Kd) (s : Fin 12) : DmaSem sig := ⟨65 + 12 * k.num + s.val, by have := k.num_lt; have := s.isLt; show _ < 125; omega⟩

theorem semS_eq (k : Kd) (s : Fin 12) {off : Fin 2 → ℕ} (hoff : off = ![k.num, s.val]) {inb} :
    ((cc0_scratch8.slice (Rect.unit (s := S5x12) off S1x1.size inb)).squeeze S_ squeezes_S1x1_S_).sem = semS k s := by
  subst hoff; revert inb; cases k <;> revert s <;> decide

theorem semR_eq (k : Kd) (s : Fin 12) {off : Fin 2 → ℕ} (hoff : off = ![k.num, s.val]) {inb} :
    ((cc0_scratch9.slice (Rect.unit (s := S5x12) off S1x1.size inb)).squeeze S_ squeezes_S1x1_S_).sem = semR k s := by
  subst hoff; revert inb; cases k <;> revert s <;> decide

/-- The cell on which device `c` learns that its hop `k` of tile `t` has left. -/
abbrev cS (k : Kd) (c : Dev nD) (t : ℕ) : GSem nD τ sig := ((c : Thread nD τ), .dma (semS k (sl t)))
/-- The cell on which device `c` learns that hop `k` of tile `t` has arrived. -/
abbrev cR (k : Kd) (c : Dev nD) (t : ℕ) : GSem nD τ sig := ((c : Thread nD τ), .dma (semR k (sl t)))

/-- The units a hop credits. -/
def Kd.amt : Kd → ℕ | .z1 => NH | .y1 => NH | .x => NS | .y2 => NS | .z2 => NS

theorem Kd.amt_pos (k : Kd) : 0 < k.amt := by cases k <;> first | exact NH_pos | exact NS_pos

/-! ## Buffers -/

abbrev xsM : Buf4 := Memref.whole cc0_scratch2
abbrev xrM : Buf4 := Memref.whole cc0_scratch3
abbrev gaM : Buf4 := Memref.whole cc0_scratch4
abbrev gbM : Buf4 := Memref.whole cc0_scratch5
abbrev hyM : Buf4 := Memref.whole cc0_scratch6
abbrev hzM : Buf4 := Memref.whole cc0_scratch7

/-! ## How early a hop may land

A hop of the first tiles may land before its target has started, so nothing is said of what those bring. The landing
places of later tiles are handed out by their owner, each with a message it sends. -/

/-- The first tile of the hop whose landing place is handed out by a message. -/
def Kd.rc : Kd → ℕ | .x => 2 | .z1 => 3 | .y1 => 3 | .y2 => 0 | .z2 => 0

/-- The landing places handed out with the first `u` hops along the first axis. -/
def hx (u : ℕ) : ℕ := if u = 0 then 2 else min 16 (max 12 (u + 6))
/-- The landing places of the first hop along another axis handed out with the first `u` of those hops. -/
def hh (u : ℕ) : ℕ := if u = 0 then 3 else min 16 (max 12 (u + 7))
/-- The landing places of the second such hop handed out with the first `u` of the first. -/
def g2 (u : ℕ) : ℕ := if u = 0 then 0 else min 16 (max 12 (u + 7))

/-- The landing places of hop `k` that are handed out with `u` messages. -/
def Kd.hb : Kd → ℕ → ℕ | .x => hx | .z1 => hh | .y1 => hh | .y2 => g2 | .z2 => g2

theorem hb_zero (k : Kd) : k.hb 0 = k.rc := by cases k <;> rfl

/-! ## What is exchanged -/

/-- The contents a hop carries, if anything is said of them: `q c t h` is half `h` of the quarter of tile `t` that device `c` sends. -/
abbrev Spec (F : FTy → Type) : Type := Dev nD → ℕ → Fin 2 → Half F

/-- Device `c` owns half `h` of the slot of tile `t`; from the fourth tile on it holds `X`. -/
def half (M : Buf4) (c : Dev nD) (t : ℕ) (h : Fin 2) (X : Half F) : sProp 𝕄 :=
  iprop(∃ Y : Half F, ⌜3 ≤ t → Y = X⌝ ∗ pc c M (sl t) h Y)

/-- Device `c` owns both halves of that slot, whatever they hold. -/
def pair (M : Buf4) (c : Dev nD) (t : ℕ) : sProp 𝕄 := iprop(fr c M (sl t) 0 ∗ fr c M (sl t) 1)

omit [FloatOps F] in
instance half_storable (M : Buf4) (c : Dev nD) (t : ℕ) (h : Fin 2) (X : Half F) : BI.Storable (upEmb : UEmb _ 𝕄) (half M c t h X) := by
  unfold half; infer_instance

omit [FloatOps F] in
instance pair_storable (M : Buf4) (c : Dev nD) (t : ℕ) : BI.Storable (upEmb : UEmb _ 𝕄) (pair (F := F) M c t) := by
  unfold pair; infer_instance

omit [FloatOps F] in
theorem half_fr (M : Buf4) (c : Dev nD) (t : ℕ) (h : Fin 2) (X : Half F) : half M c t h X ⊢ (fr c M (sl t) h : sProp 𝕄) := by
  unfold half fr
  iintro ⟨%Y, -, H⟩
  iexists Y; iexact H

/-- The landing place of hop `k` of tile `t` on device `c`, holding anything. -/
def freeP (k : Kd) (c : Dev nD) (t : ℕ) : sProp 𝕄 :=
  match k with
  | .x => pair xrM c t
  | .z1 => fr c gaM (sl t) 1
  | .y1 => fr c gbM (sl t) 1
  | .y2 => pair hyM c t
  | .z2 => pair hzM c t

/-- What hop `k` of tile `t` brings to device `c`. -/
def landP (q : Spec F) (k : Kd) (c : Dev nD) (t : ℕ) : sProp 𝕄 :=
  match k with
  | .x => iprop(half xrM c t 0 (q (xn c) t 0) ∗ half xrM c t 1 (q (xn c) t 1))
  | .z1 => half gaM c t 1 (q (xn (zn c)) t 0)
  | .y1 => half gbM c t 1 (q (xn (yn c)) t 1)
  | .y2 => iprop(half hyM c t 0 (q (xn (yn c)) t 0) ∗ half hyM c t 1 (q (xn (zn (yn c))) t 0))
  | .z2 => iprop(half hzM c t 0 (q (xn (zn c)) t 1) ∗ half hzM c t 1 (q (xn (yn (zn c))) t 1))

/-- What device `c` sends with hop `k` of tile `t`, and gets back when the hop has left. -/
def srcP (q : Spec F) (k : Kd) (c : Dev nD) (t : ℕ) : sProp 𝕄 :=
  match k with
  | .x => iprop(half xsM c t 0 (q c t 0) ∗ half xsM c t 1 (q c t 1))
  | .z1 => half xrM c t 0 (q (xn c) t 0)
  | .y1 => half xrM c t 1 (q (xn c) t 1)
  | .y2 => iprop(half gaM c t 0 (q (xn c) t 0) ∗ half gaM c t 1 (q (xn (zn c)) t 0))
  | .z2 => iprop(half gbM c t 0 (q (xn c) t 1) ∗ half gbM c t 1 (q (xn (yn c)) t 1))

omit [FloatOps F] in
instance freeP_storable (k : Kd) (c : Dev nD) (t : ℕ) : BI.Storable (upEmb : UEmb _ 𝕄) (freeP (F := F) k c t) := by
  cases k <;> unfold freeP <;> infer_instance

omit [FloatOps F] in
instance landP_storable (q : Spec F) (k : Kd) (c : Dev nD) (t : ℕ) : BI.Storable (upEmb : UEmb _ 𝕄) (landP q k c t) := by
  cases k <;> unfold landP <;> infer_instance

omit [FloatOps F] in
instance srcP_storable (q : Spec F) (k : Kd) (c : Dev nD) (t : ℕ) : BI.Storable (upEmb : UEmb _ 𝕄) (srcP q k c t) := by
  cases k <;> unfold srcP <;> infer_instance

omit [FloatOps F] in
/-- Before the fourth tile nothing is said of what lands, so the place alone will do. -/
theorem land_of_free (q : Spec F) (k : Kd) (c : Dev nD) (t : ℕ) (ht : t < 3) : freeP k c t ⊢ (landP q k c t : sProp 𝕄) := by
  have h1 : ∀ (M : Buf4) (h : Fin 2) (X : Half F), fr c M (sl t) h ⊢ (half M c t h X : sProp 𝕄) := fun M h X => by
    unfold half fr
    iintro ⟨%Y, H⟩
    iexists Y
    isplitr; · ipureintro; intro h; omega
    iexact H
  cases k <;> unfold freeP landP
  · unfold pair; exact BI.sep_mono (h1 _ _ _) (h1 _ _ _)
  · exact h1 _ _ _
  · exact h1 _ _ _
  · unfold pair; exact BI.sep_mono (h1 _ _ _) (h1 _ _ _)
  · unfold pair; exact BI.sep_mono (h1 _ _ _) (h1 _ _ _)

/-- The token a hop of one of the first tiles leaves at its landing place. -/
abbrev Stok (k : Kd) (c : Dev nD) (t : ℕ) : sProp 𝕄 := dutyTok (ER (F := F)) (cR k c t) (100 + t) ()
/-- The token its owner leaves there when it takes the place over. -/
abbrev Rtok (k : Kd) (c : Dev nD) (t : ℕ) : sProp 𝕄 := dutyTok (ER (F := F)) (cR k c t) (200 + t) ()

/-- The right to land hop `k` of tile `t` on device `c`. -/
def right (k : Kd) (c : Dev nD) (t : ℕ) : sProp 𝕄 :=
  iprop((if t < k.rc then Stok k c t else freeP k c t) ∗ reached (ER (F := F)) (cR k c t) (t / 12))

/-- The landing rights device `k.nb c` hands to `c` with hop `k` of tile `t`. -/
def grants (k : Kd) (c : Dev nD) (t : ℕ) : sProp 𝕄 :=
  match k with
  | .x => bigSep (Finset.Ico (hx t) (hx (t + 1))) fun u => right .x (xn c) u
  | .z1 => iprop((bigSep (Finset.Ico (hh t) (hh (t + 1))) fun u => right .z1 (zn c) u) ∗ bigSep (Finset.Ico (g2 t) (g2 (t + 1))) fun u => right .z2 (zn c) u)
  | .y1 => iprop((bigSep (Finset.Ico (hh t) (hh (t + 1))) fun u => right .y1 (yn c) u) ∗ bigSep (Finset.Ico (g2 t) (g2 (t + 1))) fun u => right .y2 (yn c) u)
  | .y2 => iprop(emp)
  | .z2 => iprop(emp)

/-- What the arrival of hop `k` of tile `t` hands to device `c`. -/
def rcvP (q : Spec F) (k : Kd) (c : Dev nD) (t : ℕ) : sProp 𝕄 :=
  iprop((if t < k.rc then Stok k c t else landP q k c t) ∗ grants k c t)

omit [FloatOps F] in
instance right_storable (k : Kd) (c : Dev nD) (t : ℕ) : BI.Storable (upEmb : UEmb _ 𝕄) (right (F := F) k c t) := by
  unfold right; split <;> infer_instance

omit [FloatOps F] in
instance grants_storable (k : Kd) (c : Dev nD) (t : ℕ) : BI.Storable (upEmb : UEmb _ 𝕄) (grants (F := F) k c t) := by
  cases k <;> unfold grants <;> infer_instance

omit [FloatOps F] in
instance rcvP_storable (q : Spec F) (k : Kd) (c : Dev nD) (t : ℕ) : BI.Storable (upEmb : UEmb _ 𝕄) (rcvP q k c t) := by
  unfold rcvP; split <;> infer_instance

/-! ## The schedule -/

/-- The hop a semaphore belongs to. -/
def kdOf (v : ℕ) : Kd := Kd.ofNum ((v - 5) % 60 / 12)
/-- The tile of round `r` of a semaphore. -/
def tileOf (v r : ℕ) : ℕ := (v - 5) % 12 + 12 * r

/-- Round `r` of a semaphore of the exchange has one duty, the hop of tile `slot + 12 r`. -/
def sched (q : Spec F) : Schedule (GSem nD τ sig) Unit 𝕄 where
  duties g r := match g.2 with
    | .dma v => if g.1.2 = .tc ∧ 5 ≤ v.val ∧ tileOf v.val r < 16 then {()} else ∅
    | .reg _ => ∅
  amount g _ _ := match g.2 with
    | .dma v => (kdOf v.val).amt
    | .reg _ => 1
  payload g r _ := match g.2 with
    | .dma v => if v.val < 65 then srcP q (kdOf v.val) g.1.1 (tileOf v.val r) else rcvP q (kdOf v.val) g.1.1 (tileOf v.val r)
    | .reg _ => iprop(emp)
  amount_pos g r d h := by
    match hg : g.2 with
    | .dma v => simpa [hg] using (kdOf v.val).amt_pos
    | .reg v => simp [hg]

theorem kdOf_semS (k : Kd) (s : Fin 12) : kdOf (semS k s).val = k := by
  cases k <;> revert s <;> decide
theorem kdOf_semR (k : Kd) (s : Fin 12) : kdOf (semR k s).val = k := by
  cases k <;> revert s <;> decide

theorem tileOf_semS (k : Kd) (t : ℕ) : tileOf (semS k (sl t)).val (t / 12) = t := by
  show (5 + 12 * k.num + t % 12 - 5) % 12 + 12 * (t / 12) = t
  omega
theorem tileOf_semR (k : Kd) (t : ℕ) : tileOf (semR k (sl t)).val (t / 12) = t := by
  show (65 + 12 * k.num + t % 12 - 5) % 12 + 12 * (t / 12) = t
  omega

section Facts
variable (q : Spec F) (k : Kd) (c : Dev nD) (t : ℕ)

omit [FloatOps F] in
theorem duties_S (ht : t < 16) : (sched q).duties (cS k c t) (t / 12) = {()} := by
  show (if _ then _ else _) = _
  rw [if_pos ⟨rfl, (by show 5 ≤ 5 + 12 * k.num + _; omega), by rw [tileOf_semS]; exact ht⟩]
omit [FloatOps F] in
theorem duties_R (ht : t < 16) : (sched q).duties (cR k c t) (t / 12) = {()} := by
  show (if _ then _ else _) = _
  rw [if_pos ⟨rfl, (by show 5 ≤ 65 + 12 * k.num + _; omega), by rw [tileOf_semR]; exact ht⟩]

omit [FloatOps F] in
/-- Past its last tile a semaphore has no duty. -/
theorem duties_S_none (ht : 16 ≤ t) (r : ℕ) (hr : t / 12 ≤ r) : (sched q).duties (cS k c t) r = ∅ := by
  show (if _ then _ else _) = _
  rw [if_neg]
  rintro ⟨-, -, h⟩
  have : t % 12 + 12 * r < 16 := by
    have h' : (5 + 12 * k.num + t % 12 - 5) % 12 + 12 * r < 16 := h
    omega
  omega
omit [FloatOps F] in
theorem duties_R_none (ht : 16 ≤ t) (r : ℕ) (hr : t / 12 ≤ r) : (sched q).duties (cR k c t) r = ∅ := by
  show (if _ then _ else _) = _
  rw [if_neg]
  rintro ⟨-, -, h⟩
  have : t % 12 + 12 * r < 16 := by
    have h' : (65 + 12 * k.num + t % 12 - 5) % 12 + 12 * r < 16 := h
    omega
  omega

omit [FloatOps F] in
theorem amount_S (r : ℕ) : (sched q).amount (cS k c t) r () = k.amt := by show (kdOf _).amt = _; rw [kdOf_semS]
omit [FloatOps F] in
theorem amount_R (r : ℕ) : (sched q).amount (cR k c t) r () = k.amt := by show (kdOf _).amt = _; rw [kdOf_semR]

omit [FloatOps F] in
theorem payload_S : (sched q).payload (cS k c t) (t / 12) () = srcP q k c t := by
  show (if _ then srcP q (kdOf _) _ (tileOf _ _) else _) = _
  rw [if_pos (by show 5 + 12 * k.num + t % 12 < 65; have := k.num_lt; omega), kdOf_semS, tileOf_semS]
omit [FloatOps F] in
theorem payload_R : (sched q).payload (cR k c t) (t / 12) () = rcvP q k c t := by
  show (if _ then _ else rcvP q (kdOf _) _ (tileOf _ _)) = _
  rw [if_neg (by show ¬ 65 + 12 * k.num + t % 12 < 65; omega), kdOf_semR, tileOf_semR]

omit [FloatOps F] in
theorem expect_S (ht : t < 16) : (sched q).expect (cS k c t) (t / 12) = k.amt := by
  show Finset.sum _ _ = _
  rw [duties_S q k c t ht, Finset.sum_singleton, amount_S]
omit [FloatOps F] in
theorem expect_R (ht : t < 16) : (sched q).expect (cR k c t) (t / 12) = k.amt := by
  show Finset.sum _ _ = _
  rw [duties_R q k c t ht, Finset.sum_singleton, amount_R]

end Facts

omit [FloatOps F] in
instance sched_storable (q : Spec F) (g : GSem nD τ sig) (r : ℕ) (d : Unit) : BI.Storable (upEmb : UEmb _ 𝕄) ((sched q).payload g r d) := by
  match hg : g with
  | (u, .dma v) => show BI.Storable _ (if _ then _ else _); split <;> infer_instance
  | (u, .reg v) => show BI.Storable _ iprop(emp); infer_instance

/-! ## The invariant of the first landing places -/

/-- The landing places the invariant looks after. -/
def early : Finset (Kd × ℕ) := (Finset.univ ×ˢ Finset.range 3).filter fun p => p.2 < p.1.rc

theorem mem_early (k : Kd) (t : ℕ) : (k, t) ∈ early ↔ t < k.rc := by
  unfold early
  rw [Finset.mem_filter, Finset.mem_product, Finset.mem_range]
  refine ⟨fun h => h.2, fun h => ⟨⟨Finset.mem_univ _, ?_⟩, h⟩⟩
  cases k <;> simp only [Kd.rc] at h <;> omega

/-- A landing place of an early tile: still there, or taken by its owner after a hop has landed. -/
def spot (c : Dev nD) (p : Kd × ℕ) : sProp 𝕄 := iprop(freeP p.1 c p.2 ∨ (Stok p.1 c p.2 ∗ Rtok p.1 c p.2))

/-- All of them on device `c`. -/
def earlyInv (c : Dev nD) : sProp 𝕄 := bigSep early (spot c)

omit [FloatOps F] in
instance spot_storable (c : Dev nD) (p : Kd × ℕ) : BI.Storable (upEmb : UEmb _ 𝕄) (spot (F := F) c p) := by
  unfold spot; infer_instance
omit [FloatOps F] in
instance earlyInv_storable (c : Dev nD) : BI.Storable (upEmb : UEmb _ 𝕄) (earlyInv (F := F) c) := by
  unfold earlyInv; infer_instance

/-! ## Levels and what is owed -/

/-- How far behind the tile's number the arrival of a hop ranks. -/
def Kd.lag : Kd → ℕ | .x => 1 | .z1 => 2 | .y1 => 2 | .y2 => 4 | .z2 => 4

/-- The level of tile `t` at a cell: that of its hop for arrivals, the lowest otherwise. -/
def lev (g : GSem nD τ sig) (t : ℕ) : ℕ := match g.2 with
  | .dma v => if v.val < 65 then 0 else t + (kdOf v.val).lag
  | .reg _ => 0

/-- The cells' tile numbers. -/
def tiles (g : GSem nD τ sig) : Finset ℕ := if g.1.2 = .tc then Finset.range 16 else ∅

theorem lev_S (k : Kd) (c : Dev nD) (t u : ℕ) : lev (cS k c t) u = 0 := by
  show (if _ then 0 else _) = 0
  rw [if_pos (by show 5 + 12 * k.num + t % 12 < 65; have := k.num_lt; omega)]
theorem lev_R (k : Kd) (c : Dev nD) (t u : ℕ) : lev (cR k c t) u = u + k.lag := by
  show (if _ then 0 else _) = _
  rw [if_neg (by show ¬ 65 + 12 * k.num + t % 12 < 65; omega), kdOf_semR]

/-- What device `c` still owes when it has sent the first `n k` of each hop `k`. -/
def ow (c : Dev nD) (n : Kd → ℕ) : CellTallies nD τ sig ℕ :=
  ∑ k : Kd, ∑ t ∈ Finset.Ico (n k) 16, tallyAt (cR k (k.nb c) t) t k.amt

theorem Ico_peel {a b : ℕ} (h : a < b) : Finset.Ico a b = insert a (Finset.Ico (a + 1) b) := by
  ext i; simp only [Finset.mem_insert, Finset.mem_Ico]; omega

/-- One more sent. -/
def bump (n : Kd → ℕ) (k : Kd) : Kd → ℕ := Function.update n k (n k + 1)

theorem ow_bump (c : Dev nD) (n : Kd → ℕ) (k : Kd) (h : n k < 16) :
    ow c n = ow c (bump n k) + tallyAt (cR k (k.nb c) (n k)) (n k) k.amt := by
  unfold ow
  rw [← Finset.add_sum_erase _ _ (Finset.mem_univ k), ← Finset.add_sum_erase Finset.univ (fun k' => ∑ t ∈ Finset.Ico (bump n k k') 16, _) (Finset.mem_univ k)]
  rw [Ico_peel h, Finset.sum_insert (by simp)]
  have hk : bump n k k = n k + 1 := by simp [bump]
  have he : ∀ k' ∈ Finset.univ.erase k, bump n k k' = n k' := fun k' hk' => by simp [bump, (Finset.mem_erase.mp hk').1]
  have hs := Finset.sum_congr (f := fun k' => ∑ t ∈ Finset.Ico (bump n k k') 16, tallyAt (cR k' (k'.nb c) t) t k'.amt)
    (g := fun k' => ∑ t ∈ Finset.Ico (n k') 16, tallyAt (cR k' (k'.nb c) t) t k'.amt) (Eq.refl (Finset.univ.erase k)) fun k' hk' => by simp only [he k' hk']
  rw [hs, hk, add_assoc, add_comm]

theorem ow_pos {c : Dev nD} {n : Kd → ℕ} {g : GSem nD τ sig} {u : ℕ} (h : 0 < ow c n g u) : ∃ k, ∃ t ∈ Finset.Ico (n k) 16, g = cR k (k.nb c) t ∧ u = t := by
  by_contra hcon
  push Not at hcon
  have h0 : ow c n g u = 0 := by
    unfold ow
    rw [Finset.sum_apply, Finsupp.finset_sum_apply]
    refine Finset.sum_eq_zero fun k _ => ?_
    rw [Finset.sum_apply, Finsupp.finset_sum_apply]
    refine Finset.sum_eq_zero fun t ht => ?_
    rw [tallyAt_apply]
    by_cases hg : g = cR k (k.nb c) t
    · rw [if_neg]
      rintro ⟨-, hu⟩
      exact hcon k t ht hg hu
    · rw [if_neg]
      rintro ⟨hg', -⟩
      exact hg hg'
  omega

/-- A device may wait on a cell that ranks below everything it still owes. -/
theorem mayWait (c : Dev nD) (sm : SemLoc sig) (t : ℕ) (ht : t < 16) (n : Kd → ℕ) (h : ∀ k, n k < 16 → lev ((c : Thread nD τ), sm) t < n k + k.lag) :
    (levAts tiles lev : sProp 𝕄) ⊢ MayWait (c : Thread nD τ) sm t (ow c n) := by
  refine MayOwe.of_cut (L := tiles) (lev := lev) (lev ((c : Thread nD τ), sm) t) ?_ ?_ ?_ ?_
  · intro p hp
    rw [Finset.mem_singleton] at hp; subst hp
    show t ∈ (if _ then _ else _)
    rw [if_pos rfl, Finset.mem_range]; exact ht
  · intro g u hg
    obtain ⟨k, t', ht', rfl, rfl⟩ := ow_pos hg
    show _ ∈ (if _ then _ else _)
    rw [if_pos rfl, Finset.mem_range]; exact (Finset.mem_Ico.mp ht').2
  · intro p hp
    rw [Finset.mem_singleton] at hp; subst hp
    exact le_refl _
  · intro g u hg
    obtain ⟨k, t', ht', rfl, rfl⟩ := ow_pos hg
    rw [lev_R]
    have := Finset.mem_Ico.mp ht'
    have := h k (by omega)
    omega

end Cert.GradExchange
-- ==== Proof.Steps.lean ====
/-
# Sending and receiving one hop

The two ways a hop meets its landing place (handed out by a message, or, for the first tiles, kept by an invariant of
the target device), and the rules for sending a hop, for learning that it has left and for receiving one.
-/
module

public import proofs.«01_k».proof.Proof.Protocol

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The first landing places -/

omit [FloatOps F] in
theorem earlyInv_take (k : Kd) (c : Dev nD) (t : ℕ) (ht : t < k.rc) :
    (earlyInv c : sProp 𝕄) = iprop(spot c (k, t) ∗ bigSep (early.erase (k, t)) (spot c)) := bigSep_erase ((mem_early k t).mpr ht)

omit [FloatOps F] in
/-- The owner of an early landing place takes it when its hop has landed. -/
theorem early_take {κ : ℕ} (k : Kd) (c : Dev nD) (t : ℕ) (ht : t < k.rc) :
    iprop(inv κ (earlyInv (F := F) c) ∗ Stok k c t ∗ Rtok k c t) ⊢ (iprop(|={Set.univ}=> freeP k c t) : sProp 𝕄) := by
  rw [earlyInv_take k c t ht]
  iintro ⟨Hi, Hs, Hr⟩
  imod (inv_acc (Set.mem_univ κ)) $$ Hi with ⟨⟨Hb, Hrest⟩, Hclose⟩
  unfold spot
  icases Hb with (Hb | ⟨Hs', Hr'⟩)
  · ihave Hc := Hclose $$ [Hs Hr Hrest]
    · isplitl [Hs Hr]
      · iright
        isplitl [Hs]; · iexact Hs
        iexact Hr
      iexact Hrest
    imod Hc
    imodintro
    iexact Hb
  · iexfalso
    iapply (dutyTok_dutyTok_false (ER (F := F)))
    isplitl [Hs]; · iexact Hs
    iexact Hs'

omit [FloatOps F] in
/-- A hop may land at an early landing place, which its token shows not yet taken. -/
theorem early_room {κ : ℕ} (k : Kd) (c : Dev nD) (t : ℕ) (ht : t < k.rc) {sp : Space} {s : Shape} {e : EltTy} (v : View sig .tc sp s e) (w : s.Idx → Elt F e)
    (hout : freeP k c t ⊢ (iprop(∃ f, v.loc (c : Thread nD τ) ↦[v.set]{fullShare} f) : sProp 𝕄))
    (hin : ∀ f, (v.loc (c : Thread nD τ) ↦[v.set]{fullShare} f) ⊢ (freeP k c t : sProp 𝕄)) :
    iprop(inv κ (earlyInv (F := F) c) ∗ Stok k c t) ⊢ (writeUpdate (c : Thread nD τ) v w (Stok k c t) : sProp 𝕄) := by
  rw [writeUpdate, writeUpdateFrom_def, earlyInv_take k c t ht]
  iintro ⟨#Hi, Hs⟩
  iexists (fun _ => Stok k c t)
  isplitl [Hs]; · iexact Hs
  isplitr
  · rw [writeSteps_def]
    imodintro
    iintro %M %M' Hs
    imod (inv_acc (Set.mem_univ κ)) $$ Hi with ⟨⟨Hb, Hrest⟩, Hclose⟩
    unfold spot
    icases Hb with (Hb | ⟨Hs', Hr'⟩)
    · ihave Hb := hout $$ Hb
      icases Hb with ⟨%f, Hb⟩
      imodintro
      rw [storeSpec_apply]
      iexists v.set, f
      isplitl [Hb]; · iexact Hb
      isplitr; · ipureintro; exact v.setOn_subset_set _
      iintro Hb
      ihave Hb := (hin _) $$ Hb
      ihave Hc := Hclose $$ [Hb Hrest]
      · isplitl [Hb]
        · ileft; iexact Hb
        iexact Hrest
      imod Hc
      imodintro
      iexact Hs
    · iexfalso
      iapply (dutyTok_dutyTok_false (ER (F := F)))
      isplitl [Hs]; · iexact Hs
      iexact Hs'
  · iintro H; iexact H

omit [FloatOps F] in
theorem fr_pt (c : Dev nD) (M : Buf4) (s : Fin 12) (h : Fin 2) :
    fr c M s h ⊢ (iprop(∃ f, (halfM M s h).view.loc (c : Thread nD τ) ↦[(halfM M s h).view.set]{fullShare} f) : sProp 𝕄) := by
  unfold fr
  iintro ⟨%Y, H⟩
  ihave H := (pc_out c M s h Y) $$ H
  icases H with ⟨%f, -, H⟩
  iexists f; iexact H

omit [FloatOps F] in
theorem pt_fr (c : Dev nD) (M : Buf4) (s : Fin 12) (h : Fin 2) (f : Buf (Elt F) ((halfM M s h).view.loc (c : Thread nD τ))) :
    ((halfM M s h).view.loc (c : Thread nD τ) ↦[(halfM M s h).view.set]{fullShare} f) ⊢ (fr c M s h : sProp 𝕄) := by
  unfold fr
  iintro H
  ihave H := (pc_in c M s h f) $$ H
  iexists _; iexact H

omit [FloatOps F] in
theorem pair_pt (c : Dev nD) (M : Buf4) (t : ℕ) :
    pair M c t ⊢ (iprop(∃ f, (slotM M (sl t)).view.loc (c : Thread nD τ) ↦[(slotM M (sl t)).view.set]{fullShare} f) : sProp 𝕄) := by
  unfold pair fr
  iintro ⟨⟨%X, H⟩, ⟨%Y, H'⟩⟩
  ihave H := (slot_out c M (sl t) X Y) $$ [H H']
  · isplitl [H]; · iexact H
    iexact H'
  icases H with ⟨%f, -, H⟩
  iexists f; iexact H

omit [FloatOps F] in
theorem pt_pair (c : Dev nD) (M : Buf4) (t : ℕ) (f : Buf (Elt F) ((slotM M (sl t)).view.loc (c : Thread nD τ))) :
    ((slotM M (sl t)).view.loc (c : Thread nD τ) ↦[(slotM M (sl t)).view.set]{fullShare} f) ⊢ (pair M c t : sProp 𝕄) := by
  unfold pair fr
  iintro H
  ihave H := (slot_in c M (sl t) f) $$ H
  icases H with ⟨H, H'⟩
  isplitl [H]
  · iexists _; iexact H
  iexists _; iexact H'

/-! ## What all devices share -/

/-- The invariants of the two cells of a hop and a slot on a device. -/
def cellsAt (q : Spec F) (K : (Dev nD × Kd × Fin 12) × Bool → ℕ) (p : Dev nD × Kd × Fin 12) : sProp 𝕄 :=
  iprop(cellInv (ER (F := F)) (sched q) (K (p, false)) ((p.1 : Thread nD τ), .dma (semS p.2.1 p.2.2))
    ∗ cellInv (ER (F := F)) (sched q) (K (p, true)) ((p.1 : Thread nD τ), .dma (semR p.2.1 p.2.2)))

omit [FloatOps F] in
instance cellsAt_persistent (q : Spec F) (K : (Dev nD × Kd × Fin 12) × Bool → ℕ) (p : Dev nD × Kd × Fin 12) : BI.Persistent (cellsAt q K p) := by
  unfold cellsAt; infer_instance

/-- The invariant of a device's early landing places. -/
def earlyAt (R : Dev nD → ℕ) (c : Dev nD) : sProp 𝕄 := inv (R c) (earlyInv c)

omit [FloatOps F] in
instance earlyAt_persistent (R : Dev nD → ℕ) (c : Dev nD) : BI.Persistent (earlyAt (F := F) R c) := by
  unfold earlyAt; infer_instance

/-- The cells' invariants, the invariants of the early landing places, and the levels. -/
def ctx (q : Spec F) (K : (Dev nD × Kd × Fin 12) × Bool → ℕ) (R : Dev nD → ℕ) : sProp 𝕄 :=
  iprop(bigSep Finset.univ (cellsAt q K) ∗ bigSep Finset.univ (earlyAt R) ∗ levAts tiles lev)

omit [FloatOps F] in
instance ctx_persistent (q : Spec F) (K : (Dev nD × Kd × Fin 12) × Bool → ℕ) (R : Dev nD → ℕ) : BI.Persistent (ctx q K R) := by
  unfold ctx; infer_instance

section Rules
variable (q : Spec F) (K : (Dev nD × Kd × Fin 12) × Bool → ℕ) (R : Dev nD → ℕ)

omit [FloatOps F] in
theorem ctx_S (k : Kd) (c : Dev nD) (t : ℕ) : ctx q K R ⊢ (cellInv (ER (F := F)) (sched q) (K ((c, k, sl t), false)) (cS k c t) : sProp 𝕄) := by
  unfold ctx
  have h : bigSep Finset.univ (cellsAt q K) ⊢ (cellsAt q K (c, k, sl t) : sProp 𝕄) := bigSep_elim (Finset.mem_univ _)
  iintro ⟨H, -, -⟩
  ihave H := h $$ H
  unfold cellsAt
  icases H with ⟨H, -⟩
  iexact H
omit [FloatOps F] in
theorem ctx_R (k : Kd) (c : Dev nD) (t : ℕ) : ctx q K R ⊢ (cellInv (ER (F := F)) (sched q) (K ((c, k, sl t), true)) (cR k c t) : sProp 𝕄) := by
  unfold ctx
  have h : bigSep Finset.univ (cellsAt q K) ⊢ (cellsAt q K (c, k, sl t) : sProp 𝕄) := bigSep_elim (Finset.mem_univ _)
  iintro ⟨H, -, -⟩
  ihave H := h $$ H
  unfold cellsAt
  icases H with ⟨-, H⟩
  iexact H
omit [FloatOps F] in
theorem ctx_E (c : Dev nD) : ctx q K R ⊢ (inv (R c) (earlyInv c) : sProp 𝕄) := by
  unfold ctx
  have h : bigSep Finset.univ (earlyAt R) ⊢ (earlyAt R c : sProp 𝕄) := bigSep_elim (Finset.mem_univ _)
  iintro ⟨-, H, -⟩
  ihave H := h $$ H
  unfold earlyAt
  iexact H
omit [FloatOps F] in
theorem ctx_L : ctx q K R ⊢ (levAts tiles lev : sProp 𝕄) := by
  unfold ctx
  iintro ⟨-, -, H⟩
  iexact H

/-- A device's expectation of a hop's arrival; at an early landing place also the right to take it over. -/
def rcv (k : Kd) (c : Dev nD) (t : ℕ) : sProp 𝕄 := iprop(cred (tallyAt (cR k c t) t k.amt) ∗ if t < k.rc then Rtok k c t else emp)
/-- A hop under way. -/
def fly (k : Kd) (c : Dev nD) (t : ℕ) : sProp 𝕄 := cred (tallyAt (cS k c t) t k.amt)
/-- The duties of a hop. -/
def stok (k : Kd) (c : Dev nD) (t : ℕ) : sProp 𝕄 := iprop(dutyTok (ER (F := F)) (cS k c t) (t / 12) () ∗ dutyTok (ER (F := F)) (cR k (k.nb c) t) (t / 12) ())

/-- Learning that a hop has left: its source comes back. -/
theorem wp_left (k : Kd) (c : Dev nD) (t : ℕ) (ht : t < 16) (n : Kd → ℕ) (hn : ∀ k', n k' < 16 → 0 < n k' + k'.lag)
    {sm : DmaSem sig} (hsm : sm = semS k (sl t)) {sp sp' : Space} {s s' : Shape} {e e' : EltTy} (a : Memref sig .tc sp s e) (b : Memref sig .tc sp' s' e') (hb : b.view.dmaCredit = k.amt)
    {h h'} {W : Waits sig ℕ} {α : Type} {Q : α → sProp 𝕄} {kk : PUnit → Prog (TpuEff nD τ sig (Elt F) Λ₀ .tc) α} :
    iprop(ctx q K R ∗ fly k c t ∗ owes (c : Thread nD τ) (ow c n) W ∗ atPos (ER (F := F)) (cS k c t) (t / 12) ∅ 0)
      ⊢ iprop(((∃ W', owes (c : Thread nD τ) (ow c n) W') -∗ atPos (ER (F := F)) (cS k c t) (t / 12 + 1) ∅ 0 -∗ reached (ER (F := F)) (cS k c t) (t / 12 + 1) -∗ srcP q k c t
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm a b h h' : TpuEff nD τ sig (Elt F) Λ₀ .tc PUnit) kk) Q) := by
  subst hsm
  iintro ⟨#Hctx, Hf, HO, Hp⟩ Hk
  iapply (Rounds.wp_wait_rest_token 𝒱₀ (ER (F := F)) (sched q) (c : Thread nD τ) none (κ := K ((c, k, sl t), false)) (wpE_waitDma2_eq 𝒱₀ (c : Thread nD τ) none Set.univ) (Set.mem_univ _)
    t (O := ow c n) (W := W) (R := t / 12) (m := 0) (T := ∅) (by rw [zero_add, hb]; exact (expect_S q k c t ht).symm)) $$ [Hf HO Hp]
  · isplitr; · iapply (ctx_S q K R k c t); iexact Hctx
    isplitl [Hf]; · rw [hb]; unfold fly; iexact Hf
    isplitl [HO]; · iexact HO
    isplitr
    · iapply (mayWait c _ t ht n fun k' hk' => by rw [lev_S]; exact hn k' hk')
      iapply (ctx_L q K R); iexact Hctx
    iexact Hp
  rw [show (sched q).duties (cS k c t) (t / 12) \ ∅ = {()} by rw [duties_S q k c t ht]; rfl, bigSep_singleton, payload_S]
  iintro ⟨HO, Hp, Hr, HP⟩
  iapply Hk $$ [HO] Hp Hr HP
  iexists _; iexact HO

/-- Receiving a hop: what it brings, and the landing rights its sender hands over. -/
theorem wp_arrive (k : Kd) (c : Dev nD) (t : ℕ) (ht : t < 16) (n : Kd → ℕ) (hn : ∀ k', n k' < 16 → t + k.lag < n k' + k'.lag)
    {sm : DmaSem sig} (hsm : sm = semR k (sl t)) {sp sp' : Space} {s s' : Shape} {e e' : EltTy} (a : Memref sig .tc sp s e) (b : Memref sig .tc sp' s' e') (hb : b.view.dmaCredit = k.amt)
    {h h'} {W : Waits sig ℕ} {α : Type} {Q : α → sProp 𝕄} {kk : PUnit → Prog (TpuEff nD τ sig (Elt F) Λ₀ .tc) α} :
    iprop(ctx q K R ∗ rcv k c t ∗ owes (c : Thread nD τ) (ow c n) W ∗ atPos (ER (F := F)) (cR k c t) (t / 12) ∅ 0)
      ⊢ iprop(((∃ W', owes (c : Thread nD τ) (ow c n) W') -∗ atPos (ER (F := F)) (cR k c t) (t / 12 + 1) ∅ 0 -∗ reached (ER (F := F)) (cR k c t) (t / 12 + 1) -∗ landP q k c t -∗ grants k c t
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm a b h h' : TpuEff nD τ sig (Elt F) Λ₀ .tc PUnit) kk) Q) := by
  subst hsm
  by_cases hrc : t < k.rc
  · rw [show rcv (F := F) k c t = iprop(cred (tallyAt (cR k c t) t k.amt) ∗ Rtok k c t) from by unfold rcv; rw [if_pos hrc]]
    iintro ⟨#Hctx, ⟨Hf, Hrt⟩, HO, Hp⟩ Hk
    iapply (Rounds.wp_wait_rest_token 𝒱₀ (ER (F := F)) (sched q) (c : Thread nD τ) none (κ := K ((c, k, sl t), true)) (wpE_waitDma2_eq 𝒱₀ (c : Thread nD τ) none Set.univ) (Set.mem_univ _)
      t (O := ow c n) (W := W) (R := t / 12) (m := 0) (T := ∅) (by rw [zero_add, hb]; exact (expect_R q k c t ht).symm)) $$ [Hf HO Hp]
    · isplitr; · iapply (ctx_R q K R k c t); iexact Hctx
      isplitl [Hf]; · rw [hb]; iexact Hf
      isplitl [HO]; · iexact HO
      isplitr
      · iapply (mayWait c _ t ht n fun k' hk' => by rw [lev_R]; exact hn k' hk')
        iapply (ctx_L q K R); iexact Hctx
      iexact Hp
    rw [show (sched q).duties (cR k c t) (t / 12) \ ∅ = {()} by rw [duties_R q k c t ht]; rfl, bigSep_singleton, payload_R, rcvP, if_pos hrc]
    iintro ⟨HO, Hp, Hr, HP, HG⟩
    ihave Hi := (ctx_E q K R c) $$ Hctx
    imod (early_take k c t hrc) $$ [Hi HP Hrt] with HP
    · isplitl [Hi]; · iexact Hi
      isplitl [HP]; · iexact HP
      iexact Hrt
    ihave HP := (land_of_free q k c t (lt_of_lt_of_le hrc (by cases k <;> decide))) $$ HP
    iapply Hk $$ [HO] Hp Hr HP HG
    iexists _; iexact HO
  · rw [show rcv (F := F) k c t = iprop(cred (tallyAt (cR k c t) t k.amt) ∗ emp) from by unfold rcv; rw [if_neg hrc]]
    iintro ⟨#Hctx, ⟨Hf, Hrt⟩, HO, Hp⟩ Hk
    iapply (Rounds.wp_wait_rest_token 𝒱₀ (ER (F := F)) (sched q) (c : Thread nD τ) none (κ := K ((c, k, sl t), true)) (wpE_waitDma2_eq 𝒱₀ (c : Thread nD τ) none Set.univ) (Set.mem_univ _)
      t (O := ow c n) (W := W) (R := t / 12) (m := 0) (T := ∅) (by rw [zero_add, hb]; exact (expect_R q k c t ht).symm)) $$ [Hf HO Hp]
    · isplitr; · iapply (ctx_R q K R k c t); iexact Hctx
      isplitl [Hf]; · rw [hb]; iexact Hf
      isplitl [HO]; · iexact HO
      isplitr
      · iapply (mayWait c _ t ht n fun k' hk' => by rw [lev_R]; exact hn k' hk')
        iapply (ctx_L q K R); iexact Hctx
      iexact Hp
    rw [show (sched q).duties (cR k c t) (t / 12) \ ∅ = {()} by rw [duties_R q k c t ht]; rfl, bigSep_singleton, payload_R, rcvP, if_neg hrc]
    iintro ⟨HO, Hp, Hr, HP, HG⟩
    iapply Hk $$ [HO] Hp Hr HP HG
    iexists _; iexact HO

/-! ## Sending -/

theorem room_half (k : Kd) (c' : Dev nD) (t : ℕ) (M M' : Buf4) (h h' : Fin 2) (X Y : Half F) (hXY : 3 ≤ t → Y = X)
    (hfree : (freeP k c' t : sProp 𝕄) = fr c' M' (sl t) h') (hland : landP q k c' t = half M' c' t h' X)
    (fs : M.view.ty.Contents (Elt F)) (hY : (M.view.slice (halfR (sl t) h)).read (Elt F) fs = Y) :
    iprop(ctx q K R ∗ right k c' t ∗ grants k c' t)
      ⊢ (writeUpdate (c' : Thread nD τ) (halfM M' (sl t) h').view ((halfM M (sl t) h).view.read (Elt F) fs) (rcvP q k c' t) : sProp 𝕄) := by
  by_cases hrc : t < k.rc
  · rw [right, rcvP, if_pos hrc, if_pos hrc]
    iintro ⟨#Hctx, ⟨Hs, -⟩, Hg⟩
    iapply (writeUpdate_frame (c' : Thread nD τ) (R := Stok k c' t) (F := grants k c' t))
    isplitr [Hg]
    · iapply (early_room (κ := R c') k c' t hrc _ _ (by rw [hfree]; exact fr_pt c' M' (sl t) h') (by rw [hfree]; exact pt_fr c' M' (sl t) h'))
      isplitr; · iapply (ctx_E q K R c'); iexact Hctx
      iexact Hs
    iexact Hg
  · rw [right, rcvP, if_neg hrc, if_neg hrc, hfree, hland]
    have hin : pc c' M' (sl t) h' Y ⊢ (half M' c' t h' X : sProp 𝕄) := by
      unfold half
      iintro H
      iexists Y
      isplitr; · ipureintro; exact hXY
      iexact H
    iintro ⟨-, ⟨Hs, -⟩, Hg⟩
    iapply (writeUpdate_frame (c' : Thread nD τ) (R := half M' c' t h' X) (F := grants k c' t))
    isplitr [Hg]
    · iapply (writeUpdate_mono hin)
      iapply (fr_room_half c' M M' (sl t) h h' Y fs hY)
      iexact Hs
    iexact Hg

theorem room_slot (k : Kd) (c' : Dev nD) (t : ℕ) (M M' : Buf4) (X₀ Y₀ X₁ Y₁ : Half F) (hXY₀ : 3 ≤ t → Y₀ = X₀) (hXY₁ : 3 ≤ t → Y₁ = X₁)
    (hfree : (freeP k c' t : sProp 𝕄) = pair M' c' t) (hland : landP q k c' t = iprop(half M' c' t 0 X₀ ∗ half M' c' t 1 X₁))
    (fs : M.view.ty.Contents (Elt F)) (hY₀ : (M.view.slice (halfR (sl t) 0)).read (Elt F) fs = Y₀) (hY₁ : (M.view.slice (halfR (sl t) 1)).read (Elt F) fs = Y₁) :
    iprop(ctx q K R ∗ right k c' t ∗ grants k c' t)
      ⊢ (writeUpdate (c' : Thread nD τ) (slotM M' (sl t)).view ((slotM M (sl t)).view.read (Elt F) fs) (rcvP q k c' t) : sProp 𝕄) := by
  by_cases hrc : t < k.rc
  · rw [right, rcvP, if_pos hrc, if_pos hrc]
    iintro ⟨#Hctx, ⟨Hs, -⟩, Hg⟩
    iapply (writeUpdate_frame (c' : Thread nD τ) (R := Stok k c' t) (F := grants k c' t))
    isplitr [Hg]
    · iapply (early_room (κ := R c') k c' t hrc _ _ (by rw [hfree]; exact pair_pt c' M' t) (by rw [hfree]; exact pt_pair c' M' t))
      isplitr; · iapply (ctx_E q K R c'); iexact Hctx
      iexact Hs
    iexact Hg
  · rw [right, rcvP, if_neg hrc, if_neg hrc, hfree, hland, pair]
    have hin : iprop(pc c' M' (sl t) 0 Y₀ ∗ pc c' M' (sl t) 1 Y₁) ⊢ (iprop(half M' c' t 0 X₀ ∗ half M' c' t 1 X₁) : sProp 𝕄) := by
      unfold half
      iintro ⟨H, H'⟩
      isplitl [H]
      · iexists Y₀
        isplitr; · ipureintro; exact hXY₀
        iexact H
      · iexists Y₁
        isplitr; · ipureintro; exact hXY₁
        iexact H'
    iintro ⟨-, ⟨Hs, -⟩, Hg⟩
    iapply (writeUpdate_frame (c' : Thread nD τ) (R := iprop(half M' c' t 0 X₀ ∗ half M' c' t 1 X₁)) (F := grants k c' t))
    isplitr [Hg]
    · iapply (writeUpdate_mono hin)
      iapply (fr_room_slot c' M M' (sl t) Y₀ Y₁ fs hY₀ hY₁)
      iexact Hs
    iexact Hg

/-- Sending a hop that carries a half. -/
theorem wp_hop_half (k : Kd) (c : Dev nD) (t : ℕ) (ht : t < 16) (n : Kd → ℕ) (hn : n k = t) (d : Dev nD) (hd : d = k.nb c) (M M' : Buf4) (h h' : Fin 2) (X : Half F)
    (hsrc : srcP q k c t = half M c t h X) (hfree : (freeP k (k.nb c) t : sProp 𝕄) = fr (k.nb c) M' (sl t) h') (hland : landP q k (k.nb c) t = half M' (k.nb c) t h' X) (hamt : k.amt = NH)
    {offS offD : Fin 4 → ℕ} {inbS inbD} (hS : offS = ![(sl t).val, h.val, 0, 0]) (hD : offD = ![(sl t).val, h'.val, 0, 0])
    {sS sR : DmaSem sig} (hsS : sS = semS k (sl t)) (hsR : sR = semR k (sl t)) {W : Waits sig ℕ}
    {hsc hsr hdst hsem} {α : Type} {Q : α → sProp 𝕄} {kk : PUnit → Prog (TpuEff nD τ sig (Elt F) Λ₀ .tc) α} :
    iprop(ctx q K R ∗ srcP q k c t ∗ right k (k.nb c) t ∗ grants k (k.nb c) t ∗ stok k c t ∗ reached (ER (F := F)) (cS k c t) (t / 12) ∗ owes (c : Thread nD τ) (ow c n) W)
      ⊢ iprop((fly k c t -∗ (∃ W', owes (c : Thread nD τ) (ow c (bump n k)) W') -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((M.slice (Rect.unit (s := S12x2x256x256) offS S1x1x256x256.size inbS) (fun _ => rfl)).squeeze S256x256 squeezes_S1x1x256x256_S256x256)
                (.remote (Dev.tc d : Thread nD τ) ((M'.slice (Rect.unit (s := S12x2x256x256) offD S1x1x256x256.size inbD) (fun _ => rfl)).squeeze S256x256 squeezes_S1x1x256x256_S256x256) (.dma sS) hsc)
                (.dma sR) hsr hdst hsem) kk) Q) := by
  subst hsS; subst hsR; subst hn
  have hr : (right k (k.nb c) (n k) : sProp 𝕄) ⊢ iprop(right k (k.nb c) (n k) ∗ reached (ER (F := F)) (cR k (k.nb c) (n k)) (n k / 12)) := by
    unfold right
    iintro ⟨H, #Hr⟩
    isplitl [H]
    · isplitl [H]; · iexact H
      iexact Hr
    iexact Hr
  rw [hsrc]
  unfold half stok
  iintro ⟨#Hctx, ⟨%Y, %hY, Hsrc⟩, Hrt, Hg, ⟨HtS, HtR⟩, HrS, HO⟩ Hk
  ihave Hrt := hr $$ Hrt
  icases Hrt with ⟨Hrt, HrR⟩
  iapply (wp_send_half c (k.nb c) (sched q) d hd M M' (sl (n k)) h h' hS hD Y iprop(ctx q K R ∗ right k (k.nb c) (n k) ∗ grants k (k.nb c) (n k)) (rcvP q k (k.nb c) (n k)) (n k / 12)
    (K ((c, k, sl (n k)), false)) (K ((k.nb c, k, sl (n k)), true)) (by rw [duties_S q k c (n k) ht]; exact Finset.mem_singleton_self _) (by rw [duties_R q k (k.nb c) (n k) ht]; exact Finset.mem_singleton_self _)
    (n k) (by rw [amount_S, hamt]) (by rw [amount_R, hamt]) (O₀ := ow c n) (ow c (bump n k)) (by rw [← hamt]; exact ow_bump c n k ht) (W := W)
    (by
      rw [payload_S, hsrc]
      unfold half
      iintro H
      iexists Y
      isplitr; · ipureintro; exact hY
      iexact H)
    (Entails.of_eq (payload_R q k (k.nb c) (n k)).symm)
    (fun fs hfs => room_half q K R k (k.nb c) (n k) M M' h h' X Y hY hfree hland fs hfs)) $$ [Hsrc Hrt Hg HtS HtR HrS HrR HO]
  · isplitr; · iapply (ctx_S q K R k c (n k)); iexact Hctx
    isplitr; · iapply (ctx_R q K R k (k.nb c) (n k)); iexact Hctx
    isplitl [Hsrc]; · iexact Hsrc
    isplitl [Hrt Hg]
    · isplitr; · iexact Hctx
      isplitl [Hrt]; · iexact Hrt
      iexact Hg
    isplitl [HO]; · iexact HO
    isplitl [HtS]; · iexact HtS
    isplitl [HrS]; · iexact HrS
    isplitl [HtR]; · iexact HtR
    iexact HrR
  iintro ⟨Hf, HO⟩
  iapply Hk $$ [Hf] [HO]
  · unfold fly; rw [hamt]; iexact Hf
  iexists _; iexact HO

/-- Sending a hop that carries a whole slot. -/
theorem wp_hop_slot (k : Kd) (c : Dev nD) (t : ℕ) (ht : t < 16) (n : Kd → ℕ) (hn : n k = t) (d : Dev nD) (hd : d = k.nb c) (M M' : Buf4) (X₀ X₁ : Half F)
    (hsrc : srcP q k c t = iprop(half M c t 0 X₀ ∗ half M c t 1 X₁)) (hfree : (freeP k (k.nb c) t : sProp 𝕄) = pair M' (k.nb c) t)
    (hland : landP q k (k.nb c) t = iprop(half M' (k.nb c) t 0 X₀ ∗ half M' (k.nb c) t 1 X₁)) (hamt : k.amt = NS)
    {off : Fin 4 → ℕ} {inbS inbD} (hS : off = ![(sl t).val, 0, 0, 0])
    {sS sR : DmaSem sig} (hsS : sS = semS k (sl t)) (hsR : sR = semR k (sl t)) {W : Waits sig ℕ}
    {hsc hsr hdst hsem} {α : Type} {Q : α → sProp 𝕄} {kk : PUnit → Prog (TpuEff nD τ sig (Elt F) Λ₀ .tc) α} :
    iprop(ctx q K R ∗ srcP q k c t ∗ right k (k.nb c) t ∗ grants k (k.nb c) t ∗ stok k c t ∗ reached (ER (F := F)) (cS k c t) (t / 12) ∗ owes (c : Thread nD τ) (ow c n) W)
      ⊢ iprop((fly k c t -∗ (∃ W', owes (c : Thread nD τ) (ow c (bump n k)) W') -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((M.slice (Rect.unit (s := S12x2x256x256) off S1x2x256x256.size inbS) (fun _ => rfl)).squeeze S2x256x256 squeezes_S1x2x256x256_S2x256x256)
                (.remote (Dev.tc d : Thread nD τ) ((M'.slice (Rect.unit (s := S12x2x256x256) off S1x2x256x256.size inbD) (fun _ => rfl)).squeeze S2x256x256 squeezes_S1x2x256x256_S2x256x256) (.dma sS) hsc)
                (.dma sR) hsr hdst hsem) kk) Q) := by
  subst hsS; subst hsR; subst hn
  have hr : (right k (k.nb c) (n k) : sProp 𝕄) ⊢ iprop(right k (k.nb c) (n k) ∗ reached (ER (F := F)) (cR k (k.nb c) (n k)) (n k / 12)) := by
    unfold right
    iintro ⟨H, #Hr⟩
    isplitl [H]
    · isplitl [H]; · iexact H
      iexact Hr
    iexact Hr
  rw [hsrc]
  unfold half stok
  iintro ⟨#Hctx, ⟨⟨%Y₀, %hY₀, Hsrc⟩, ⟨%Y₁, %hY₁, Hsrc'⟩⟩, Hrt, Hg, ⟨HtS, HtR⟩, HrS, HO⟩ Hk
  ihave Hrt := hr $$ Hrt
  icases Hrt with ⟨Hrt, HrR⟩
  iapply (wp_send_slot c (k.nb c) (sched q) d hd M M' (sl (n k)) hS Y₀ Y₁ iprop(ctx q K R ∗ right k (k.nb c) (n k) ∗ grants k (k.nb c) (n k)) (rcvP q k (k.nb c) (n k)) (n k / 12)
    (K ((c, k, sl (n k)), false)) (K ((k.nb c, k, sl (n k)), true)) (by rw [duties_S q k c (n k) ht]; exact Finset.mem_singleton_self _) (by rw [duties_R q k (k.nb c) (n k) ht]; exact Finset.mem_singleton_self _)
    (n k) (by rw [amount_S, hamt]) (by rw [amount_R, hamt]) (O₀ := ow c n) (ow c (bump n k)) (by rw [← hamt]; exact ow_bump c n k ht) (W := W)
    (by
      rw [payload_S, hsrc]
      unfold half
      iintro ⟨H, H'⟩
      isplitl [H]
      · iexists Y₀
        isplitr; · ipureintro; exact hY₀
        iexact H
      iexists Y₁
      isplitr; · ipureintro; exact hY₁
      iexact H')
    (Entails.of_eq (payload_R q k (k.nb c) (n k)).symm)
    (fun fs hfs₀ hfs₁ => room_slot q K R k (k.nb c) (n k) M M' X₀ Y₀ X₁ Y₁ hY₀ hY₁ hfree hland fs hfs₀ hfs₁)) $$ [Hsrc Hsrc' Hrt Hg HtS HtR HrS HrR HO]
  · isplitr; · iapply (ctx_S q K R k c (n k)); iexact Hctx
    isplitr; · iapply (ctx_R q K R k (k.nb c) (n k)); iexact Hctx
    isplitl [Hsrc Hsrc']
    · isplitl [Hsrc]; · iexact Hsrc
      iexact Hsrc'
    isplitl [Hrt Hg]
    · isplitr; · iexact Hctx
      isplitl [Hrt]; · iexact Hrt
      iexact Hg
    isplitl [HO]; · iexact HO
    isplitl [HtS]; · iexact HtS
    isplitl [HrS]; · iexact HrS
    isplitl [HtR]; · iexact HtR
    iexact HrR
  iintro ⟨Hf, HO⟩
  iapply Hk $$ [Hf] [HO]
  · unfold fly; rw [hamt]; iexact Hf
  iexists _; iexact HO

end Rules

end Cert.GradExchange
-- ==== Proof.State.lean ====
/-
# What a device holds while it works

A device is somewhere in each of the pipelined hops: it has sent the first `a` tiles, received and passed on the first
`b`, passed on again the first `d`, and finished the first `e`. This file says what it holds at such a place, and how
that changes with a hop sent or received.
-/
module

public import proofs.«01_k».proof.Proof.Steps

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Runs of tiles -/

omit [FloatOps F] in
theorem run_peel {a b : ℕ} (h : a < b) (Φ : ℕ → sProp (MT nD τ sig ℕ (Elt F) ℕ UU ℕ)) : bigSep (Finset.Ico a b) Φ = iprop(Φ a ∗ bigSep (Finset.Ico (a + 1) b) Φ) := by
  rw [Ico_peel h]
  exact bigSep_insert (by simp)

omit [FloatOps F] in
theorem run_append {a b d : ℕ} (h : a ≤ b) (h' : b ≤ d) (Φ : ℕ → sProp (MT nD τ sig ℕ (Elt F) ℕ UU ℕ)) :
    bigSep (Finset.Ico a d) Φ = iprop(bigSep (Finset.Ico a b) Φ ∗ bigSep (Finset.Ico b d) Φ) := by
  rw [← Finset.Ico_union_Ico_eq_Ico h h']
  exact bigSep_union (Finset.disjoint_left.mpr fun i hi hi' => by rw [Finset.mem_Ico] at hi hi'; omega)

omit [FloatOps F] in
theorem run_snoc {a b : ℕ} (h : a ≤ b) (Φ : ℕ → sProp (MT nD τ sig ℕ (Elt F) ℕ UU ℕ)) : bigSep (Finset.Ico a (b + 1)) Φ = iprop(bigSep (Finset.Ico a b) Φ ∗ Φ b) := by
  rw [run_append h (Nat.le_succ b), run_peel (Nat.lt_succ_self b), Nat.succ_eq_add_one, Finset.Ico_self, bigSep_empty]
  congr 1
  exact equiv_iff.mp sep_emp

omit [FloatOps F] in
/-- What can be copied out of every member can be copied out of those of a smaller run. -/
theorem run_copy {a b l h : ℕ} (hl : a ≤ l) (hh : h ≤ b) (Φ Ψ : ℕ → sProp (MT nD τ sig ℕ (Elt F) ℕ UU ℕ)) (hΦ : ∀ t, Φ t ⊢ iprop(Φ t ∗ Ψ t)) :
    bigSep (Finset.Ico a b) Φ ⊢ iprop(bigSep (Finset.Ico a b) Φ ∗ bigSep (Finset.Ico l h) Ψ) := by
  have h1 : bigSep (Finset.Ico a b) Φ ⊢ bigSep (Finset.Ico a b) fun t => iprop(Φ t ∗ Ψ t) := bigSep_mono fun t _ => hΦ t
  have h2 : (bigSep (Finset.Ico a b) fun t => iprop(Φ t ∗ Ψ t)) = iprop(bigSep (Finset.Ico a b) Φ ∗ bigSep (Finset.Ico a b) Ψ) := bigSep_sep _ _ _
  rw [h2] at h1
  exact h1.trans (sep_mono_right (bigSep_subset (Finset.Ico_subset_Ico hl hh)))

/-! ## One hop's protocol state -/

/-- Where a device stands on the two cells of a slot. -/
def pos (k : Kd) (c : Dev nD) (t : ℕ) : sProp 𝕄 :=
  iprop(atPos (ER (F := F)) (cR k c t) (t / 12) ∅ 0 ∗ atPos (ER (F := F)) (cS k c t) (t / 12) ∅ 0
    ∗ reached (ER (F := F)) (cR k c t) (t / 12) ∗ reached (ER (F := F)) (cS k c t) (t / 12))

omit [FloatOps F] in
theorem pos_next (k : Kd) (c : Dev nD) (t : ℕ) :
    iprop(atPos (ER (F := F)) (cR k c t) (t / 12 + 1) ∅ 0 ∗ atPos (ER (F := F)) (cS k c t) (t / 12 + 1) ∅ 0
      ∗ reached (ER (F := F)) (cR k c t) (t / 12 + 1) ∗ reached (ER (F := F)) (cS k c t) (t / 12 + 1)) ⊢ (pos k c (t + 12) : sProp 𝕄) := by
  unfold pos cR cS
  rw [sl_add, show (t + 12) / 12 = t / 12 + 1 by omega]

/-- Hop `k` on device `c`: the first `a` tiles sent, the first `b` received, the landing rights that come with the
    first `u` messages in hand. -/
def grp (k : Kd) (c : Dev nD) (a b u : ℕ) : sProp 𝕄 :=
  iprop(bigSep (Finset.Ico a 16) (stok k c) ∗ bigSep (Finset.Ico a (k.hb u)) (right k (k.nb c)) ∗ bigSep (Finset.Ico b 16) (rcv k c)
    ∗ bigSep (Finset.Ico b a) (fly k c) ∗ bigSep (Finset.Ico b (b + 12)) (pos k c))

omit [FloatOps F] in
theorem grp_send (k : Kd) (c : Dev nD) (a b u : ℕ) (ha : a < 16) (hr : a < k.hb u) (hb : b ≤ a) (hb' : a < b + 12) :
    grp k c a b u ⊢ (iprop(stok k c a ∗ right k (k.nb c) a ∗ reached (ER (F := F)) (cS k c a) (a / 12) ∗ (fly k c a -∗ grp k c (a + 1) b u)) : sProp 𝕄) := by
  have hcopy := run_copy (F := F) (a := b) (b := b + 12) (l := a) (h := a + 1) hb (by omega) (pos k c) (fun t => reached (ER (F := F)) (cS k c t) (t / 12)) fun t => by
    unfold pos
    iintro ⟨H, H', Hr, #Hs⟩
    isplitl [H H' Hr]
    · isplitl [H]; · iexact H
      isplitl [H']; · iexact H'
      isplitl [Hr]; · iexact Hr
      iexact Hs
    iexact Hs
  unfold grp
  rw [run_peel ha, run_peel hr, run_snoc hb]
  iintro ⟨⟨Ht, Hts⟩, ⟨Hr, Hrs⟩, Hv, Hf, Hp⟩
  ihave Hp := hcopy $$ Hp
  rw [run_peel (Nat.lt_succ_self a), Nat.succ_eq_add_one, Finset.Ico_self, bigSep_empty]
  icases Hp with ⟨Hp, Hs, -⟩
  isplitl [Ht]; · iexact Ht
  isplitl [Hr]; · iexact Hr
  isplitl [Hs]; · iexact Hs
  iintro Hfa
  isplitl [Hts]; · iexact Hts
  isplitl [Hrs]; · iexact Hrs
  isplitl [Hv]; · iexact Hv
  isplitl [Hf Hfa]
  · isplitl [Hf]; · iexact Hf
    iexact Hfa
  iexact Hp

omit [FloatOps F] in
theorem grp_recv (k : Kd) (c : Dev nD) (a b u : ℕ) (hb : b < a) (ha : a ≤ 16) :
    grp k c a b u ⊢ (iprop(fly k c b ∗ rcv k c b ∗ pos k c b ∗ (pos k c (b + 12) -∗ grp k c a (b + 1) u)) : sProp 𝕄) := by
  unfold grp
  rw [run_peel (show b < 16 by omega) (rcv k c), run_peel hb, run_peel (show b < b + 12 by omega) (pos k c), show b + 1 + 12 = (b + 12) + 1 by omega,
    run_snoc (show b + 1 ≤ b + 12 by omega) (pos k c)]
  iintro ⟨Ht, Hr, ⟨Hv, Hvs⟩, ⟨Hf, Hfs⟩, Hp, Hps⟩
  isplitl [Hf]; · iexact Hf
  isplitl [Hv]; · iexact Hv
  isplitl [Hp]; · iexact Hp
  iintro Hn
  isplitl [Ht]; · iexact Ht
  isplitl [Hr]; · iexact Hr
  isplitl [Hvs]; · iexact Hvs
  isplitl [Hfs]; · iexact Hfs
  isplitl [Hps]; · iexact Hps
  iexact Hn

omit [FloatOps F] in
theorem grp_grant (k : Kd) (c : Dev nD) (a b u : ℕ) (ha : a ≤ k.hb u) (hu : k.hb u ≤ k.hb (u + 1)) :
    iprop(grp k c a b u ∗ bigSep (Finset.Ico (k.hb u) (k.hb (u + 1))) (right k (k.nb c))) ⊢ (grp k c a b (u + 1) : sProp 𝕄) := by
  unfold grp
  rw [run_append ha hu]
  iintro ⟨⟨Ht, Hr, Hv, Hf, Hp⟩, Hn⟩
  isplitl [Ht]; · iexact Ht
  isplitl [Hr Hn]
  · isplitl [Hr]; · iexact Hr
    iexact Hn
  isplitl [Hv]; · iexact Hv
  isplitl [Hf]; · iexact Hf
  iexact Hp

/-- The landing places of hop `k` that device `c` can still hand out. -/
def lands (k : Kd) (c : Dev nD) (l e : ℕ) : sProp 𝕄 := bigSep (Finset.Ico l (e + 12)) (freeP k c)

omit [FloatOps F] in
theorem freeP_add (k : Kd) (c : Dev nD) (t : ℕ) : (freeP k c (t + 12) : sProp 𝕄) = freeP k c t := by
  cases k <;> simp only [freeP, pair, sl_add]

omit [FloatOps F] in
/-- The device takes landing places out to hand them over. -/
theorem lands_grant (k : Kd) (c : Dev nD) (a b u e l l' : ℕ) (hl : l ≤ l') (hl' : l' ≤ e + 12) (hb : b ≤ l) (hb' : l' ≤ b + 12) (hrc : k.rc ≤ l) :
    iprop(grp k c a b u ∗ lands k c l e) ⊢ (iprop(bigSep (Finset.Ico l l') (right k c) ∗ grp k c a b u ∗ lands k c l' e) : sProp 𝕄) := by
  have hcopy := run_copy (F := F) (a := b) (b := b + 12) (l := l) (h := l') hb hb' (pos k c) (fun t => reached (ER (F := F)) (cR k c t) (t / 12)) fun t => by
    unfold pos
    iintro ⟨H, H', #Hr, Hs⟩
    isplitl [H H' Hs]
    · isplitl [H]; · iexact H
      isplitl [H']; · iexact H'
      isplitr; · iexact Hr
      iexact Hs
    iexact Hr
  have hjoin : iprop(bigSep (Finset.Ico l l') (freeP k c) ∗ bigSep (Finset.Ico l l') fun t => reached (ER (F := F)) (cR k c t) (t / 12))
      ⊢ (bigSep (Finset.Ico l l') (right k c) : sProp 𝕄) := by
    have h2 : (bigSep (Finset.Ico l l') fun t => iprop(freeP (F := F) k c t ∗ reached (ER (F := F)) (cR k c t) (t / 12)))
        = iprop(bigSep (Finset.Ico l l') (freeP k c) ∗ bigSep (Finset.Ico l l') fun t => reached (ER (F := F)) (cR k c t) (t / 12)) := bigSep_sep _ _ _
    rw [← h2]
    refine bigSep_mono fun t ht => ?_
    unfold right
    rw [if_neg (by have := (Finset.mem_Ico.mp ht).1; omega)]
    exact BI.Entails.refl _
  unfold grp lands
  rw [run_append hl hl']
  iintro ⟨⟨Ht, Hr, Hv, Hf, Hp⟩, Hg, Hl⟩
  ihave Hp := hcopy $$ Hp
  icases Hp with ⟨Hp, Hrr⟩
  isplitl [Hg Hrr]
  · iapply hjoin
    isplitl [Hg]; · iexact Hg
    iexact Hrr
  isplitr [Hl]
  · isplitl [Ht]; · iexact Ht
    isplitl [Hr]; · iexact Hr
    isplitl [Hv]; · iexact Hv
    isplitl [Hf]; · iexact Hf
    iexact Hp
  iexact Hl

omit [FloatOps F] in
/-- A landing place that is free again can be handed out for the tile twelve later. -/
theorem lands_back (k : Kd) (c : Dev nD) (l e : ℕ) (hl : l ≤ e + 12) : iprop(lands k c l e ∗ freeP k c e) ⊢ (lands k c l (e + 1) : sProp 𝕄) := by
  unfold lands
  rw [show e + 1 + 12 = (e + 12) + 1 by omega, run_snoc hl, freeP_add]

/-! ## A device's whole state -/

/-- The two halves device `c` has from across the first axis, in its receive slot. -/
def heldX (q : Spec F) (c : Dev nD) (t : ℕ) : sProp 𝕄 := iprop(half xrM c t 0 (q (xn c) t 0) ∗ half xrM c t 1 (q (xn c) t 1))
/-- Their copies beside the places of the next hops. -/
def heldG (q : Spec F) (c : Dev nD) (t : ℕ) : sProp 𝕄 := iprop(half gaM c t 0 (q (xn c) t 0) ∗ half gbM c t 0 (q (xn c) t 1))
/-- The places of those copies. -/
def freeG (c : Dev nD) (t : ℕ) : sProp 𝕄 := iprop(fr c gaM (sl t) 0 ∗ fr c gbM (sl t) 0)

/-- How much has been sent on each hop. -/
def cnts (a b d : ℕ) : Kd → ℕ | .x => a | .z1 => b | .y1 => b | .y2 => d | .z2 => d

/-- What device `c` holds when it has sent `a` tiles, passed on `b`, passed on again `d` and finished `e`. -/
def St (q : Spec F) (c : Dev nD) (a b d e : ℕ) : sProp 𝕄 :=
  iprop(grp .x c a b b ∗ grp .z1 c b d d ∗ grp .y1 c b d d ∗ grp .y2 c d e d ∗ grp .z2 c d e d
    ∗ lands .x c (hx a) e ∗ lands .z1 c (hh b) e ∗ lands .y1 c (hh b) e ∗ lands .y2 c (g2 b) e ∗ lands .z2 c (g2 b) e
    ∗ bigSep (Finset.Ico a (b + 12)) (pair xsM c) ∗ bigSep (Finset.Ico b (e + 12)) (freeG c)
    ∗ bigSep (Finset.Ico e d) (heldX q c) ∗ bigSep (Finset.Ico d b) (heldG q c))

theorem hx_step (a : ℕ) (h : a < 16) : hx a ≤ hx (a + 1) ∧ a ≤ hx a ∧ 2 ≤ hx a ∧ hx (a + 1) ≤ max 12 (a + 7) ∧ a ≤ 12 + hx a := by
  unfold hx; split <;> split <;> omega
theorem hh_step (b : ℕ) (h : b < 16) : hh b ≤ hh (b + 1) ∧ b < hh b ∧ 3 ≤ hh b ∧ hh (b + 1) ≤ max 12 (b + 8) := by
  unfold hh; split <;> split <;> omega
theorem g2_step (b : ℕ) (h : b < 16) : g2 b ≤ g2 (b + 1) ∧ b ≤ g2 b ∧ b < g2 (b + 1) ∧ g2 (b + 1) ≤ max 12 (b + 8) := by
  unfold g2; split <;> split <;> omega
theorem hx_ok (a b : ℕ) (h : a < 16) (h' : a ≤ b + 2) (h0 : 2 ≤ a → 1 ≤ b ∨ a < 2) : a < hx b := by
  unfold hx; split <;> omega

end Cert.GradExchange
-- ==== Proof.Access.lean ====
/-
# Whole buffers and the tile's rectangles

Loads and stores of a rectangle of a buffer a device owns whole, and what the eight stores of the last stage leave in
a tile of the result.
-/
module

public import proofs.«01_k».proof.Proof.State

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- `X'` is `X` with the rectangle `r` holding `w`. -/
def Put {s : Shape} {β : Type} (r : Rect s) (w : r.shape.Idx → β) (X X' : s.Idx → β) : Prop :=
  (∀ j, X' (r.emb j) = w j) ∧ ∀ i, i ∉ r.set → X' i = X i

section Owned
variable (c : Dev nD) {s : Shape} {e : EltTy} (M : Memref sig .tc .vmem s e)

/-- A load of a rectangle of an owned buffer. -/
theorem wp_load_o {r : Rect s} (X : s.Idx → Elt F e) {hl : M.view.LoadsAt r.toLoadRect} {α : Type} {Q : α → sProp 𝕄}
    {k : (r.shape.Idx → Elt F e) → Prog (TpuEff nD τ sig (Elt F) Λ₀ .tc) α} :
    owns (c : Thread nD τ) M fullShare X
      ⊢ iprop((owns (c : Thread nD τ) M fullShare X -∗ wp frame (wpE (defs₀ (F := F)) 𝒱₀ (c : Thread nD τ) none) Set.univ (k fun j => X (r.emb j)) Q)
          -∗ wp frame (wpE (defs₀ (F := F)) 𝒱₀ (c : Thread nD τ) none) Set.univ (.op (.load M r.toLoadRect hl) k) Q) := by
  unfold owns
  iintro ⟨%f, %hf, H⟩ Hk
  iapply (wp_load_rect 𝒱₀ (c : Thread nD τ) none Set.univ (m := M) (r := r) (f := f) (S := M.view.set) (M.view.set_slice_subset r)) $$ H
  iintro H
  rw [show (M.access r).read (Elt F) f = fun j => X (r.emb j) from by rw [← hf]; rfl]
  iapply Hk
  iexists f
  isplitr; · ipureintro; exact hf
  iexact H

/-- A store of a rectangle of an owned buffer. -/
theorem wp_store_o {r : Rect s} (X : s.Idx → Elt F e) (w : r.shape.Idx → Elt F e)
    {hx : (M.access r).Stores Finset.univ} {hm} {α : Type} {Q : α → sProp 𝕄}
    {k : PUnit → Prog (TpuEff nD τ sig (Elt F) Λ₀ .tc) α} :
    owns (c : Thread nD τ) M fullShare X
      ⊢ iprop((∀ X', ⌜Put r w X X'⌝ -∗ owns (c : Thread nD τ) M fullShare X' -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (Mk := Finset.univ) (f := f) (S := M.view.set)
    (M.setOn_access_subset r Finset.univ)) $$ H
  iintro H
  have hput : Put r w X (M.view.read (Elt F) ((M.access r).write (Elt F) f w Finset.univ)) := by
    subst hf
    constructor
    · intro j
      exact View.read_slice_write_emb r f w (Finset.mem_univ j)
    · intro i hi
      exact View.read_slice_write_of_not_mem r f w Finset.univ (by rwa [Rect.map_emb_univ])
  iapply Hk $$ [] [H]
  · ipureintro; exact hput
  iexists _
  isplitr; · ipureintro; rfl
  iexact H

end Owned

/-! ## The last stage's stores -/

theorem oR_inb (p : Fin 4) (h : Fin 2) : ∀ a, (![256 * p.val, 256 * h.val] : Fin 2 → ℕ) a + S256x256.size a ≤ S1024x512.size a := by
  revert p h; decide

/-- Piece `(p, h)` of a tile of the result: rows `256 p` on, columns `256 h` on. -/
abbrev oR (p : Fin 4) (h : Fin 2) : Rect S1024x512 := Rect.unit (s := S1024x512) ![256 * p.val, 256 * h.val] S256x256.size (oR_inb p h)

theorem oR_mem (p : Fin 4) (h : Fin 2) (i : S1024x512.Idx) (hi : i ∈ (oR p h).set) : (i 0).val / 256 = p.val ∧ (i 1).val / 256 = h.val := by
  erw [Rect.mem_set_unit] at hi
  have h0 := hi 0
  have h1 := hi 1
  simp at h0 h1
  constructor <;> omega

/-- The pieces in `L` hold what they should. -/
def Done (v : Fin 4 → Fin 2 → S256x256.Idx → Elt F .bf16) (L : List (Fin 4 × Fin 2)) (X : S1024x512.Idx → Elt F .bf16) : Prop :=
  ∀ p ∈ L, ∀ j, X ((oR p.1 p.2).emb j) = v p.1 p.2 j

omit [FloatOps F] in
theorem done_nil (v : Fin 4 → Fin 2 → S256x256.Idx → Elt F .bf16) (X : S1024x512.Idx → Elt F .bf16) : Done v [] X := fun p hp => absurd hp (by simp)

omit [FloatOps F] in
/-- One more piece stored. -/
theorem done_put {v : Fin 4 → Fin 2 → S256x256.Idx → Elt F .bf16} {L : List (Fin 4 × Fin 2)} {X X' : S1024x512.Idx → Elt F .bf16} (hd : Done v L X)
    (p : Fin 4) (h : Fin 2) {off : Fin 2 → ℕ} {inb} (hoff : off = ![256 * p.val, 256 * h.val]) {w : S256x256.Idx → Elt F .bf16}
    (hp : Put (Rect.unit (s := S1024x512) off S256x256.size inb) w X X') (hw : w = v p h) : Done v ((p, h) :: L) X' := by
  subst hoff; subst hw
  intro p' hp' j
  by_cases he : p' = (p, h)
  · subst he; exact hp.1 j
  · have hmem : p' ∈ L := by
      rcases List.mem_cons.mp hp' with h' | h'
      · exact absurd h' he
      · exact h'
    rw [hp.2 _ fun hi => ?_]
    · exact hd p' hmem j
    · have h1 := oR_mem p h _ hi
      have hin : (oR p'.1 p'.2).emb j ∈ (oR p'.1 p'.2).set := (oR p'.1 p'.2).toLoadRect.mem_set.mpr fun a => ⟨j a, (j a).isLt, rfl⟩
      have h2 := oR_mem p'.1 p'.2 _ hin
      exact he (Prod.ext (Fin.ext (by rw [← h2.1, ← h1.1])) (Fin.ext (by rw [← h2.2, ← h1.2])))

/-! ## The kept tiles -/

theorem mS_inb (s : Fin 8) : ∀ a, (![s.val, 0, 0] : Fin 3 → ℕ) a + S1x1024x512.size a ≤ S8x1024x512.size a := by
  revert s; decide

/-- Slot `s` of the kept tiles. -/
abbrev mS (s : Fin 8) : Rect S8x1024x512 := Rect.unit (s := S8x1024x512) ![s.val, 0, 0] S1x1024x512.size (mS_inb s)

theorem mT_inb (p : Fin 4) (h : Fin 2) : ∀ a, (![0, 256 * p.val, 256 * h.val] : Fin 3 → ℕ) a + S1x256x256.size a ≤ S1x1024x512.size a := by
  revert p h; decide

/-- Piece `(p, h)` of a kept tile. -/
abbrev mT (p : Fin 4) (h : Fin 2) : Rect S1x1024x512 := Rect.unit (s := S1x1024x512) ![0, 256 * p.val, 256 * h.val] S1x256x256.size (mT_inb p h)

/-- The slot of a kept tile. -/
def ml (t : ℕ) : Fin 8 := ⟨t % 8, Nat.mod_lt _ (by decide)⟩

/-- The slot of tile `t` holds `Y`. -/
def Kept (t : ℕ) (Y : S1x1024x512.Idx → Elt F .bf16) (X : S8x1024x512.Idx → Elt F .bf16) : Prop := ∀ j, X ((mS (ml t)).emb j) = Y j

omit [FloatOps F] in
theorem kept_new {t : ℕ} {Y : S1x1024x512.Idx → Elt F .bf16} {X X' : S8x1024x512.Idx → Elt F .bf16} {off : Fin 3 → ℕ} {inb}
    (hoff : off = ![(ml t).val, 0, 0]) (hp : Put (Rect.unit (s := S8x1024x512) off S1x1024x512.size inb) Y X X') : Kept t Y X' := by
  subst hoff; exact hp.1

omit [FloatOps F] in
theorem kept_old {t u : ℕ} {Y Z : S1x1024x512.Idx → Elt F .bf16} {X X' : S8x1024x512.Idx → Elt F .bf16} {off : Fin 3 → ℕ} {inb}
    (hoff : off = ![(ml t).val, 0, 0]) (hp : Put (Rect.unit (s := S8x1024x512) off S1x1024x512.size inb) Y X X') (hne : ml u ≠ ml t) (hk : Kept u Z X) : Kept u Z X' := by
  subst hoff
  intro j
  rw [hp.2 _ fun hi => ?_]
  · exact hk j
  · erw [Rect.mem_set_unit] at hi
    have h0 := hi 0
    have hj : ((mS (ml u)).emb j 0).val = (ml u).val + (j 0).val := by
      show (ml u).val + 1 * (j 0).val = _
      omega
    have hj0 : (j 0).val = 0 := by have := (j 0).isLt; have h1 : (j 0).val < 1 := this; omega
    refine hne (Fin.ext ?_)
    simp at h0
    omega

omit [FloatOps F] in
/-- A load of a piece of a kept tile. -/
theorem kept_load {t : ℕ} {Y : S1x1024x512.Idx → Elt F .bf16} {X : S8x1024x512.Idx → Elt F .bf16} (hk : Kept t Y X) (p : Fin 4) (h : Fin 2)
    {off : Fin 3 → ℕ} {inb} (hoff : off = ![(ml t).val, 256 * p.val, 256 * h.val]) :
    (fun j : S1x256x256.Idx => X ((Rect.unit (s := S8x1024x512) off S1x256x256.size inb).emb j)) = fun j => Y ((mT p h).emb j) := by
  subst hoff
  funext j
  rw [← hk ((mT p h).emb j)]
  congr 1
  funext a
  apply Fin.ext
  match a with
  | 0 => show (ml t).val + 1 * (j 0).val = (ml t).val + 1 * (0 + 1 * (j 0).val); omega
  | 1 => show 256 * p.val + 1 * (j 1).val = 0 + 1 * (256 * p.val + 1 * (j 1).val); omega
  | 2 => show 256 * h.val + 1 * (j 2).val = 0 + 1 * (256 * h.val + 1 * (j 2).val); omega

/-! ## The value of a piece of the result -/

/-- The device of `c`'s square at place `p`. -/
def mk (c : Dev nD) (p : Fin 4) : Dev nD := ⟨(4 * (c.val / 4) + p.val) % 8, Nat.mod_lt _ (by decide)⟩
/-- The place of a device in its square. -/
def rp (c : Dev nD) : Fin 4 := ⟨c.val % 4, Nat.mod_lt _ (by decide)⟩

theorem mk_rp (c : Dev nD) : mk c (rp c) = c := by revert c; decide
theorem mk_rp_zn (c : Dev nD) : mk c (rp (zn c)) = zn c := by revert c; decide
theorem mk_rp_yn (c : Dev nD) : mk c (rp (yn c)) = yn c := by revert c; decide
theorem mk_rp_zy (c : Dev nD) : mk c (rp (zn (yn c))) = zn (yn c) := by revert c; decide

/-- Piece `(p, h)` of tile `t` on device `c`: what it kept, and what came from across the first axis for that place. -/
def oval (q : Spec F) (ms : Dev nD → ℕ → S1x1024x512.Idx → Elt F .bf16) (c : Dev nD) (t : ℕ) (p : Fin 4) (h : Fin 2) : S256x256.Idx → Elt F .bf16 :=
  k0_pay8 (fun j => ms c t ((mT p h).emb j)) (q (xn (mk c p)) t h)

/-- All eight pieces. -/
def OutOK (q : Spec F) (ms : Dev nD → ℕ → S1x1024x512.Idx → Elt F .bf16) (c : Dev nD) (t : ℕ) (X : S1024x512.Idx → Elt F .bf16) : Prop :=
  ∀ p h, ∀ j, X ((oR p h).emb j) = oval q ms c t p h j

theorem outOK_of_done {q : Spec F} {ms : Dev nD → ℕ → S1x1024x512.Idx → Elt F .bf16} {c : Dev nD} {t : ℕ} {X : S1024x512.Idx → Elt F .bf16} {L : List (Fin 4 × Fin 2)}
    (hd : Done (oval q ms c t) L X) (hL : ∀ p h, (p, h) ∈ L) : OutOK q ms c t X := fun p h => hd (p, h) (hL p h)

end Cert.GradExchange
-- ==== Proof.Hop2.lean ====
/-
# Passing on what came from across the first axis

The second stage of a step: a device receives a tile's quarter from across the first axis, copies its halves beside
the landing places of the next hops, and passes each half on along another axis.
-/
module

public import proofs.«01_k».proof.Proof.Access
public import Idealize.ShloMosaic.Lib.Pipeline.Value

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev xbM : Memref sig .tc .vmem S2048x1280 .bf16 := Memref.whole cc0_scratch0
abbrev msM : Memref sig .tc .vmem S8x1024x512 .bf16 := Memref.whole cc0_scratch1

/-! ## Opening what is held -/

omit [FloatOps F] in
theorem half_open (M : Buf4) (c : Dev nD) (t : ℕ) (h : Fin 2) (X : Half F) : half M c t h X ⊢ (iprop(∃ Y : Half F, ⌜3 ≤ t → Y = X⌝ ∗ pc c M (sl t) h Y) : sProp 𝕄) := .refl

omit [FloatOps F] in
theorem half_close (M : Buf4) (c : Dev nD) (t : ℕ) (h : Fin 2) (X Y : Half F) (hY : 3 ≤ t → Y = X) : pc c M (sl t) h Y ⊢ (half M c t h X : sProp 𝕄) := by
  unfold half
  iintro H
  iexists Y
  isplitr; · ipureintro; exact hY
  iexact H

omit [FloatOps F] in
theorem fr_open (M : Buf4) (c : Dev nD) (s : Fin 12) (h : Fin 2) : fr c M s h ⊢ (iprop(∃ Y : Half F, pc c M s h Y) : sProp 𝕄) := .refl

omit [FloatOps F] in
theorem fr_close (M : Buf4) (c : Dev nD) (s : Fin 12) (h : Fin 2) (Y : Half F) : pc c M s h Y ⊢ (fr c M s h : sProp 𝕄) := by
  unfold fr
  iintro H
  iexists Y
  iexact H

omit [FloatOps F] in
theorem pos_open (k : Kd) (c : Dev nD) (t : ℕ) : pos k c t ⊢
    (iprop(atPos (ER (F := F)) (cR k c t) (t / 12) ∅ 0 ∗ atPos (ER (F := F)) (cS k c t) (t / 12) ∅ 0) : sProp 𝕄) := by
  unfold pos
  iintro ⟨H, H', -, -⟩
  isplitl [H]; · iexact H
  iexact H'

omit [FloatOps F] in
/-- A source that has left is free for the tile twelve later. -/
theorem srcX_free (q : Spec F) (c : Dev nD) (t : ℕ) : srcP q .x c t ⊢ (pair xsM c (t + 12) : sProp 𝕄) := by
  show iprop(half xsM c t 0 (q c t 0) ∗ half xsM c t 1 (q c t 1)) ⊢ _
  unfold pair
  rw [sl_add]
  exact BI.sep_mono (half_fr _ _ _ _ _) (half_fr _ _ _ _ _)

omit [FloatOps F] in
theorem grants_x (c : Dev nD) (t : ℕ) : (grants (F := F) .x (Kd.nb .x c) t : sProp 𝕄) = bigSep (Finset.Ico (hx t) (hx (t + 1))) (right .x c) := by
  show bigSep _ (fun u => right .x (xn (xn c)) u) = _
  rw [xn_xn]
omit [FloatOps F] in
theorem grants_z1 (c : Dev nD) (t : ℕ) : (grants (F := F) .z1 (Kd.nb .z1 c) t : sProp 𝕄)
    = iprop(bigSep (Finset.Ico (hh t) (hh (t + 1))) (right .z1 c) ∗ bigSep (Finset.Ico (g2 t) (g2 (t + 1))) (right .z2 c)) := by
  show iprop((bigSep _ fun u => right .z1 (zn (zn c)) u) ∗ bigSep _ fun u => right .z2 (zn (zn c)) u) = _
  rw [zn_zn]
omit [FloatOps F] in
theorem grants_y1 (c : Dev nD) (t : ℕ) : (grants (F := F) .y1 (Kd.nb .y1 c) t : sProp 𝕄)
    = iprop(bigSep (Finset.Ico (hh t) (hh (t + 1))) (right .y1 c) ∗ bigSep (Finset.Ico (g2 t) (g2 (t + 1))) (right .y2 c)) := by
  show iprop((bigSep _ fun u => right .y1 (yn (yn c)) u) ∗ bigSep _ fun u => right .y2 (yn (yn c)) u) = _
  rw [yn_yn]

theorem bump_b (a b d : ℕ) : bump (bump (cnts a b d) .z1) .y1 = cnts a (b + 1) d := by
  funext k; cases k <;> rfl
theorem bump_d (a b d : ℕ) : bump (bump (cnts a b d) .y2) .z2 = cnts a b (d + 1) := by
  funext k; cases k <;> rfl
theorem bump_a (a b d : ℕ) : bump (cnts a b d) .x = cnts (a + 1) b d := by
  funext k; cases k <;> rfl

theorem sl_2 {j t : ℕ} (h : j = t + 2) : (j + 10) % 12 = (sl t).val := by subst h; show _ = t % 12; omega
theorem sl_4 {j t : ℕ} (h : j = t + 4) : (j + 8) % 12 = (sl t).val := by subst h; show _ = t % 12; omega
theorem sl_6 {j t : ℕ} (h : j = t + 6) : (j + 6) % 12 = (sl t).val := by subst h; show _ = t % 12; omega
theorem ml_6 {j t : ℕ} (h : j = t + 6) : (j + 2) % 8 = (ml t).val := by subst h; show _ = t % 8; omega

omit [FloatOps F] in
theorem shapeCast_back {s t : Shape} {α : Type} (v : s.Idx → α) (h : s.ShapeCasts t) (h' : t.ShapeCasts s) : shapeCast s (shapeCast t v h) h' = v :=
  Idealize.ShloMosaic.shapeCast_shapeCast v h h'

theorem pay6_id (v : Half F) : k0_pay6 v = v := shapeCast_back v _ _
theorem pay7_id (v : Half F) : k0_pay7 v = v := shapeCast_back v _ _

theorem dev1_eq (c : Dev nD) (h : k0_dev1 c < nD) : (⟨k0_dev1 c, h⟩ : Dev nD) = Kd.nb .z1 c := Fin.ext (by revert c; decide)
theorem dev2_eq (c : Dev nD) (h : k0_dev2 c < nD) : (⟨k0_dev2 c, h⟩ : Dev nD) = Kd.nb .y1 c := Fin.ext (by revert c; decide)
theorem dev3_eq (c : Dev nD) (h : k0_dev3 c < nD) : (⟨k0_dev3 c, h⟩ : Dev nD) = Kd.nb .y2 c := Fin.ext (by revert c; decide)
theorem dev4_eq (c : Dev nD) (h : k0_dev4 c < nD) : (⟨k0_dev4 c, h⟩ : Dev nD) = Kd.nb .z2 c := Fin.ext (by revert c; decide)
theorem dev5_eq (c : Dev nD) (h : k0_dev5 c < nD) : (⟨k0_dev5 c, h⟩ : Dev nD) = Kd.nb .x c := Fin.ext (by revert c; decide)

section Prog
variable (i : grid0.Coords) (A1 : Memref sig .tc .vmem S2048x2048 .bf16) (H1 : A1.IsWhole) (A2 : Memref sig .tc .vmem S2048x512 .bf16) (H2 : A2.IsWhole)
  (A3 : Memref sig .tc .vmem S1024x512 .bf16) (H3 : A3.IsWhole)

/-- The second stage of a step. -/
def progB (d0 : Dev nD) (arg0 v2 v5 v8 v9 v10 v11 : BitVec 32) (k0_h2 : k0_cond2 i = 1#1) : Prog (TpuEff nD τ sig (Elt F) Λ₀ .tc) PUnit := do
  let ⟨v33, v58⟩ ← k0_part1 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 arg0 v5 v8 v9 k0_h2
  k0_part2 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 d0 v2 v5 v8 v10 v11 k0_h2 v33 v58
  Prog.lift (.enqueueDma
    ((xrM.slice (Rect.unit (s := S12x2x256x256) (k0_off8 i) S1x1x256x256.size (k0_off8_inb i k0_h2)) (fun _ => rfl)).squeeze S256x256 squeezes_S1x1x256x256_S256x256)
    (.remote (Dev.tc (⟨k0_dev2 d0, k0_dev2_lt i d0 k0_h2⟩ : Dev nD))
      ((gbM.slice (Rect.unit (s := S12x2x256x256) (k0_off8 i) S1x1x256x256.size (k0_off8_inb i k0_h2)) (fun _ => rfl)).squeeze S256x256 squeezes_S1x1x256x256_S256x256)
      (.dma ((cc0_scratch8.slice (Rect.unit (s := S5x12) (k0_off10 i) S1x1.size (k0_off10_inb i k0_h2))).squeeze S_ squeezes_S1x1_S_).sem))
    (.dma ((cc0_scratch9.slice (Rect.unit (s := S5x12) (k0_off10 i) S1x1.size (k0_off10_inb i k0_h2))).squeeze S_ squeezes_S1x1_S_).sem)
    (((Memref.isWhole_whole cc0_scratch3).wordExact_slice rfl _ (k0_off8_wordsbf16 i k0_h2)).reshape _ _)
    (((Memref.isWhole_whole cc0_scratch5).wordExact_slice rfl _ (k0_off8_wordsbf16 i k0_h2)).reshape _ _) ⟨⟨rfl, Or.inl rfl⟩, trivial⟩)
  pure ⟨⟩

end Prog

section Phase
variable (q : Spec F) (K : (Dev nD × Kd × Fin 12) × Bool → ℕ) (R : Dev nD → ℕ)

/-- One tile more received from across the first axis and passed on. -/
theorem wp_progB (c : Dev nD) (i : grid0.Coords) (A1 : Memref sig .tc .vmem S2048x2048 .bf16) (H1 : A1.IsWhole) (A2 : Memref sig .tc .vmem S2048x512 .bf16) (H2 : A2.IsWhole)
    (A3 : Memref sig .tc .vmem S1024x512 .bf16) (H3 : A3.IsWhole) (arg0 v2 v5 v8 v9 v10 v11 : BitVec 32) (h2 : k0_cond2 i = 1#1)
    (a b d e : ℕ) (hj : (i 0).val = b + 2) (hba : b < a) (hab : a ≤ b + 2) (ha : a ≤ 16) (hdb : d ≤ b) (hbd : b ≤ d + 2) (hed : e ≤ d) (hde : d ≤ e + 2) {Q : PUnit → sProp 𝕄} :
    iprop(ctx q K R ∗ St q c a b d e ∗ ∃ W, owes (c : Thread nD τ) (ow c (cnts a b d)) W)
      ⊢ iprop((St q c a (b + 1) d e -∗ (∃ W, owes (c : Thread nD τ) (ow c (cnts a (b + 1) d)) W) -∗ Q ⟨⟩)
          -∗ wp frame (wpE (defs₀ (F := F)) 𝒱₀ (c : Thread nD τ) none) Set.univ (progB i A1 H1 A2 H2 A3 H3 c arg0 v2 v5 v8 v9 v10 v11 h2) Q) := by
  have hb16 : b < 16 := by omega
  have hs := sl_2 hj
  obtain ⟨hh1, hh2, hh3, hh4⟩ := hh_step b hb16
  obtain ⟨g21, g22, g23, g24⟩ := g2_step b hb16
  have hbh : b < hh d := by unfold hh; split <;> omega
  have hoff3 : k0_off3 i = ![Kd.x.num, (sl b).val] := by rw [k0_off3_eq, hs]; rfl
  have hoff5 : k0_off5 i = ![(sl b).val, (0 : Fin 2).val, 0, 0] := by rw [k0_off5_eq, hs]; rfl
  have hoff6 : k0_off6 i = ![(sl b).val, (1 : Fin 2).val, 0, 0] := by rw [k0_off6_eq, hs]; rfl
  have hoff7 : k0_off7 i = ![Kd.z1.num, (sl b).val] := by rw [k0_off7_eq, hs]; rfl
  have hoff8 : k0_off8 i = ![(sl b).val, (1 : Fin 2).val, 0, 0] := by rw [k0_off8_eq, hs]; rfl
  have hoff9 : k0_off9 i = ![(sl b).val, (0 : Fin 2).val, 0, 0] := by rw [k0_off9_eq, hs]; rfl
  have hoff10 : k0_off10 i = ![Kd.y1.num, (sl b).val] := by rw [k0_off10_eq, hs]; rfl
  have hland : landP q .x c b ⊢ (iprop(half xrM c b 0 (q (xn c) b 0) ∗ half xrM c b 1 (q (xn c) b 1)) : sProp 𝕄) := .refl
  have hsz : (half xrM c b 0 (q (xn c) b 0) : sProp 𝕄) ⊢ srcP q .z1 c b := .refl
  have hsy : (half xrM c b 1 (q (xn c) b 1) : sProp 𝕄) ⊢ srcP q .y1 c b := .refl
  have hgx : (grants .x c b : sProp 𝕄) ⊢ bigSep (Finset.Ico (Kd.x.hb b) (Kd.x.hb (b + 1))) (right .x (Kd.x.nb c)) := .refl
  have hfg : (freeG c b : sProp 𝕄) ⊢ iprop(fr c gaM (sl b) 0 ∗ fr c gbM (sl b) 0) := .refl
  unfold progB
  rw [k0_part1_eq_skeleton, k0_part2_eq_skeleton]
  unfold k0_part1_skel k0_part2_skel
  simp only [Prog.lift, Prog.bind_op, Prog.bind_ret, Prog.pure_eq_ret]
  unfold St
  rw [run_peel (show b < e + 12 by omega) (freeG c), run_snoc hdb (heldG q c), show b + 1 + 12 = b + 12 + 1 by omega, run_snoc (show a ≤ b + 12 by omega) (pair xsM c)]
  iintro ⟨#Hctx, ⟨Gx, Gz1, Gy1, Gy2, Gz2, Lx, Lz1, Ly1, Ly2, Lz2, Xs, ⟨Fb, Fg⟩, Hx, Hg⟩, ⟨%W, HO⟩⟩ Hk
  ihave Gx := (grp_recv .x c a b b hba ha) $$ Gx
  icases Gx with ⟨Hf, Hv, Hp, Gx⟩
  ihave Hp := (pos_open .x c b) $$ Hp
  icases Hp with ⟨HpR, HpS⟩
  -- the sending of this tile is over
  iapply (wp_left q K R .x c b hb16 (cnts a b d) (fun k' _ => by cases k' <;> simp only [cnts, Kd.lag] <;> omega) (semS_eq .x (sl b) hoff3) _ _ (NS_eq _)) $$ [Hf HO HpS]
  · isplitr; · iexact Hctx
    isplitl [Hf]; · iexact Hf
    isplitl [HO]; · iexact HO
    iexact HpS
  iintro ⟨%W₁, HO⟩ HpS HrS Hsrc
  ihave Hsrc := (srcX_free q c b) $$ Hsrc
  -- this tile's quarter arrives
  iapply (wp_arrive q K R .x c b hb16 (cnts a b d) (fun k' hk' => by cases k' <;> simp only [cnts, Kd.lag] at hk' ⊢ <;> omega) (semR_eq .x (sl b) hoff3) _ _ (NS_eq _)) $$ [Hv HO HpR]
  · isplitr; · iexact Hctx
    isplitl [Hv]; · iexact Hv
    isplitl [HO]; · iexact HO
    iexact HpR
  iintro ⟨%W₂, HO⟩ HpR HrR Hland Hgr
  ihave Hgr := hgx $$ Hgr
  ihave Hpos := (pos_next .x c b) $$ [HpR HpS HrR HrS]
  · isplitl [HpR]; · iexact HpR
    isplitl [HpS]; · iexact HpS
    isplitl [HrR]; · iexact HrR
    iexact HrS
  ihave Gx := Gx $$ Hpos
  ihave Gx := (grp_grant .x c a (b + 1) b (by show a ≤ hx b; unfold hx; split <;> omega) (by show hx b ≤ hx (b + 1); exact (hx_step b hb16).1)) $$ [Gx Hgr]
  · isplitl [Gx]; · iexact Gx
    iexact Hgr
  ihave Hland := hland $$ Hland
  icases Hland with ⟨Hx0, Hx1⟩
  ihave Hx0 := (half_open _ _ _ _ _) $$ Hx0
  ihave Hx1 := (half_open _ _ _ _ _) $$ Hx1
  icases Hx0 with ⟨%Y0, %hY0, Hx0⟩
  icases Hx1 with ⟨%Y1, %hY1, Hx1⟩
  ihave Fb := hfg $$ Fb
  icases Fb with ⟨Fa, Fb⟩
  ihave Fa := (fr_open _ _ _ _) $$ Fa
  ihave Fb := (fr_open _ _ _ _) $$ Fb
  icases Fa with ⟨%Za, Fa⟩
  icases Fb with ⟨%Zb, Fb⟩
  -- its halves are copied beside the next hops' landing places
  iapply (wp_load_pc c xrM (sl b) 0 hoff5 Y0) $$ Hx0
  iintro Hx0
  iapply (wp_load_pc c gaM (sl b) 0 hoff5 Za) $$ Fa
  iintro Fa
  iapply (wp_store_pc c gaM (sl b) 0 hoff5 Za _) $$ Fa
  iintro Fa
  iapply (wp_load_pc c xrM (sl b) 1 hoff6 Y1) $$ Hx1
  iintro Hx1
  iapply (wp_load_pc c gbM (sl b) 0 hoff5 Zb) $$ Fb
  iintro Fb
  iapply (wp_store_pc c gbM (sl b) 0 hoff5 Zb _) $$ Fb
  iintro Fb
  ihave Fa := (half_close gaM c b 0 (q (xn c) b 0) _ fun h3 => (pay6_id Y0).trans (hY0 h3)) $$ Fa
  ihave Fb := (half_close gbM c b 0 (q (xn c) b 1) _ fun h3 => (pay7_id Y1).trans (hY1 h3)) $$ Fb
  ihave Hx0 := (half_close xrM c b 0 (q (xn c) b 0) _ hY0) $$ Hx0
  ihave Hx1 := (half_close xrM c b 1 (q (xn c) b 1) _ hY1) $$ Hx1
  ihave Hx0 := hsz $$ Hx0
  ihave Hx1 := hsy $$ Hx1
  -- the landing places handed over with the two hops
  ihave H := (lands_grant .z1 c b d d e (hh b) (hh (b + 1)) hh1 (by omega) (by omega) (by omega) hh3) $$ [Gz1 Lz1]
  · isplitl [Gz1]; · iexact Gz1
    iexact Lz1
  icases H with ⟨Rz1, Gz1, Lz1⟩
  ihave H := (lands_grant .y1 c b d d e (hh b) (hh (b + 1)) hh1 (by omega) (by omega) (by omega) hh3) $$ [Gy1 Ly1]
  · isplitl [Gy1]; · iexact Gy1
    iexact Ly1
  icases H with ⟨Ry1, Gy1, Ly1⟩
  ihave H := (lands_grant .y2 c d e d e (g2 b) (g2 (b + 1)) g21 (by omega) (by omega) (by omega) (Nat.zero_le _)) $$ [Gy2 Ly2]
  · isplitl [Gy2]; · iexact Gy2
    iexact Ly2
  icases H with ⟨Ry2, Gy2, Ly2⟩
  ihave H := (lands_grant .z2 c d e d e (g2 b) (g2 (b + 1)) g21 (by omega) (by omega) (by omega) (Nat.zero_le _)) $$ [Gz2 Lz2]
  · isplitl [Gz2]; · iexact Gz2
    iexact Lz2
  icases H with ⟨Rz2, Gz2, Lz2⟩
  -- the first half goes along the third axis
  ihave Gz1 := (grp_send .z1 c b d d hb16 hbh hdb (by omega)) $$ Gz1
  icases Gz1 with ⟨Ht, Hr, Hrs, Gz1⟩
  iapply (wp_hop_half q K R .z1 c b hb16 (cnts a b d) rfl _ (dev1_eq c _) xrM gaM 0 1 (q (xn c) b 0) rfl rfl (by show half gaM _ b 1 (q (xn (zn (zn c))) b 0) = _; rw [zn_zn])
    rfl hoff9 hoff8 (semS_eq .z1 (sl b) hoff7) (semR_eq .z1 (sl b) hoff7)) $$ [Hx0 Hr Rz1 Rz2 Ht Hrs HO]
  · isplitr; · iexact Hctx
    isplitl [Hx0]; · iexact Hx0
    isplitl [Hr]; · iexact Hr
    isplitl [Rz1 Rz2]
    · rw [grants_z1]
      isplitl [Rz1]; · iexact Rz1
      iexact Rz2
    isplitl [Ht]; · iexact Ht
    isplitl [Hrs]; · iexact Hrs
    iexact HO
  iintro Hf ⟨%W₃, HO⟩
  ihave Gz1 := Gz1 $$ Hf
  -- the second half goes along the second axis
  ihave Gy1 := (grp_send .y1 c b d d hb16 hbh hdb (by omega)) $$ Gy1
  icases Gy1 with ⟨Ht, Hr, Hrs, Gy1⟩
  iapply (wp_hop_half q K R .y1 c b hb16 (bump (cnts a b d) .z1) rfl _ (dev2_eq c _) xrM gbM 1 1 (q (xn c) b 1) rfl rfl (by show half gbM _ b 1 (q (xn (yn (yn c))) b 1) = _; rw [yn_yn])
    rfl hoff8 hoff8 (semS_eq .y1 (sl b) hoff10) (semR_eq .y1 (sl b) hoff10)) $$ [Hx1 Hr Ry1 Ry2 Ht Hrs HO]
  · isplitr; · iexact Hctx
    isplitl [Hx1]; · iexact Hx1
    isplitl [Hr]; · iexact Hr
    isplitl [Ry1 Ry2]
    · rw [grants_y1]
      isplitl [Ry1]; · iexact Ry1
      iexact Ry2
    isplitl [Ht]; · iexact Ht
    isplitl [Hrs]; · iexact Hrs
    iexact HO
  iintro Hf ⟨%W₄, HO⟩
  ihave Gy1 := Gy1 $$ Hf
  rw [wp_ret]
  imodintro
  iapply Hk $$ [-HO] [HO]
  · isplitl [Gx]; · iexact Gx
    isplitl [Gz1]; · iexact Gz1
    isplitl [Gy1]; · iexact Gy1
    isplitl [Gy2]; · iexact Gy2
    isplitl [Gz2]; · iexact Gz2
    isplitl [Lx]; · iexact Lx
    isplitl [Lz1]; · iexact Lz1
    isplitl [Ly1]; · iexact Ly1
    isplitl [Ly2]; · iexact Ly2
    isplitl [Lz2]; · iexact Lz2
    isplitl [Xs Hsrc]
    · isplitl [Xs]; · iexact Xs
      iexact Hsrc
    isplitl [Fg]; · iexact Fg
    isplitl [Hx]; · iexact Hx
    isplitl [Hg]; · iexact Hg
    unfold heldG
    isplitl [Fa]; · iexact Fa
    iexact Fb
  iexists W₄
  rw [bump_b]
  iexact HO

end Phase

end Cert.GradExchange
-- ==== Proof.Hop1.lean ====
/-
# Starting a tile

The first stage of a step: the device's own share of a tile is multiplied out, the half that stays is kept, and the
quarter that belongs across the first axis is sent there. Before the first step the two parts of the left factor that
are needed are copied out once.
-/
module

public import proofs.«01_k».proof.Proof.Hop2

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The buffer of the left factor's two parts holds `w0` and `w1`. -/
def XbOK (w0 : S2048x1024.Idx → Elt F .bf16) (w1 : S2048x256.Idx → Elt F .bf16) (X : S2048x1280.Idx → Elt F .bf16) : Prop :=
  (fun j : S2048x1024.Idx => X ((Rect.unit (s := S2048x1280) ![0, 0] S2048x1024.size inb_S2048x1280_S2048x1024_0_0).emb j)) = w0
    ∧ (fun j : S2048x256.Idx => X ((Rect.unit (s := S2048x1280) ![0, 1024] S2048x256.size inb_S2048x1280_S2048x256_0_1024).emb j)) = w1

omit [FloatOps F] in
theorem xbOK_of_puts {w0 : S2048x1024.Idx → Elt F .bf16} {w1 : S2048x256.Idx → Elt F .bf16} {X X' X'' : S2048x1280.Idx → Elt F .bf16}
    (h0 : Put (Rect.unit (s := S2048x1280) ![0, 0] S2048x1024.size inb_S2048x1280_S2048x1024_0_0) w0 X X') (h1 : Put (Rect.unit (s := S2048x1280) ![0, 1024] S2048x256.size inb_S2048x1280_S2048x256_0_1024) w1 X' X'') : XbOK w0 w1 X'' := by
  refine ⟨funext fun j => ?_, funext fun j => h1.1 j⟩
  refine (h1.2 _ fun hi => ?_).trans (h0.1 j)
  erw [Rect.mem_set_unit] at hi
  have h := (hi 1).1
  have hv : (((Rect.unit (s := S2048x1280) ![0, 0] S2048x1024.size inb_S2048x1280_S2048x1024_0_0)).emb j 1).val = 0 + 1 * (j 1).val := rfl
  have hj : (j 1).val < 1024 := (j 1).isLt
  change 1024 ≤ (((Rect.unit (s := S2048x1280) ![0, 0] S2048x1024.size inb_S2048x1280_S2048x1024_0_0)).emb j 1).val at h
  omega

omit [FloatOps F] in
theorem read_all (Y : S2048x512.Idx → Elt F .bf16) {inb} : (fun j : S2048x512.Idx => Y ((Rect.unit (s := S2048x512) ![0, 0] S2048x512.size inb).emb j)) = Y := by
  funext j
  congr 1
  funext a
  apply Fin.ext
  match a with
  | 0 => show 0 + 1 * (j 0).val = (j 0).val; omega
  | 1 => show 0 + 1 * (j 1).val = (j 1).val; omega

omit [FloatOps F] in
theorem half_made (M : Buf4) (c : Dev nD) (t : ℕ) (h : Fin 2) (X Y : Half F) : pc c M (sl t) h Y ⊢ (iprop(⌜3 ≤ t → Y = X⌝ -∗ half M c t h X) : sProp 𝕄) := by
  iintro H %hY
  iapply (half_close M c t h X Y hY)
  iexact H

section Prog
variable (i : grid0.Coords) (A1 : Memref sig .tc .vmem S2048x2048 .bf16) (H1 : A1.IsWhole) (A2 : Memref sig .tc .vmem S2048x512 .bf16) (H2 : A2.IsWhole)
  (A3 : Memref sig .tc .vmem S1024x512 .bf16) (H3 : A3.IsWhole)

/-- What precedes the first step. -/
def prog0 (d0 : Dev nD) (k0_h1 : k0_cond1 i = 1#1) : Prog (TpuEff nD τ sig (Elt F) Λ₀ .tc) PUnit := do
  let v35 ← Prog.lift (.load A1 (Rect.unit (s := S2048x2048) (k0_off1 d0) S2048x1024.size (k0_off1_inb i d0 k0_h1)).toLoadRect (View.loadsAt_vmem h_S2048x1024))
  let v42 ← Prog.lift (.load A1 (Rect.unit (s := S2048x2048) (k0_off2 d0) S2048x256.size (k0_off2_inb i d0 k0_h1)).toLoadRect (View.loadsAt_vmem h_S2048x256))
  let _ ← Prog.lift (.load xbM (Rect.unit (s := S2048x1280) ![0, 0] S2048x1024.size inb_S2048x1280_S2048x1024_0_0).toLoadRect (View.loadsAt_vmem h_S2048x1024))
  Prog.lift (.store xbM (Rect.unit (s := S2048x1280) ![0, 0] S2048x1024.size inb_S2048x1280_S2048x1024_0_0) (k0_pay1 v35) Finset.univ (View.stores_vmem h_S2048x1024 ((Memref.isWhole_whole cc0_scratch0).storeExact_slice rfl _ packedbf16_S2048x1280_S2048x1024_0_0) (fun _ => rfl)) (.inl rfl))
  let _ ← Prog.lift (.load xbM (Rect.unit (s := S2048x1280) ![0, 1024] S2048x256.size inb_S2048x1280_S2048x256_0_1024).toLoadRect (View.loadsAt_vmem h_S2048x256))
  Prog.lift (.store xbM (Rect.unit (s := S2048x1280) ![0, 1024] S2048x256.size inb_S2048x1280_S2048x256_0_1024) (k0_pay2 v42) Finset.univ (View.stores_vmem h_S2048x256 ((Memref.isWhole_whole cc0_scratch0).storeExact_slice rfl _ packedbf16_S2048x1280_S2048x256_0_1024) (fun _ => rfl)) (.inl rfl))
  pure ⟨⟩

/-- The first stage of a step. -/
def progA (d0 : Dev nD) (arg0 v5 v8 v9 : BitVec 32) (k0_h5 : k0_cond5 i = 1#1) : Prog (TpuEff nD τ sig (Elt F) Λ₀ .tc) PUnit := do
  let ⟨v32, v34⟩ ← k0_part9 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 arg0 d0 v5 v8 v9 k0_h5
  let v63 ← Prog.lift (.load xbM (Rect.unit (s := S2048x1280) ![0, 0] S2048x1024.size inb_S2048x1280_S2048x1024_0_0).toLoadRect (View.loadsAt_vmem h_S2048x1024))
  let _ ← Prog.lift (.load msM (Rect.unit (s := S8x1024x512) (k0_off43 i) S1x1024x512.size (k0_off43_inb i k0_h5)).toLoadRect (View.loadsAt_vmem h_S1x1024x512))
  Prog.lift (.store msM (Rect.unit (s := S8x1024x512) (k0_off43 i) S1x1024x512.size (k0_off43_inb i k0_h5)) (k0_pay5 v34 v63) Finset.univ (View.stores_vmem h_S1x1024x512 ((Memref.isWhole_whole cc0_scratch1).storeExact_slice rfl _ (k0_off43_packedbf16 i k0_h5)) (fun _ => rfl)) (.inl rfl))
  pure ⟨⟩

end Prog

theorem off1_in (c : Dev nD) : ∀ a, k0_off1 c a + S2048x1024.size a ≤ S2048x2048.size a := by rw [k0_off1_eq]; revert c; decide
theorem off2_in (c : Dev nD) : ∀ a, k0_off2 c a + S2048x256.size a ≤ S2048x2048.size a := by rw [k0_off2_eq]; revert c; decide

/-- The columns of the left factor that the device's own rows of the result need. -/
def xh (X1 : Dev nD → S2048x2048.Idx → Elt F .bf16) (c : Dev nD) : S2048x1024.Idx → Elt F .bf16 :=
  k0_pay1 fun j => X1 c ((Rect.unit (s := S2048x2048) (k0_off1 c) S2048x1024.size (off1_in c)).emb j)
/-- The columns whose product is sent across the first axis. -/
def xqv (X1 : Dev nD → S2048x2048.Idx → Elt F .bf16) (c : Dev nD) : S2048x256.Idx → Elt F .bf16 :=
  k0_pay2 fun j => X1 c ((Rect.unit (s := S2048x2048) (k0_off2 c) S2048x256.size (off2_in c)).emb j)

/-- What a device sends across the first axis. -/
def qv (X1 : Dev nD → S2048x2048.Idx → Elt F .bf16) (X2 : Dev nD → ℕ → S2048x512.Idx → Elt F .bf16) : Spec F := fun c t h =>
  if h = 0 then k0_pay17 (X2 c t) (xqv X1 c) else k0_pay18 (X2 c t) (xqv X1 c)
/-- What a device keeps. -/
def mv (X1 : Dev nD → S2048x2048.Idx → Elt F .bf16) (X2 : Dev nD → ℕ → S2048x512.Idx → Elt F .bf16) (c : Dev nD) (t : ℕ) : S1x1024x512.Idx → Elt F .bf16 :=
  k0_pay5 (k0_pay15 (X2 c t)) (xh X1 c)

section Phase
variable (X1 : Dev nD → S2048x2048.Idx → Elt F .bf16) (X2 : Dev nD → ℕ → S2048x512.Idx → Elt F .bf16) (K : (Dev nD × Kd × Fin 12) × Bool → ℕ) (R : Dev nD → ℕ)

/-- The two parts of the left factor are copied out. -/
theorem wp_prog0 (c : Dev nD) (i : grid0.Coords) (A1 : Memref sig .tc .vmem S2048x2048 .bf16) (h1 : k0_cond1 i = 1#1)
    (Xb : S2048x1280.Idx → Elt F .bf16) {Q : PUnit → sProp 𝕄} :
    iprop(owns (c : Thread nD τ) A1 fullShare (X1 c) ∗ owns (c : Thread nD τ) xbM fullShare Xb)
      ⊢ iprop((owns (c : Thread nD τ) A1 fullShare (X1 c) -∗ (∃ X, ⌜XbOK (xh X1 c) (xqv X1 c) X⌝ ∗ owns (c : Thread nD τ) xbM fullShare X) -∗ Q ⟨⟩)
          -∗ wp frame (wpE (defs₀ (F := F)) 𝒱₀ (c : Thread nD τ) none) Set.univ (prog0 i A1 c h1) Q) := by
  unfold prog0
  simp only [Prog.lift, Prog.bind_op, Prog.bind_ret, Prog.pure_eq_ret]
  iintro ⟨H1, Hb⟩ Hk
  iapply (wp_load_o c A1 (X1 c)) $$ H1
  iintro H1
  iapply (wp_load_o c A1 (X1 c)) $$ H1
  iintro H1
  iapply (wp_load_o c xbM Xb) $$ Hb
  iintro Hb
  iapply (wp_store_o c xbM Xb _) $$ Hb
  iintro %X' %hp0 Hb
  iapply (wp_load_o c xbM X') $$ Hb
  iintro Hb
  iapply (wp_store_o c xbM X' _) $$ Hb
  iintro %X'' %hp1 Hb
  rw [wp_ret]
  imodintro
  iapply Hk $$ H1 [Hb]
  iexists X''
  isplitr; · ipureintro; exact xbOK_of_puts hp0 hp1
  iexact Hb

set_option maxHeartbeats 800000 in
/-- One tile more started. -/
theorem wp_progA (c : Dev nD) (i : grid0.Coords) (A1 : Memref sig .tc .vmem S2048x2048 .bf16) (H1 : A1.IsWhole) (A2 : Memref sig .tc .vmem S2048x512 .bf16) (H2 : A2.IsWhole)
    (A3 : Memref sig .tc .vmem S1024x512 .bf16) (H3 : A3.IsWhole) (arg0 v5 v8 v9 : BitVec 32) (h5 : k0_cond5 i = 1#1)
    (a b d e : ℕ) (hj : (i 0).val = a) (ha : a < 16) (hba : b ≤ a) (hab : a ≤ b + 1) (hb0 : a = 0 ∨ b + 1 = a) (he : a ≤ e + 5) (hea : e ≤ a)
    (Xb : S2048x1280.Idx → Elt F .bf16) (hXb : XbOK (xh X1 c) (xqv X1 c) Xb) (Xm : S8x1024x512.Idx → Elt F .bf16)
    (hm : ∀ t, e ≤ t → t < a → Kept t (mv X1 X2 c t) Xm) {Q : PUnit → sProp 𝕄} :
    iprop(ctx (qv X1 X2) K R ∗ St (qv X1 X2) c a b d e ∗ (∃ W, owes (c : Thread nD τ) (ow c (cnts a b d)) W) ∗ owns (c : Thread nD τ) A2 fullShare (X2 c a)
        ∗ owns (c : Thread nD τ) xbM fullShare Xb ∗ owns (c : Thread nD τ) msM fullShare Xm)
      ⊢ iprop((St (qv X1 X2) c (a + 1) b d e -∗ (∃ W, owes (c : Thread nD τ) (ow c (cnts (a + 1) b d)) W) -∗ owns (c : Thread nD τ) A2 fullShare (X2 c a)
            -∗ owns (c : Thread nD τ) xbM fullShare Xb
            -∗ (∃ X, ⌜∀ t, e ≤ t → t < a + 1 → Kept t (mv X1 X2 c t) X⌝ ∗ owns (c : Thread nD τ) msM fullShare X) -∗ Q ⟨⟩)
          -∗ wp frame (wpE (defs₀ (F := F)) 𝒱₀ (c : Thread nD τ) none) Set.univ (progA i A1 H1 A2 H2 A3 H3 c arg0 v5 v8 v9 h5) Q) := by
  have hs : (i 0).val % 12 = (sl a).val := by rw [hj]; rfl
  have hml : (i 0).val % 8 = (ml a).val := by rw [hj]; rfl
  obtain ⟨hx1, hx2, hx3, hx4, hx5⟩ := hx_step a ha
  have hah : a < hx b := by unfold hx; split <;> omega
  have hoff39 : k0_off39 i = ![(sl a).val, (0 : Fin 2).val, 0, 0] := by rw [k0_off39_eq, hs]; rfl
  have hoff40 : k0_off40 i = ![(sl a).val, (1 : Fin 2).val, 0, 0] := by rw [k0_off40_eq, hs]; rfl
  have hoff41 : k0_off41 i = ![Kd.x.num, (sl a).val] := by rw [k0_off41_eq, hs]; rfl
  have hoff42 : k0_off42 i = ![(sl a).val, 0, 0, 0] := by rw [k0_off42_eq, hs]
  have hoff43 : k0_off43 i = ![(ml a).val, 0, 0] := by rw [k0_off43_eq, hml]
  have hpr : (pair xsM c a : sProp 𝕄) ⊢ iprop(fr c xsM (sl a) 0 ∗ fr c xsM (sl a) 1) := .refl
  have hsrc : (iprop(half xsM c a 0 (qv X1 X2 c a 0) ∗ half xsM c a 1 (qv X1 X2 c a 1)) : sProp 𝕄) ⊢ srcP (qv X1 X2) .x c a := .refl
  have hx0 : k0_pay17 (fun j => X2 c a ((Rect.unit (s := S2048x512) ![0, 0] ![2048, 512] inb_S2048x512_S2048x512_0_0).emb j))
      (fun j => Xb ((Rect.unit (s := S2048x1280) ![0, 1024] ![2048, 256] inb_S2048x1280_S2048x256_0_1024).emb j)) = qv X1 X2 c a 0 :=
    congrArg₂ k0_pay17 (read_all _) hXb.2
  have hx1' : k0_pay18 (fun j => X2 c a ((Rect.unit (s := S2048x512) ![0, 0] ![2048, 512] inb_S2048x512_S2048x512_0_0).emb j))
      (fun j => Xb ((Rect.unit (s := S2048x1280) ![0, 1024] ![2048, 256] inb_S2048x1280_S2048x256_0_1024).emb j)) = qv X1 X2 c a 1 :=
    congrArg₂ k0_pay18 (read_all _) hXb.2
  have hmv : k0_pay5 (k0_pay15 (fun j => X2 c a ((Rect.unit (s := S2048x512) ![0, 0] S2048x512.size inb_S2048x512_S2048x512_0_0).emb j)))
      (fun j => Xb ((Rect.unit (s := S2048x1280) ![0, 0] S2048x1024.size inb_S2048x1280_S2048x1024_0_0).emb j)) = mv X1 X2 c a := by
    rw [read_all, hXb.1]; rfl
  unfold progA
  rw [k0_part9_eq_skeleton]
  unfold k0_part9_skel
  simp only [Prog.lift, Prog.bind_op, Prog.bind_ret, Prog.pure_eq_ret]
  unfold St
  rw [run_peel (show a < b + 12 by omega) (pair xsM c)]
  iintro ⟨#Hctx, ⟨Gx, Gz1, Gy1, Gy2, Gz2, Lx, Lz1, Ly1, Ly2, Lz2, ⟨Xa, Xs⟩, Fg, Hx, Hg⟩, ⟨%W, HO⟩, H2, Hb, Hm⟩ Hk
  ihave Xa := hpr $$ Xa
  icases Xa with ⟨Xa0, Xa1⟩
  ihave Xa0 := (fr_open _ _ _ _) $$ Xa0
  ihave Xa1 := (fr_open _ _ _ _) $$ Xa1
  icases Xa0 with ⟨%Y0, Xa0⟩
  icases Xa1 with ⟨%Y1, Xa1⟩
  iapply (wp_load_o c A2 (X2 c a)) $$ H2
  iintro H2
  iapply (wp_load_o c xbM Xb) $$ Hb
  iintro Hb
  iapply (wp_load_pc c xsM (sl a) 0 hoff39 Y0) $$ Xa0
  iintro Xa0
  iapply (wp_store_pc c xsM (sl a) 0 hoff39 Y0 _) $$ Xa0
  iintro Xa0
  iapply (wp_load_pc c xsM (sl a) 1 hoff40 Y1) $$ Xa1
  iintro Xa1
  iapply (wp_store_pc c xsM (sl a) 1 hoff40 Y1 _) $$ Xa1
  iintro Xa1
  ihave Xa0 := (half_made xsM c a 0 (qv X1 X2 c a 0) _) $$ Xa0 []
  · ipureintro; exact fun _ => hx0
  ihave Xa1 := (half_made xsM c a 1 (qv X1 X2 c a 1) _) $$ Xa1 []
  · ipureintro; exact fun _ => hx1'
  ihave Hsrc := hsrc $$ [Xa0 Xa1]
  · isplitl [Xa0]; · iexact Xa0
    iexact Xa1
  ihave H := (lands_grant .x c a b b e (hx a) (hx (a + 1)) hx1 (by omega) (by omega) (by omega) hx3) $$ [Gx Lx]
  · isplitl [Gx]; · iexact Gx
    iexact Lx
  icases H with ⟨Rx, Gx, Lx⟩
  ihave G := (grp_send .x c a b b ha hah hba (by omega)) $$ Gx
  icases G with ⟨Ht, Hr, Hrs, Gx⟩
  iapply (wp_hop_slot (qv X1 X2) K R .x c a ha (cnts a b d) rfl _ (dev5_eq c _) xsM xrM (qv X1 X2 c a 0) (qv X1 X2 c a 1) rfl rfl
    (by show iprop(half xrM _ a 0 (qv X1 X2 (xn (xn c)) a 0) ∗ half xrM _ a 1 (qv X1 X2 (xn (xn c)) a 1)) = _; rw [xn_xn])
    rfl hoff42 (semS_eq .x (sl a) hoff41) (semR_eq .x (sl a) hoff41)) $$ [Hsrc Hr Rx Ht Hrs HO]
  · isplitr; · iexact Hctx
    isplitl [Hsrc]; · iexact Hsrc
    isplitl [Hr]; · iexact Hr
    isplitl [Rx]
    · rw [grants_x]
      iexact Rx
    isplitl [Ht]; · iexact Ht
    isplitl [Hrs]; · iexact Hrs
    iexact HO
  iintro Hf ⟨%W1, HO⟩
  ihave Gx := Gx $$ Hf
  iapply (wp_load_o c xbM Xb) $$ Hb
  iintro Hb
  iapply (wp_load_o c msM Xm) $$ Hm
  iintro Hm
  iapply (wp_store_o c msM Xm _) $$ Hm
  iintro %X' %hp Hm
  have hkept : ∀ t, e ≤ t → t < a + 1 → Kept t (mv X1 X2 c t) X' := by
    intro t ht ht'
    rcases Nat.lt_succ_iff_lt_or_eq.mp ht' with h | rfl
    · refine kept_old hoff43 hp (fun hne => ?_) (hm t ht h)
      have := congrArg Fin.val hne
      change t % 8 = a % 8 at this
      omega
    · rw [← hmv]
      exact kept_new hoff43 hp
  rw [wp_ret]
  imodintro
  iapply Hk $$ [-HO H2 Hb Hm] [HO] H2 Hb [Hm]
  · isplitl [Gx]; · iexact Gx
    isplitl [Gz1]; · iexact Gz1
    isplitl [Gy1]; · iexact Gy1
    isplitl [Gy2]; · iexact Gy2
    isplitl [Gz2]; · iexact Gz2
    isplitl [Lx]; · iexact Lx
    isplitl [Lz1]; · iexact Lz1
    isplitl [Ly1]; · iexact Ly1
    isplitl [Ly2]; · iexact Ly2
    isplitl [Lz2]; · iexact Lz2
    isplitl [Xs]; · iexact Xs
    isplitl [Fg]; · iexact Fg
    isplitl [Hx]; · iexact Hx
    iexact Hg
  · iexists W1
    rw [bump_a]
    iexact HO
  iexists X'
  isplitr; · ipureintro; exact hkept
  iexact Hm

end Phase

end Cert.GradExchange
-- ==== Proof.Hop3.lean ====
/-
# Passing on once more

The third stage of a step: a device receives what its two neighbours passed on, and passes each of the two slots it
then has on along the other axis.
-/
module

public import proofs.«01_k».proof.Proof.Hop2

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Prog
variable (i : grid0.Coords) (A1 : Memref sig .tc .vmem S2048x2048 .bf16) (H1 : A1.IsWhole) (A2 : Memref sig .tc .vmem S2048x512 .bf16) (H2 : A2.IsWhole)
  (A3 : Memref sig .tc .vmem S1024x512 .bf16) (H3 : A3.IsWhole)

/-- The third stage of a step. -/
def progD (d0 : Dev nD) (arg0 v2 v5 v8 v10 v11 : BitVec 32) (k0_h3 : k0_cond3 i = 1#1) : Prog (TpuEff nD τ sig (Elt F) Λ₀ .tc) PUnit := do
  k0_part3 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 arg0 v2 v5 v10 k0_h3
  let ⟨v84, c0_i32_71⟩ ← k0_part4 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 d0 v2 v8 v11 k0_h3
  Prog.lift (.enqueueDma
    ((gbM.slice (Rect.unit (s := S12x2x256x256) (k0_off16 i) S1x2x256x256.size (k0_off16_inb i k0_h3)) (fun _ => rfl)).squeeze S2x256x256 squeezes_S1x2x256x256_S2x256x256)
    (.remote (Dev.tc (⟨k0_dev4 d0, k0_dev4_lt i d0 k0_h3⟩ : Dev nD))
      ((hzM.slice (Rect.unit (s := S12x2x256x256) (k0_off16 i) S1x2x256x256.size (k0_off16_inb i k0_h3)) (fun _ => rfl)).squeeze S2x256x256 squeezes_S1x2x256x256_S2x256x256)
      (.dma ((cc0_scratch8.slice (Rect.unit (s := S5x12) (k0_off17 i) S1x1.size (k0_off17_inb i k0_h3))).squeeze S_ squeezes_S1x1_S_).sem))
    (.dma ((cc0_scratch9.slice (Rect.unit (s := S5x12) (k0_off17 i) S1x1.size (k0_off17_inb i k0_h3))).squeeze S_ squeezes_S1x1_S_).sem)
    (((Memref.isWhole_whole cc0_scratch5).wordExact_slice rfl _ (k0_off16_wordsbf16 i k0_h3)).reshape _ _)
    (((Memref.isWhole_whole cc0_scratch7).wordExact_slice rfl _ (k0_off16_wordsbf16 i k0_h3)).reshape _ _) ⟨⟨rfl, Or.inl rfl⟩, trivial⟩)
  pure ⟨⟩

end Prog

section Phase
variable (q : Spec F) (K : (Dev nD × Kd × Fin 12) × Bool → ℕ) (R : Dev nD → ℕ)

/-- One tile more received along the other two axes and passed on again. -/
theorem wp_progD (c : Dev nD) (i : grid0.Coords) (A1 : Memref sig .tc .vmem S2048x2048 .bf16) (H1 : A1.IsWhole) (A2 : Memref sig .tc .vmem S2048x512 .bf16) (H2 : A2.IsWhole)
    (A3 : Memref sig .tc .vmem S1024x512 .bf16) (H3 : A3.IsWhole) (arg0 v2 v5 v8 v10 v11 : BitVec 32) (h3 : k0_cond3 i = 1#1)
    (a b d e : ℕ) (hj : (i 0).val = d + 4) (hab : a < 16 → b < a) (hdb : d < b) (hb : b ≤ 16) (hbd : b ≤ d + 3) (hed : e ≤ d) (hde : d ≤ e + 2) {Q : PUnit → sProp 𝕄} :
    iprop(ctx q K R ∗ St q c a b d e ∗ ∃ W, owes (c : Thread nD τ) (ow c (cnts a b d)) W)
      ⊢ iprop((St q c a b (d + 1) e -∗ (∃ W, owes (c : Thread nD τ) (ow c (cnts a b (d + 1))) W) -∗ Q ⟨⟩)
          -∗ wp frame (wpE (defs₀ (F := F)) 𝒱₀ (c : Thread nD τ) none) Set.univ (progD i A1 H1 A2 H2 A3 H3 c arg0 v2 v5 v8 v10 v11 h3) Q) := by
  have hd16 : d < 16 := by omega
  have hs := sl_4 hj
  obtain ⟨hh1, hh2, hh3, hh4⟩ := hh_step d hd16
  obtain ⟨g21, g22, g23, g24⟩ := g2_step d hd16
  have hbh : b ≤ hh d := by unfold hh; split <;> omega
  have hoff11 : k0_off11 i = ![Kd.z1.num, (sl d).val] := by rw [k0_off11_eq, hs]; rfl
  have hoff14 : k0_off14 i = ![Kd.y1.num, (sl d).val] := by rw [k0_off14_eq, hs]; rfl
  have hoff15 : k0_off15 i = ![Kd.y2.num, (sl d).val] := by rw [k0_off15_eq, hs]; rfl
  have hoff16 : k0_off16 i = ![(sl d).val, 0, 0, 0] := by rw [k0_off16_eq, hs]
  have hoff17 : k0_off17 i = ![Kd.z2.num, (sl d).val] := by rw [k0_off17_eq, hs]; rfl
  have hgz : (grants .z1 c d : sProp 𝕄) ⊢ iprop(bigSep (Finset.Ico (Kd.z1.hb d) (Kd.z1.hb (d + 1))) (right .z1 (Kd.z1.nb c)) ∗ bigSep (Finset.Ico (Kd.z2.hb d) (Kd.z2.hb (d + 1))) (right .z2 (Kd.z2.nb c))) := .refl
  have hgy : (grants .y1 c d : sProp 𝕄) ⊢ iprop(bigSep (Finset.Ico (Kd.y1.hb d) (Kd.y1.hb (d + 1))) (right .y1 (Kd.y1.nb c)) ∗ bigSep (Finset.Ico (Kd.y2.hb d) (Kd.y2.hb (d + 1))) (right .y2 (Kd.y2.nb c))) := .refl
  have hsz : srcP q .z1 c d ⊢ (half xrM c d 0 (q (xn c) d 0) : sProp 𝕄) := .refl
  have hsy : srcP q .y1 c d ⊢ (half xrM c d 1 (q (xn c) d 1) : sProp 𝕄) := .refl
  have hfg : heldG q c d ⊢ (iprop(half gaM c d 0 (q (xn c) d 0) ∗ half gbM c d 0 (q (xn c) d 1)) : sProp 𝕄) := .refl
  have hy2 : (iprop(half gaM c d 0 (q (xn c) d 0) ∗ landP q .z1 c d) : sProp 𝕄) ⊢ srcP q .y2 c d := .refl
  have hz2 : (iprop(half gbM c d 0 (q (xn c) d 1) ∗ landP q .y1 c d) : sProp 𝕄) ⊢ srcP q .z2 c d := .refl
  unfold progD
  rw [k0_part3_eq_skeleton, k0_part4_eq_skeleton]
  unfold k0_part3_skel k0_part4_skel
  simp only [Prog.lift, Prog.bind_op, Prog.bind_ret, Prog.pure_eq_ret]
  unfold St
  rw [run_peel hdb (heldG q c), run_snoc hed (heldX q c)]
  iintro ⟨#Hctx, ⟨Gx, Gz1, Gy1, Gy2, Gz2, Lx, Lz1, Ly1, Ly2, Lz2, Xs, Fg, Hx, ⟨Hb, Hg⟩⟩, ⟨%W, HO⟩⟩ Hk
  ihave Hb := hfg $$ Hb
  icases Hb with ⟨Ha, Hb⟩
  -- hop z1 of this tile has left, and that of the neighbour arrives
  ihave G := (grp_recv .z1 c b d d hdb hb) $$ Gz1
  icases G with ⟨Hf, Hv, Hp, Gz1⟩
  ihave Hp := (pos_open .z1 c d) $$ Hp
  icases Hp with ⟨HpR, HpS⟩
  iapply (wp_left q K R .z1 c d hd16 (cnts a b d) (fun k' _ => by cases k' <;> simp only [cnts, Kd.lag] <;> omega) (semS_eq .z1 (sl d) hoff11) _ _ (NH_eq _)) $$ [Hf HO HpS]
  · isplitr; · iexact Hctx
    isplitl [Hf]; · iexact Hf
    isplitl [HO]; · iexact HO
    iexact HpS
  iintro ⟨%W1, HO⟩ HpS HrS Sz1
  iapply (wp_arrive q K R .z1 c d hd16 (cnts a b d) (fun k' hk' => by cases k' <;> simp only [cnts, Kd.lag] at hk' ⊢ <;> omega) (semR_eq .z1 (sl d) hoff11) _ _ (NH_eq _)) $$ [Hv HO HpR]
  · isplitr; · iexact Hctx
    isplitl [Hv]; · iexact Hv
    isplitl [HO]; · iexact HO
    iexact HpR
  iintro ⟨%V1, HO⟩ HpR HrR Dz1 Hgr
  ihave Hpos := (pos_next .z1 c d) $$ [HpR HpS HrR HrS]
  · isplitl [HpR]; · iexact HpR
    isplitl [HpS]; · iexact HpS
    isplitl [HrR]; · iexact HrR
    iexact HrS
  ihave Gz1 := Gz1 $$ Hpos
  ihave Hgr := hgz $$ Hgr
  icases Hgr with ⟨Hg1, Hg2⟩
  ihave Gz1 := (grp_grant .z1 c b (d + 1) d hbh hh1) $$ [Gz1 Hg1]
  · isplitl [Gz1]; · iexact Gz1
    iexact Hg1
  ihave Gz2 := (grp_grant .z2 c d e d g22 g21) $$ [Gz2 Hg2]
  · isplitl [Gz2]; · iexact Gz2
    iexact Hg2
  -- hop y1 of this tile has left, and that of the neighbour arrives
  ihave G := (grp_recv .y1 c b d d hdb hb) $$ Gy1
  icases G with ⟨Hf, Hv, Hp, Gy1⟩
  ihave Hp := (pos_open .y1 c d) $$ Hp
  icases Hp with ⟨HpR, HpS⟩
  iapply (wp_left q K R .y1 c d hd16 (cnts a b d) (fun k' _ => by cases k' <;> simp only [cnts, Kd.lag] <;> omega) (semS_eq .y1 (sl d) hoff14) _ _ (NH_eq _)) $$ [Hf HO HpS]
  · isplitr; · iexact Hctx
    isplitl [Hf]; · iexact Hf
    isplitl [HO]; · iexact HO
    iexact HpS
  iintro ⟨%W2, HO⟩ HpS HrS Sy1
  iapply (wp_arrive q K R .y1 c d hd16 (cnts a b d) (fun k' hk' => by cases k' <;> simp only [cnts, Kd.lag] at hk' ⊢ <;> omega) (semR_eq .y1 (sl d) hoff14) _ _ (NH_eq _)) $$ [Hv HO HpR]
  · isplitr; · iexact Hctx
    isplitl [Hv]; · iexact Hv
    isplitl [HO]; · iexact HO
    iexact HpR
  iintro ⟨%V2, HO⟩ HpR HrR Dy1 Hgr
  ihave Hpos := (pos_next .y1 c d) $$ [HpR HpS HrR HrS]
  · isplitl [HpR]; · iexact HpR
    isplitl [HpS]; · iexact HpS
    isplitl [HrR]; · iexact HrR
    iexact HrS
  ihave Gy1 := Gy1 $$ Hpos
  ihave Hgr := hgy $$ Hgr
  icases Hgr with ⟨Hg1, Hg2⟩
  ihave Gy1 := (grp_grant .y1 c b (d + 1) d hbh hh1) $$ [Gy1 Hg1]
  · isplitl [Gy1]; · iexact Gy1
    iexact Hg1
  ihave Gy2 := (grp_grant .y2 c d e d g22 g21) $$ [Gy2 Hg2]
  · isplitl [Gy2]; · iexact Gy2
    iexact Hg2
  ihave Sy2 := hy2 $$ [Ha Dz1]
  · isplitl [Ha]; · iexact Ha
    iexact Dz1
  ihave Sz2 := hz2 $$ [Hb Dy1]
  · isplitl [Hb]; · iexact Hb
    iexact Dy1
  -- hop y2
  ihave G := (grp_send .y2 c d e (d + 1) hd16 g23 hed (by omega)) $$ Gy2
  icases G with ⟨Ht, Hr, Hrs, Gy2⟩
  iapply (wp_hop_slot q K R .y2 c d hd16 (cnts a b d) rfl _ (dev3_eq c _) gaM hyM (q (xn c) d 0) (q (xn (zn c)) d 0) rfl rfl (by show iprop(half hyM _ d 0 (q (xn (yn (yn c))) d 0) ∗ half hyM _ d 1 (q (xn (zn (yn (yn c)))) d 0)) = _; rw [yn_yn])
    rfl hoff16 (semS_eq .y2 (sl d) hoff15) (semR_eq .y2 (sl d) hoff15)) $$ [Sy2 Hr Ht Hrs HO]
  · isplitr; · iexact Hctx
    isplitl [Sy2]; · iexact Sy2
    isplitl [Hr]; · iexact Hr
    isplitr; · iempintro
    isplitl [Ht]; · iexact Ht
    isplitl [Hrs]; · iexact Hrs
    iexact HO
  iintro Hf ⟨%U1, HO⟩
  ihave Gy2 := Gy2 $$ Hf
  -- hop z2
  ihave G := (grp_send .z2 c d e (d + 1) hd16 g23 hed (by omega)) $$ Gz2
  icases G with ⟨Ht, Hr, Hrs, Gz2⟩
  iapply (wp_hop_slot q K R .z2 c d hd16 (bump (cnts a b d) .y2) rfl _ (dev4_eq c _) gbM hzM (q (xn c) d 1) (q (xn (yn c)) d 1) rfl rfl (by show iprop(half hzM _ d 0 (q (xn (zn (zn c))) d 1) ∗ half hzM _ d 1 (q (xn (yn (zn (zn c)))) d 1)) = _; rw [zn_zn])
    rfl hoff16 (semS_eq .z2 (sl d) hoff17) (semR_eq .z2 (sl d) hoff17)) $$ [Sz2 Hr Ht Hrs HO]
  · isplitr; · iexact Hctx
    isplitl [Sz2]; · iexact Sz2
    isplitl [Hr]; · iexact Hr
    isplitr; · iempintro
    isplitl [Ht]; · iexact Ht
    isplitl [Hrs]; · iexact Hrs
    iexact HO
  iintro Hf ⟨%U2, HO⟩
  ihave Gz2 := Gz2 $$ Hf
  ihave Sz1 := hsz $$ Sz1
  ihave Sy1 := hsy $$ Sy1
  rw [wp_ret]
  imodintro
  iapply Hk $$ [-HO] [HO]
  · isplitl [Gx]; · iexact Gx
    isplitl [Gz1]; · iexact Gz1
    isplitl [Gy1]; · iexact Gy1
    isplitl [Gy2]; · iexact Gy2
    isplitl [Gz2]; · iexact Gz2
    isplitl [Lx]; · iexact Lx
    isplitl [Lz1]; · iexact Lz1
    isplitl [Ly1]; · iexact Ly1
    isplitl [Ly2]; · iexact Ly2
    isplitl [Lz2]; · iexact Lz2
    isplitl [Xs]; · iexact Xs
    isplitl [Fg]; · iexact Fg
    isplitl [Hx Sz1 Sy1]
    · isplitl [Hx]; · iexact Hx
      unfold heldX
      isplitl [Sz1]; · iexact Sz1
      iexact Sy1
    iexact Hg
  iexists U2
  rw [bump_d]
  iexact HO

end Phase

end Cert.GradExchange
-- ==== Proof.Hop4.lean ====
/-
# Adding up a tile

The fourth stage of a step: the last pieces of a tile arrive, each is added to what the device kept of the tile, and
the tile's slots are free again.
-/
module

public import proofs.«01_k».proof.Proof.Hop2

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Prog
variable (i : grid0.Coords) (A1 : Memref sig .tc .vmem S2048x2048 .bf16) (H1 : A1.IsWhole) (A2 : Memref sig .tc .vmem S2048x512 .bf16) (H2 : A2.IsWhole)
  (A3 : Memref sig .tc .vmem S1024x512 .bf16) (H3 : A3.IsWhole)

/-- The fourth stage of a step. -/
def progE (d0 : Dev nD) (arg0 v2 v5 v8 v10 v11 : BitVec 32) (k0_h4 : k0_cond4 i = 1#1) : Prog (TpuEff nD τ sig (Elt F) Λ₀ .tc) PUnit := do
  let ⟨v33, v36⟩ ← k0_part5 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 arg0 v2 v8 v11 k0_h4
  let ⟨v74, v77, v80, v84, v86, v87, c2_i32_68⟩ ← k0_part6 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 v2 v5 v8 v10 k0_h4
  let ⟨v89, v92, v96, v119, v123⟩ ← k0_part7 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 d0 v5 v8 k0_h4 v33 v36 v74 v77 v80 v87 c2_i32_68
  let v160 ← k0_part8 i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9 d0 k0_h4 v33 v36 v84 v86 v89 v119 v123
  let _ ← Prog.lift (.load A3 (Rect.unit (s := S1024x512) (k0_off34 d0) S256x256.size (k0_off34_inb i d0 k0_h4)).toLoadRect (View.loadsAt_vmem h_S256x256))
  Prog.lift (.store A3 (Rect.unit (s := S1024x512) (k0_off34 d0) S256x256.size (k0_off34_inb i d0 k0_h4)) v160 Finset.univ (View.stores_vmem h_S256x256 (H3.storeExact_slice rfl _ (k0_off34_packedbf16 i d0 k0_h4)) (fun _ => rfl)) (.inl rfl))
  let v166 ← Prog.lift (.load msM (Rect.unit (s := S8x1024x512) (k0_off35 i d0) S1x256x256.size (k0_off35_inb i d0 k0_h4)).toLoadRect (View.loadsAt_vmem h_S1x256x256))
  let v169 ← Prog.lift (.load hzM (Rect.unit (s := S12x2x256x256) (k0_off22 i) S1x1x256x256.size (k0_off22_inb i k0_h4)).toLoadRect (View.loadsAt_vmem h_S1x1x256x256))
  let _ ← Prog.lift (.load A3 (Rect.unit (s := S1024x512) (k0_off36 d0) S256x256.size (k0_off36_inb i d0 k0_h4)).toLoadRect (View.loadsAt_vmem h_S256x256))
  Prog.lift (.store A3 (Rect.unit (s := S1024x512) (k0_off36 d0) S256x256.size (k0_off36_inb i d0 k0_h4)) (k0_pay3 v166 v169) Finset.univ (View.stores_vmem h_S256x256 (H3.storeExact_slice rfl _ (k0_off36_packedbf16 i d0 k0_h4)) (fun _ => rfl)) (.inl rfl))
  let v177 ← Prog.lift (.load msM (Rect.unit (s := S8x1024x512) (k0_off37 i d0) S1x256x256.size (k0_off37_inb i d0 k0_h4)).toLoadRect (View.loadsAt_vmem h_S1x256x256))
  let v180 ← Prog.lift (.load hzM (Rect.unit (s := S12x2x256x256) (k0_off25 i) S1x1x256x256.size (k0_off25_inb i k0_h4)).toLoadRect (View.loadsAt_vmem h_S1x1x256x256))
  let _ ← Prog.lift (.load A3 (Rect.unit (s := S1024x512) (k0_off38 d0) S256x256.size (k0_off38_inb i d0 k0_h4)).toLoadRect (View.loadsAt_vmem h_S256x256))
  Prog.lift (.store A3 (Rect.unit (s := S1024x512) (k0_off38 d0) S256x256.size (k0_off38_inb i d0 k0_h4)) (k0_pay4 v177 v180) Finset.univ (View.stores_vmem h_S256x256 (H3.storeExact_slice rfl _ (k0_off38_packedbf16 i d0 k0_h4)) (fun _ => rfl)) (.inl rfl))
  pure ⟨⟩

end Prog

theorem rp0 (c : Dev nD) : 512 * ((c.val / 2) % 2) + 256 * (c.val % 2) = 256 * (rp c).val := by revert c; decide
theorem rp1 (c : Dev nD) : (512 * ((c.val / 2) % 2) + 256) - 256 * (c.val % 2) = 256 * (rp (zn c)).val := by revert c; decide
theorem rp2 (c : Dev nD) : (256 * (c.val % 2) + 512) - 512 * ((c.val / 2) % 2) = 256 * (rp (yn c)).val := by revert c; decide
theorem rp3 (c : Dev nD) : 768 - (512 * ((c.val / 2) % 2) + 256 * (c.val % 2)) = 256 * (rp (zn (yn c))).val := by revert c; decide
theorem rp_all (c : Dev nD) (p : Fin 4) : p = rp c ∨ p = rp (zn c) ∨ p = rp (yn c) ∨ p = rp (zn (yn c)) := by revert c p; decide

section Phase
variable (q : Spec F) (ms : Dev nD → ℕ → S1x1024x512.Idx → Elt F .bf16) (K : (Dev nD × Kd × Fin 12) × Bool → ℕ) (R : Dev nD → ℕ)

set_option maxHeartbeats 1600000 in
/-- One tile more finished. -/
theorem wp_progE (c : Dev nD) (i : grid0.Coords) (A1 : Memref sig .tc .vmem S2048x2048 .bf16) (H1 : A1.IsWhole) (A2 : Memref sig .tc .vmem S2048x512 .bf16) (H2 : A2.IsWhole)
    (A3 : Memref sig .tc .vmem S1024x512 .bf16) (H3 : A3.IsWhole) (arg0 v2 v5 v8 v10 v11 : BitVec 32) (h4 : k0_cond4 i = 1#1)
    (a b d e : ℕ) (hj : (i 0).val = e + 6) (hea : a < 16 → e + 3 < a) (ha : a ≤ e + 6) (heb : b < 16 → e + 2 < b) (hb : b ≤ e + 5) (hbe : e ≤ b) (hed : e < d) (hd : d ≤ 16)
    (Xm : S8x1024x512.Idx → Elt F .bf16) (hk : 3 ≤ e → Kept e (ms c e) Xm) (X0 : S1024x512.Idx → Elt F .bf16) {Q : PUnit → sProp 𝕄} :
    iprop(ctx q K R ∗ St q c a b d e ∗ (∃ W, owes (c : Thread nD τ) (ow c (cnts a b d)) W) ∗ owns (c : Thread nD τ) msM fullShare Xm ∗ owns (c : Thread nD τ) A3 fullShare X0)
      ⊢ iprop((St q c a b d (e + 1) -∗ (∃ W, owes (c : Thread nD τ) (ow c (cnts a b d)) W) -∗ owns (c : Thread nD τ) msM fullShare Xm
            -∗ (∃ X, ⌜3 ≤ e → OutOK q ms c e X⌝ ∗ owns (c : Thread nD τ) A3 fullShare X) -∗ Q ⟨⟩)
          -∗ wp frame (wpE (defs₀ (F := F)) 𝒱₀ (c : Thread nD τ) none) Set.univ (progE i A1 H1 A2 H2 A3 H3 c arg0 v2 v5 v8 v10 v11 h4) Q) := by
  have he16 : e < 16 := by omega
  have hs := sl_6 hj
  have hm := ml_6 hj
  have hxa : hx a ≤ e + 12 := by unfold hx; split <;> omega
  have hhb : hh b ≤ e + 12 := by unfold hh; split <;> omega
  have hgb : g2 b ≤ e + 12 := by unfold g2; split <;> omega
  have hoff18 : k0_off18 i = ![Kd.y2.num, (sl e).val] := by rw [k0_off18_eq, hs]; rfl
  have hoff20 : k0_off20 i = ![Kd.z2.num, (sl e).val] := by rw [k0_off20_eq, hs]; rfl
  have hoff22 : k0_off22 i = ![(sl e).val, (0 : Fin 2).val, 0, 0] := by rw [k0_off22_eq, hs]; rfl
  have hoff25 : k0_off25 i = ![(sl e).val, (1 : Fin 2).val, 0, 0] := by rw [k0_off25_eq, hs]; rfl
  have hly : landP q .y2 c e ⊢ (iprop(half hyM c e 0 (q (xn (yn c)) e 0) ∗ half hyM c e 1 (q (xn (zn (yn c))) e 0)) : sProp 𝕄) := .refl
  have hlz : landP q .z2 c e ⊢ (iprop(half hzM c e 0 (q (xn (zn c)) e 1) ∗ half hzM c e 1 (q (xn (yn (zn c))) e 1)) : sProp 𝕄) := .refl
  have hsy : srcP q .y2 c e ⊢ (iprop(half gaM c e 0 (q (xn c) e 0) ∗ half gaM c e 1 (q (xn (zn c)) e 0)) : sProp 𝕄) := .refl
  have hsz : srcP q .z2 c e ⊢ (iprop(half gbM c e 0 (q (xn c) e 1) ∗ half gbM c e 1 (q (xn (yn c)) e 1)) : sProp 𝕄) := .refl
  have hhx : heldX q c e ⊢ (iprop(half xrM c e 0 (q (xn c) e 0) ∗ half xrM c e 1 (q (xn c) e 1)) : sProp 𝕄) := .refl
  have hfx : (iprop(fr c xrM (sl e) 0 ∗ fr c xrM (sl e) 1) : sProp 𝕄) ⊢ freeP .x c e := .refl
  have hfy : (iprop(fr c hyM (sl e) 0 ∗ fr c hyM (sl e) 1) : sProp 𝕄) ⊢ freeP .y2 c e := .refl
  have hfz : (iprop(fr c hzM (sl e) 0 ∗ fr c hzM (sl e) 1) : sProp 𝕄) ⊢ freeP .z2 c e := .refl
  have hfz1 : (fr c gaM (sl e) 1 : sProp 𝕄) ⊢ freeP .z1 c e := .refl
  have hfy1 : (fr c gbM (sl e) 1 : sProp 𝕄) ⊢ freeP .y1 c e := .refl
  have hfg : (iprop(fr c gaM (sl e) 0 ∗ fr c gbM (sl e) 0) : sProp 𝕄) ⊢ freeG c (e + 12) := Entails.of_eq (by unfold freeG; rw [sl_add])
  unfold progE
  rw [k0_part5_eq_skeleton, k0_part6_eq_skeleton, k0_part7_eq_skeleton, k0_part8_eq_skeleton]
  unfold k0_part5_skel k0_part6_skel k0_part7_skel k0_part8_skel
  simp only [Prog.lift, Prog.bind_op, Prog.bind_ret, Prog.pure_eq_ret]
  unfold St
  rw [run_peel hed (heldX q c), show e + 1 + 12 = e + 12 + 1 by omega, run_snoc (show b ≤ e + 12 by omega) (freeG c)]
  iintro ⟨#Hctx, ⟨Gx, Gz1, Gy1, Gy2, Gz2, Lx, Lz1, Ly1, Ly2, Lz2, Xs, Fg, ⟨Hxe, Hx⟩, Hg⟩, ⟨%W, HO⟩, Hm, Ho⟩ Hk
  -- hop y2 of this tile has left, and that of the neighbour arrives
  ihave G := (grp_recv .y2 c d e d hed hd) $$ Gy2
  icases G with ⟨Hf, Hv, Hp, Gy2⟩
  ihave Hp := (pos_open .y2 c e) $$ Hp
  icases Hp with ⟨HpR, HpS⟩
  iapply (wp_left q K R .y2 c e he16 (cnts a b d) (fun k' _ => by cases k' <;> simp only [cnts, Kd.lag] <;> omega) (semS_eq .y2 (sl e) hoff18) _ _ (NS_eq _)) $$ [Hf HO HpS]
  · isplitr; · iexact Hctx
    isplitl [Hf]; · iexact Hf
    isplitl [HO]; · iexact HO
    iexact HpS
  iintro ⟨%W1, HO⟩ HpS HrS Sy2
  iapply (wp_arrive q K R .y2 c e he16 (cnts a b d) (fun k' hk' => by cases k' <;> simp only [cnts, Kd.lag] at hk' ⊢ <;> omega) (semR_eq .y2 (sl e) hoff18) _ _ (NS_eq _)) $$ [Hv HO HpR]
  · isplitr; · iexact Hctx
    isplitl [Hv]; · iexact Hv
    isplitl [HO]; · iexact HO
    iexact HpR
  iintro ⟨%V1, HO⟩ HpR HrR Dy2 -
  ihave Hpos := (pos_next .y2 c e) $$ [HpR HpS HrR HrS]
  · isplitl [HpR]; · iexact HpR
    isplitl [HpS]; · iexact HpS
    isplitl [HrR]; · iexact HrR
    iexact HrS
  ihave Gy2 := Gy2 $$ Hpos
  -- hop z2 of this tile has left, and that of the neighbour arrives
  ihave G := (grp_recv .z2 c d e d hed hd) $$ Gz2
  icases G with ⟨Hf, Hv, Hp, Gz2⟩
  ihave Hp := (pos_open .z2 c e) $$ Hp
  icases Hp with ⟨HpR, HpS⟩
  iapply (wp_left q K R .z2 c e he16 (cnts a b d) (fun k' _ => by cases k' <;> simp only [cnts, Kd.lag] <;> omega) (semS_eq .z2 (sl e) hoff20) _ _ (NS_eq _)) $$ [Hf HO HpS]
  · isplitr; · iexact Hctx
    isplitl [Hf]; · iexact Hf
    isplitl [HO]; · iexact HO
    iexact HpS
  iintro ⟨%W2, HO⟩ HpS HrS Sz2
  iapply (wp_arrive q K R .z2 c e he16 (cnts a b d) (fun k' hk' => by cases k' <;> simp only [cnts, Kd.lag] at hk' ⊢ <;> omega) (semR_eq .z2 (sl e) hoff20) _ _ (NS_eq _)) $$ [Hv HO HpR]
  · isplitr; · iexact Hctx
    isplitl [Hv]; · iexact Hv
    isplitl [HO]; · iexact HO
    iexact HpR
  iintro ⟨%V2, HO⟩ HpR HrR Dz2 -
  ihave Hpos := (pos_next .z2 c e) $$ [HpR HpS HrR HrS]
  · isplitl [HpR]; · iexact HpR
    isplitl [HpS]; · iexact HpS
    isplitl [HrR]; · iexact HrR
    iexact HrS
  ihave Gz2 := Gz2 $$ Hpos
  ihave Dy2 := hly $$ Dy2
  icases Dy2 with ⟨Py0, Py1⟩
  ihave Dz2 := hlz $$ Dz2
  icases Dz2 with ⟨Pz0, Pz1⟩
  ihave Sy2 := hsy $$ Sy2
  icases Sy2 with ⟨Pa0, Pa1⟩
  ihave Sz2 := hsz $$ Sz2
  icases Sz2 with ⟨Pb0, Pb1⟩
  ihave Hxe := hhx $$ Hxe
  icases Hxe with ⟨Px0, Px1⟩
  ihave Py0 := (half_open _ _ _ _ _) $$ Py0
  icases Py0 with ⟨%Yy0, %Ey0, Py0⟩
  ihave Py1 := (half_open _ _ _ _ _) $$ Py1
  icases Py1 with ⟨%Yy1, %Ey1, Py1⟩
  ihave Pz0 := (half_open _ _ _ _ _) $$ Pz0
  icases Pz0 with ⟨%Yz0, %Ez0, Pz0⟩
  ihave Pz1 := (half_open _ _ _ _ _) $$ Pz1
  icases Pz1 with ⟨%Yz1, %Ez1, Pz1⟩
  ihave Pa0 := (half_open _ _ _ _ _) $$ Pa0
  icases Pa0 with ⟨%Ya0, %Ea0, Pa0⟩
  ihave Pa1 := (half_open _ _ _ _ _) $$ Pa1
  icases Pa1 with ⟨%Ya1, %Ea1, Pa1⟩
  ihave Pb0 := (half_open _ _ _ _ _) $$ Pb0
  icases Pb0 with ⟨%Yb0, %Eb0, Pb0⟩
  ihave Pb1 := (half_open _ _ _ _ _) $$ Pb1
  icases Pb1 with ⟨%Yb1, %Eb1, Pb1⟩
  ihave Px0 := (half_open _ _ _ _ _) $$ Px0
  icases Px0 with ⟨%Yx0, %Ex0, Px0⟩
  ihave Px1 := (half_open _ _ _ _ _) $$ Px1
  icases Px1 with ⟨%Yx1, %Ex1, Px1⟩
  -- the eight pieces are added to what was kept
  iapply (wp_load_o c msM Xm) $$ Hm
  iintro Hm
  iapply (wp_load_pc c xrM (sl e) 0 hoff22 Yx0) $$ Px0
  iintro Px0
  iapply (wp_load_o c A3 X0) $$ Ho
  iintro Ho
  iapply (wp_store_o c A3 X0 _) $$ Ho
  iintro %X1 %hp1 Ho
  iapply (wp_load_o c msM Xm) $$ Hm
  iintro Hm
  iapply (wp_load_pc c gaM (sl e) 1 hoff25 Ya1) $$ Pa1
  iintro Pa1
  iapply (wp_load_o c A3 X1) $$ Ho
  iintro Ho
  iapply (wp_store_o c A3 X1 _) $$ Ho
  iintro %X2 %hp2 Ho
  iapply (wp_load_o c msM Xm) $$ Hm
  iintro Hm
  iapply (wp_load_pc c hyM (sl e) 0 hoff22 Yy0) $$ Py0
  iintro Py0
  iapply (wp_load_o c A3 X2) $$ Ho
  iintro Ho
  iapply (wp_store_o c A3 X2 _) $$ Ho
  iintro %X3 %hp3 Ho
  iapply (wp_load_o c msM Xm) $$ Hm
  iintro Hm
  iapply (wp_load_pc c hyM (sl e) 1 hoff25 Yy1) $$ Py1
  iintro Py1
  iapply (wp_load_o c A3 X3) $$ Ho
  iintro Ho
  iapply (wp_store_o c A3 X3 _) $$ Ho
  iintro %X4 %hp4 Ho
  iapply (wp_load_o c msM Xm) $$ Hm
  iintro Hm
  iapply (wp_load_pc c xrM (sl e) 1 hoff25 Yx1) $$ Px1
  iintro Px1
  iapply (wp_load_o c A3 X4) $$ Ho
  iintro Ho
  iapply (wp_store_o c A3 X4 _) $$ Ho
  iintro %X5 %hp5 Ho
  iapply (wp_load_o c msM Xm) $$ Hm
  iintro Hm
  iapply (wp_load_pc c gbM (sl e) 1 hoff25 Yb1) $$ Pb1
  iintro Pb1
  iapply (wp_load_o c A3 X5) $$ Ho
  iintro Ho
  iapply (wp_store_o c A3 X5 _) $$ Ho
  iintro %X6 %hp6 Ho
  iapply (wp_load_o c msM Xm) $$ Hm
  iintro Hm
  iapply (wp_load_pc c hzM (sl e) 0 hoff22 Yz0) $$ Pz0
  iintro Pz0
  iapply (wp_load_o c A3 X6) $$ Ho
  iintro Ho
  iapply (wp_store_o c A3 X6 _) $$ Ho
  iintro %X7 %hp7 Ho
  iapply (wp_load_o c msM Xm) $$ Hm
  iintro Hm
  iapply (wp_load_pc c hzM (sl e) 1 hoff25 Yz1) $$ Pz1
  iintro Pz1
  iapply (wp_load_o c A3 X7) $$ Ho
  iintro Ho
  iapply (wp_store_o c A3 X7 _) $$ Ho
  iintro %X8 %hp8 Ho
  have hout : 3 ≤ e → OutOK q ms c e X8 := by
    intro h3
    have hk := hk h3
    have d1 := done_put (v := oval q ms c e) (done_nil _ X0) (rp c) 0 (by rw [k0_off23_eq, rp0]; rfl) hp1 (
      congrArg₂ k0_pay8 (kept_load hk (rp c) 0 (off := k0_off21 i c) (inb := k0_off21_inb i c h4) (by rw [k0_off21_eq, hm, rp0]; rfl)) (by rw [mk_rp, Ex0 h3]))
    have d2 := done_put (v := oval q ms c e) d1 (rp (zn c)) 0 (by rw [k0_off26_eq, rp1]; rfl) hp2 (
      congrArg₂ k0_pay8 (kept_load hk (rp (zn c)) 0 (off := k0_off24 i c) (inb := k0_off24_inb i c h4) (by rw [k0_off24_eq, hm, rp1]; rfl)) (by rw [mk_rp_zn, Ea1 h3]))
    have d3 := done_put (v := oval q ms c e) d2 (rp (yn c)) 0 (by rw [k0_off28_eq, rp2]; rfl) hp3 (
      congrArg₂ k0_pay8 (kept_load hk (rp (yn c)) 0 (off := k0_off27 i c) (inb := k0_off27_inb i c h4) (by rw [k0_off27_eq, hm, rp2]; rfl)) (by rw [mk_rp_yn, Ey0 h3]))
    have d4 := done_put (v := oval q ms c e) d3 (rp (zn (yn c))) 0 (by rw [k0_off30_eq, rp3]; rfl) hp4 (
      congrArg₂ k0_pay8 (kept_load hk (rp (zn (yn c))) 0 (off := k0_off29 i c) (inb := k0_off29_inb i c h4) (by rw [k0_off29_eq, hm, rp3]; rfl)) (by rw [mk_rp_zy, Ey1 h3]))
    have d5 := done_put (v := oval q ms c e) d4 (rp c) 1 (by rw [k0_off32_eq, rp0]; rfl) hp5 (
      congrArg₂ k0_pay8 (kept_load hk (rp c) 1 (off := k0_off31 i c) (inb := k0_off31_inb i c h4) (by rw [k0_off31_eq, hm, rp0]; rfl)) (by rw [mk_rp, Ex1 h3]))
    have d6 := done_put (v := oval q ms c e) d5 (rp (yn c)) 1 (by rw [k0_off34_eq, rp2]; rfl) hp6 (
      congrArg₂ k0_pay8 (kept_load hk (rp (yn c)) 1 (off := k0_off33 i c) (inb := k0_off33_inb i c h4) (by rw [k0_off33_eq, hm, rp2]; rfl)) (by rw [mk_rp_yn, Eb1 h3]))
    have d7 := done_put (v := oval q ms c e) d6 (rp (zn c)) 1 (by rw [k0_off36_eq, rp1]; rfl) hp7 (
      congrArg₂ k0_pay8 (kept_load hk (rp (zn c)) 1 (off := k0_off35 i c) (inb := k0_off35_inb i c h4) (by rw [k0_off35_eq, hm, rp1]; rfl)) (by rw [mk_rp_zn, Ez0 h3]))
    have d8 := done_put (v := oval q ms c e) d7 (rp (zn (yn c))) 1 (by rw [k0_off38_eq, rp3]; rfl) hp8 (
      congrArg₂ k0_pay8 (kept_load hk (rp (zn (yn c))) 1 (off := k0_off37 i c) (inb := k0_off37_inb i c h4) (by rw [k0_off37_eq, hm, rp3]; rfl)) (by rw [mk_rp_zy, Ez1 h3, yn_zn]))
    refine outOK_of_done d8 fun p h => ?_
    rcases rp_all c p with rfl | rfl | rfl | rfl <;> fin_cases h <;> simp
  ihave Px0 := (fr_close xrM c (sl e) 0 _) $$ Px0
  ihave Px1 := (fr_close xrM c (sl e) 1 _) $$ Px1
  ihave Pa0 := (fr_close gaM c (sl e) 0 _) $$ Pa0
  ihave Pa1 := (fr_close gaM c (sl e) 1 _) $$ Pa1
  ihave Pb0 := (fr_close gbM c (sl e) 0 _) $$ Pb0
  ihave Pb1 := (fr_close gbM c (sl e) 1 _) $$ Pb1
  ihave Py0 := (fr_close hyM c (sl e) 0 _) $$ Py0
  ihave Py1 := (fr_close hyM c (sl e) 1 _) $$ Py1
  ihave Pz0 := (fr_close hzM c (sl e) 0 _) $$ Pz0
  ihave Pz1 := (fr_close hzM c (sl e) 1 _) $$ Pz1
  ihave T := hfx $$ [Px0 Px1]
  · isplitl [Px0]; · iexact Px0
    iexact Px1
  ihave Lx := (lands_back .x c _ e hxa) $$ [Lx T]
  · isplitl [Lx]; · iexact Lx
    iexact T
  ihave T := hfz1 $$ Pa1
  ihave Lz1 := (lands_back .z1 c _ e hhb) $$ [Lz1 T]
  · isplitl [Lz1]; · iexact Lz1
    iexact T
  ihave T := hfy1 $$ Pb1
  ihave Ly1 := (lands_back .y1 c _ e hhb) $$ [Ly1 T]
  · isplitl [Ly1]; · iexact Ly1
    iexact T
  ihave T := hfy $$ [Py0 Py1]
  · isplitl [Py0]; · iexact Py0
    iexact Py1
  ihave Ly2 := (lands_back .y2 c _ e hgb) $$ [Ly2 T]
  · isplitl [Ly2]; · iexact Ly2
    iexact T
  ihave T := hfz $$ [Pz0 Pz1]
  · isplitl [Pz0]; · iexact Pz0
    iexact Pz1
  ihave Lz2 := (lands_back .z2 c _ e hgb) $$ [Lz2 T]
  · isplitl [Lz2]; · iexact Lz2
    iexact T
  ihave T := hfg $$ [Pa0 Pb0]
  · isplitl [Pa0]; · iexact Pa0
    iexact Pb0
  rw [wp_ret]
  imodintro
  iapply Hk $$ [-HO Hm Ho] [HO] Hm [Ho]
  · isplitl [Gx]; · iexact Gx
    isplitl [Gz1]; · iexact Gz1
    isplitl [Gy1]; · iexact Gy1
    isplitl [Gy2]; · iexact Gy2
    isplitl [Gz2]; · iexact Gz2
    isplitl [Lx]; · iexact Lx
    isplitl [Lz1]; · iexact Lz1
    isplitl [Ly1]; · iexact Ly1
    isplitl [Ly2]; · iexact Ly2
    isplitl [Lz2]; · iexact Lz2
    isplitl [Xs]; · iexact Xs
    isplitl [Fg T]
    · isplitl [Fg]; · iexact Fg
      iexact T
    isplitl [Hx]; · iexact Hx
    iexact Hg
  · iexists V2; iexact HO
  iexists X8
  isplitr; · ipureintro; exact hout
  iexact Ho

end Phase

end Cert.GradExchange
-- ==== Proof.Body.lean ====
/-
# A step of the kernel

A step is its five stages one after another, each under its own condition on the step's number.
-/
module

public import proofs.«01_k».proof.Proof.Hop1
public import proofs.«01_k».proof.Proof.Hop3
public import proofs.«01_k».proof.Proof.Hop4
public import proofs.«01_k».proof.Proof.Gen.KernelIdeal.Frame

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Prog
variable (i : grid0.Coords) (A1 : Memref sig .tc .vmem S2048x2048 .bf16) (H1 : A1.IsWhole) (A2 : Memref sig .tc .vmem S2048x512 .bf16) (H2 : A2.IsWhole)
  (A3 : Memref sig .tc .vmem S1024x512 .bf16) (H3 : A3.IsWhole) (d0 : Dev nD) (arg0 v2 v5 v8 v9 v10 v11 : BitVec 32)

def cond0 : Prog (TpuEff nD τ sig (Elt F) Λ₀ .tc) PUnit := if h : k0_cond1 i = 1#1 then prog0 i A1 d0 h else pure ⟨⟩
def condB : Prog (TpuEff nD τ sig (Elt F) Λ₀ .tc) PUnit :=
  if h : k0_cond2 i = 1#1 then progB i A1 H1 A2 H2 A3 H3 d0 arg0 v2 v5 v8 v9 v10 v11 h else pure ⟨⟩
def condD : Prog (TpuEff nD τ sig (Elt F) Λ₀ .tc) PUnit :=
  if h : k0_cond3 i = 1#1 then progD i A1 H1 A2 H2 A3 H3 d0 arg0 v2 v5 v8 v10 v11 h else pure ⟨⟩
def condE : Prog (TpuEff nD τ sig (Elt F) Λ₀ .tc) PUnit :=
  if h : k0_cond4 i = 1#1 then progE i A1 H1 A2 H2 A3 H3 d0 arg0 v2 v5 v8 v10 v11 h else pure ⟨⟩
def condA : Prog (TpuEff nD τ sig (Elt F) Λ₀ .tc) PUnit :=
  if h : k0_cond5 i = 1#1 then progA i A1 H1 A2 H2 A3 H3 d0 arg0 v5 v8 v9 h else pure ⟨⟩

/-- The five stages. -/
def stages : Prog (TpuEff nD τ sig (Elt F) Λ₀ .tc) PUnit := do
  cond0 i A1 d0
  condB i A1 H1 A2 H2 A3 H3 d0 arg0 v2 v5 v8 v9 v10 v11
  condD i A1 H1 A2 H2 A3 H3 d0 arg0 v2 v5 v8 v10 v11
  condE i A1 H1 A2 H2 A3 H3 d0 arg0 v2 v5 v8 v10 v11
  condA i A1 H1 A2 H2 A3 H3 d0 arg0 v5 v8 v9
  pure ⟨⟩

/-- A conditional step followed by the rest of a program: the rest follows either case. -/
theorem dite_then {γ : Type} {p : Prop} [Decidable p] (f : p → Prog (TpuEff nD τ sig (Elt F) Λ₀ .tc) PUnit)
    (r : PUnit) (k : PUnit → Prog (TpuEff nD τ sig (Elt F) Λ₀ .tc) γ) :
    ((if h : p then f h else Prog.ret r) >>= k) = if h : p then f h >>= k else k r := by
  split <;> rfl

/-- The kernel's body is the five stages, at the number of the device that runs it. -/
theorem body_eq : cc0_body (F := F) i A1 H1 A2 H2 A3 H3 xbM (Memref.isWhole_whole _) msM (Memref.isWhole_whole _) xsM (Memref.isWhole_whole _) xrM (Memref.isWhole_whole _)
    gaM (Memref.isWhole_whole _) gbM (Memref.isWhole_whole _) hyM (Memref.isWhole_whole _) hzM (Memref.isWhole_whole _) cc0_scratch8 cc0_scratch9
    = .op .deviceId fun d0 : Dev nD =>
      stages i A1 H1 A2 H2 A3 H3 d0 (BitVec.ofNat 32 (i 0).val) (Scalar.remsi (Scalar.divsi (Dev.word d0) 4#32) 2#32)
        (Scalar.remsi (Scalar.divsi (Dev.word d0) 2#32) 2#32) (Scalar.remsi (Scalar.divsi (Dev.word d0) 1#32) 2#32)
        (Scalar.subi 1#32 (Scalar.remsi (Scalar.divsi (Dev.word d0) 4#32) 2#32))
        (Scalar.subi 1#32 (Scalar.remsi (Scalar.divsi (Dev.word d0) 1#32) 2#32))
        (Scalar.subi 1#32 (Scalar.remsi (Scalar.divsi (Dev.word d0) 2#32) 2#32)) := by
  rw [cc0_body_eq_skeleton]
  unfold cc0_body_skel
  simp only [Prog.lift, Prog.bind_op, Prog.bind_ret, Prog.pure_eq_ret]
  congr 1
  funext d0
  unfold stages cond0 condB condD condE condA prog0 progB progD progE progA
  simp only [Prog.lift, Prog.bind_op, Prog.bind_ret, Prog.pure_eq_ret, dite_then, Prog.bind_assoc]
  rfl

end Prog

/-! ## The conditions -/

theorem cond1_iff : ∀ i : grid0.Coords, k0_cond1 i = 1#1 ↔ (i 0).val = 0 := by decide +kernel
theorem cond2_iff : ∀ i : grid0.Coords, k0_cond2 i = 1#1 ↔ 2 ≤ (i 0).val ∧ (i 0).val ≤ 17 := by decide +kernel
theorem cond3_iff : ∀ i : grid0.Coords, k0_cond3 i = 1#1 ↔ 4 ≤ (i 0).val ∧ (i 0).val ≤ 19 := by decide +kernel
theorem cond4_iff : ∀ i : grid0.Coords, k0_cond4 i = 1#1 ↔ 6 ≤ (i 0).val := by decide +kernel
theorem cond5_iff : ∀ i : grid0.Coords, k0_cond5 i = 1#1 ↔ (i 0).val < 16 := by decide +kernel
theorem coord_lt : ∀ i : grid0.Coords, (i 0).val < 22 := by decide +kernel

/-! ## The stages, each with its condition -/

section Stages
variable (X1 : Dev nD → S2048x2048.Idx → Elt F .bf16) (X2 : Dev nD → ℕ → S2048x512.Idx → Elt F .bf16)
  (K : (Dev nD × Kd × Fin 12) × Bool → ℕ) (R : Dev nD → ℕ)
  (c : Dev nD) (i : grid0.Coords) (A1 : Memref sig .tc .vmem S2048x2048 .bf16) (H1 : A1.IsWhole) (A2 : Memref sig .tc .vmem S2048x512 .bf16) (H2 : A2.IsWhole)
  (A3 : Memref sig .tc .vmem S1024x512 .bf16) (H3 : A3.IsWhole) (arg0 v2 v5 v8 v9 v10 v11 : BitVec 32)

/-- After the first stage the left factor's two parts are in place. -/
theorem wp_cond0 (Xb : S2048x1280.Idx → Elt F .bf16) (hXb : 0 < (i 0).val → XbOK (xh X1 c) (xqv X1 c) Xb) {Q : PUnit → sProp (MT nD τ sig ℕ (Elt F) ℕ UU ℕ)} :
    iprop(owns (c : Thread nD τ) A1 fullShare (X1 c) ∗ owns (c : Thread nD τ) xbM fullShare Xb)
      ⊢ iprop((owns (c : Thread nD τ) A1 fullShare (X1 c) -∗ (∃ X, ⌜XbOK (xh X1 c) (xqv X1 c) X⌝ ∗ owns (c : Thread nD τ) xbM fullShare X) -∗ Q ⟨⟩)
          -∗ wp frame (wpE (defs₀ (F := F)) 𝒱₀ (c : Thread nD τ) none) Set.univ (cond0 i A1 c) Q) := by
  unfold cond0
  by_cases h : k0_cond1 i = 1#1
  · rw [dif_pos h]
    exact wp_prog0 X1 c i A1 h Xb
  · rw [dif_neg h]
    have hp : 0 < (i 0).val := Nat.pos_of_ne_zero fun h' => h ((cond1_iff i).2 h')
    iintro ⟨H1, Hb⟩ Hk
    rw [Prog.pure_eq_ret, wp_ret]
    imodintro
    iapply Hk $$ H1
    iexists Xb
    isplitr; · ipureintro; exact hXb hp
    iexact Hb

/-- After the second stage one more tile is on its way to the two near neighbours, if the step has one. -/
theorem wp_condB (q : Spec F) (a b b' d e : ℕ) (ha : a = min (i 0).val 16) (hb : b = min ((i 0).val - 2) 16) (hb' : b' = min ((i 0).val - 1) 16)
    (hd : d = min ((i 0).val - 4) 16) (he : e = min ((i 0).val - 6) 16) {Q : PUnit → sProp (MT nD τ sig ℕ (Elt F) ℕ UU ℕ)} :
    iprop(ctx q K R ∗ St q c a b d e ∗ ∃ W, owes (c : Thread nD τ) (ow c (cnts a b d)) W)
      ⊢ iprop((St q c a b' d e -∗ (∃ W, owes (c : Thread nD τ) (ow c (cnts a b' d)) W) -∗ Q ⟨⟩)
          -∗ wp frame (wpE (defs₀ (F := F)) 𝒱₀ (c : Thread nD τ) none) Set.univ (condB i A1 H1 A2 H2 A3 H3 c arg0 v2 v5 v8 v9 v10 v11) Q) := by
  have hlt := coord_lt i
  unfold condB
  by_cases h : k0_cond2 i = 1#1
  · rw [dif_pos h]
    have hj := (cond2_iff i).1 h
    obtain rfl : b' = b + 1 := by omega
    exact wp_progB q K R c i A1 H1 A2 H2 A3 H3 arg0 v2 v5 v8 v9 v10 v11 h a b d e (by omega) (by omega) (by omega) (by omega) (by omega) (by omega) (by omega) (by omega)
  · rw [dif_neg h]
    have hj : ¬ (2 ≤ (i 0).val ∧ (i 0).val ≤ 17) := fun h' => h ((cond2_iff i).2 h')
    obtain rfl : b' = b := by omega
    iintro ⟨-, HS, HO⟩ Hk
    rw [Prog.pure_eq_ret, wp_ret]
    imodintro
    iapply Hk $$ HS
    iexact HO

/-- After the third stage one more tile is on its way to the far neighbours, if the step has one. -/
theorem wp_condD (q : Spec F) (a b d d' e : ℕ) (ha : a = min (i 0).val 16) (hb : b = min ((i 0).val - 1) 16)
    (hd : d = min ((i 0).val - 4) 16) (hd' : d' = min ((i 0).val - 3) 16) (he : e = min ((i 0).val - 6) 16) {Q : PUnit → sProp (MT nD τ sig ℕ (Elt F) ℕ UU ℕ)} :
    iprop(ctx q K R ∗ St q c a b d e ∗ ∃ W, owes (c : Thread nD τ) (ow c (cnts a b d)) W)
      ⊢ iprop((St q c a b d' e -∗ (∃ W, owes (c : Thread nD τ) (ow c (cnts a b d')) W) -∗ Q ⟨⟩)
          -∗ wp frame (wpE (defs₀ (F := F)) 𝒱₀ (c : Thread nD τ) none) Set.univ (condD i A1 H1 A2 H2 A3 H3 c arg0 v2 v5 v8 v10 v11) Q) := by
  have hlt := coord_lt i
  unfold condD
  by_cases h : k0_cond3 i = 1#1
  · rw [dif_pos h]
    have hj := (cond3_iff i).1 h
    obtain rfl : d' = d + 1 := by omega
    exact wp_progD q K R c i A1 H1 A2 H2 A3 H3 arg0 v2 v5 v8 v10 v11 h a b d e (by omega) (by omega) (by omega) (by omega) (by omega) (by omega) (by omega)
  · rw [dif_neg h]
    have hj : ¬ (4 ≤ (i 0).val ∧ (i 0).val ≤ 19) := fun h' => h ((cond3_iff i).2 h')
    obtain rfl : d' = d := by omega
    iintro ⟨-, HS, HO⟩ Hk
    rw [Prog.pure_eq_ret, wp_ret]
    imodintro
    iapply Hk $$ HS
    iexact HO

/-- After the fourth stage the result's block holds its tile, if the step has one. -/
theorem wp_condE (q ms : _) (a b d e e' : ℕ) (ha : a = min (i 0).val 16) (hb : b = min ((i 0).val - 1) 16)
    (hd : d = min ((i 0).val - 3) 16) (he : e = min ((i 0).val - 6) 16) (he' : e' = min ((i 0).val - 5) 16)
    (Xm : S8x1024x512.Idx → Elt F .bf16) (hm : ∀ t, e ≤ t → t < a → Kept t (ms c t) Xm) (X0 : S1024x512.Idx → Elt F .bf16)
    {Q : PUnit → sProp (MT nD τ sig ℕ (Elt F) ℕ UU ℕ)} :
    iprop(ctx q K R ∗ St q c a b d e ∗ (∃ W, owes (c : Thread nD τ) (ow c (cnts a b d)) W) ∗ owns (c : Thread nD τ) msM fullShare Xm ∗ owns (c : Thread nD τ) A3 fullShare X0)
      ⊢ iprop((St q c a b d e' -∗ (∃ W, owes (c : Thread nD τ) (ow c (cnts a b d)) W) -∗ owns (c : Thread nD τ) msM fullShare Xm
            -∗ (∃ X, ⌜9 ≤ (i 0).val → OutOK q ms c ((i 0).val - 6) X⌝ ∗ owns (c : Thread nD τ) A3 fullShare X) -∗ Q ⟨⟩)
          -∗ wp frame (wpE (defs₀ (F := F)) 𝒱₀ (c : Thread nD τ) none) Set.univ (condE i A1 H1 A2 H2 A3 H3 c arg0 v2 v5 v8 v10 v11) Q) := by
  have hlt := coord_lt i
  unfold condE
  by_cases h : k0_cond4 i = 1#1
  · rw [dif_pos h]
    have hj := (cond4_iff i).1 h
    obtain rfl : e' = e + 1 := by omega
    obtain rfl : e = (i 0).val - 6 := by omega
    have key := wp_progE q ms K R c i A1 H1 A2 H2 A3 H3 arg0 v2 v5 v8 v10 v11 h a b d ((i 0).val - 6) (by omega) (by omega) (by omega) (by omega) (by omega) (by omega) (by omega) (by omega)
      Xm (fun _ => hm _ (le_refl _) (by omega)) X0 (Q := Q)
    have e3 : 9 ≤ (i 0).val ↔ 3 ≤ (i 0).val - 6 := by omega
    simp only [e3]
    exact key
  · rw [dif_neg h]
    have hj : ¬ (6 ≤ (i 0).val) := fun h' => h ((cond4_iff i).2 h')
    obtain rfl : e' = e := by omega
    iintro ⟨-, HS, HO, Hm, H3⟩ Hk
    rw [Prog.pure_eq_ret, wp_ret]
    imodintro
    iapply Hk $$ HS HO Hm
    iexists X0
    isplitr; · ipureintro; exact fun h9 => absurd h9 (by omega)
    iexact H3

/-- After the last stage one more tile of both products is made, if the step has one. -/
theorem wp_condA (a a' b d e : ℕ) (ha : a = min (i 0).val 16) (ha' : a' = min ((i 0).val + 1) 16) (hb : b = min ((i 0).val - 1) 16)
    (hd : d = min ((i 0).val - 3) 16) (he : e = min ((i 0).val - 5) 16) (Y2 : S2048x512.Idx → Elt F .bf16) (hY : (i 0).val < 16 → Y2 = X2 c (i 0).val)
    (Xb : S2048x1280.Idx → Elt F .bf16) (hXb : XbOK (xh X1 c) (xqv X1 c) Xb) (Xm : S8x1024x512.Idx → Elt F .bf16)
    (hm : ∀ t, e ≤ t → t < a → Kept t (mv X1 X2 c t) Xm) {Q : PUnit → sProp (MT nD τ sig ℕ (Elt F) ℕ UU ℕ)} :
    iprop(ctx (qv X1 X2) K R ∗ St (qv X1 X2) c a b d e ∗ (∃ W, owes (c : Thread nD τ) (ow c (cnts a b d)) W) ∗ owns (c : Thread nD τ) A2 fullShare Y2
        ∗ owns (c : Thread nD τ) xbM fullShare Xb ∗ owns (c : Thread nD τ) msM fullShare Xm)
      ⊢ iprop((St (qv X1 X2) c a' b d e -∗ (∃ W, owes (c : Thread nD τ) (ow c (cnts a' b d)) W) -∗ owns (c : Thread nD τ) A2 fullShare Y2
            -∗ owns (c : Thread nD τ) xbM fullShare Xb
            -∗ (∃ X, ⌜∀ t, e ≤ t → t < a' → Kept t (mv X1 X2 c t) X⌝ ∗ owns (c : Thread nD τ) msM fullShare X) -∗ Q ⟨⟩)
          -∗ wp frame (wpE (defs₀ (F := F)) 𝒱₀ (c : Thread nD τ) none) Set.univ (condA i A1 H1 A2 H2 A3 H3 c arg0 v5 v8 v9) Q) := by
  have hlt := coord_lt i
  unfold condA
  by_cases h : k0_cond5 i = 1#1
  · rw [dif_pos h]
    have hj := (cond5_iff i).1 h
    obtain rfl : a' = a + 1 := by omega
    obtain rfl : a = (i 0).val := by omega
    obtain rfl := hY hj
    exact wp_progA X1 X2 K R c i A1 H1 A2 H2 A3 H3 arg0 v5 v8 v9 h _ b d e rfl (by omega) (by omega) (by omega) (by omega) (by omega) (by omega) Xb hXb Xm hm
  · rw [dif_neg h]
    have hj : ¬ ((i 0).val < 16) := fun h' => h ((cond5_iff i).2 h')
    obtain rfl : a' = a := by omega
    iintro ⟨-, HS, HO, H2, Hb, Hm⟩ Hk
    rw [Prog.pure_eq_ret, wp_ret]
    imodintro
    iapply Hk $$ HS HO H2 Hb
    iexists Xm
    isplitr; · ipureintro; exact hm
    iexact Hm

/-- A whole step. -/
theorem wp_body (j : ℕ) (hj : (i 0).val = j) (Y2 : S2048x512.Idx → Elt F .bf16) (hY : j < 16 → Y2 = X2 c j)
    (Xb : S2048x1280.Idx → Elt F .bf16) (hXb : 0 < j → XbOK (xh X1 c) (xqv X1 c) Xb) (Xm : S8x1024x512.Idx → Elt F .bf16)
    (hm : ∀ t, min (j - 6) 16 ≤ t → t < min j 16 → Kept t (mv X1 X2 c t) Xm) (X0 : S1024x512.Idx → Elt F .bf16) {Q : PUnit → sProp (MT nD τ sig ℕ (Elt F) ℕ UU ℕ)} :
    iprop(ctx (qv X1 X2) K R ∗ St (qv X1 X2) c (min j 16) (min (j - 2) 16) (min (j - 4) 16) (min (j - 6) 16)
        ∗ (∃ W, owes (c : Thread nD τ) (ow c (cnts (min j 16) (min (j - 2) 16) (min (j - 4) 16))) W)
        ∗ owns (c : Thread nD τ) A1 fullShare (X1 c) ∗ owns (c : Thread nD τ) A2 fullShare Y2 ∗ owns (c : Thread nD τ) A3 fullShare X0
        ∗ owns (c : Thread nD τ) xbM fullShare Xb ∗ owns (c : Thread nD τ) msM fullShare Xm)
      ⊢ iprop((St (qv X1 X2) c (min (j + 1) 16) (min (j + 1 - 2) 16) (min (j + 1 - 4) 16) (min (j + 1 - 6) 16)
            -∗ (∃ W, owes (c : Thread nD τ) (ow c (cnts (min (j + 1) 16) (min (j + 1 - 2) 16) (min (j + 1 - 4) 16))) W)
            -∗ owns (c : Thread nD τ) A1 fullShare (X1 c) -∗ owns (c : Thread nD τ) A2 fullShare Y2
            -∗ (∃ X, ⌜9 ≤ j → OutOK (qv X1 X2) (mv X1 X2) c (j - 6) X⌝ ∗ owns (c : Thread nD τ) A3 fullShare X)
            -∗ (∃ X, ⌜XbOK (xh X1 c) (xqv X1 c) X⌝ ∗ owns (c : Thread nD τ) xbM fullShare X)
            -∗ (∃ X, ⌜∀ t, min (j + 1 - 6) 16 ≤ t → t < min (j + 1) 16 → Kept t (mv X1 X2 c t) X⌝ ∗ owns (c : Thread nD τ) msM fullShare X) -∗ Q ⟨⟩)
          -∗ wp frame (wpE (defs₀ (F := F)) 𝒱₀ (c : Thread nD τ) none) Set.univ
              (cc0_body i A1 H1 A2 H2 A3 H3 xbM (Memref.isWhole_whole _) msM (Memref.isWhole_whole _) xsM (Memref.isWhole_whole _) xrM (Memref.isWhole_whole _)
                gaM (Memref.isWhole_whole _) gbM (Memref.isWhole_whole _) hyM (Memref.isWhole_whole _) hzM (Memref.isWhole_whole _) cc0_scratch8 cc0_scratch9) Q) := by
  subst hj
  rw [body_eq, wp_deviceId]
  unfold stages
  iintro ⟨#HC, HS, HO, H1, H2, H3, Hb, Hm⟩ Hk
  rw [wp_bind]
  iapply (wp_cond0 X1 c i A1 Xb hXb) $$ [H1 Hb]
  · isplitl [H1]; · iexact H1
    iexact Hb
  iintro H1 ⟨%Xb', %hXb', Hb⟩
  rw [wp_bind]
  iapply (wp_condB K R c i A1 H1 A2 H2 A3 H3 _ _ _ _ _ _ _ (qv X1 X2) _ _ (min ((i 0).val + 1 - 2) 16) _ _ rfl rfl (by omega) rfl rfl) $$ [HS HO]
  · isplitr; · iexact HC
    isplitl [HS]; · iexact HS
    iexact HO
  iintro HS HO
  rw [wp_bind]
  iapply (wp_condD K R c i A1 H1 A2 H2 A3 H3 _ _ _ _ _ _ (qv X1 X2) (min (i 0).val 16) (min ((i 0).val + 1 - 2) 16) _ (min ((i 0).val + 1 - 4) 16) _ rfl (by omega) rfl (by omega) rfl) $$ [HS HO]
  · isplitr; · iexact HC
    isplitl [HS]; · iexact HS
    iexact HO
  iintro HS HO
  rw [wp_bind]
  iapply (wp_condE K R c i A1 H1 A2 H2 A3 H3 _ _ _ _ _ _ (qv X1 X2) (mv X1 X2) (min (i 0).val 16) (min ((i 0).val + 1 - 2) 16) (min ((i 0).val + 1 - 4) 16) _ (min ((i 0).val + 1 - 6) 16) rfl (by omega) (by omega) rfl (by omega) Xm hm X0) $$ [HS HO Hm H3]
  · isplitr; · iexact HC
    isplitl [HS]; · iexact HS
    isplitl [HO]; · iexact HO
    isplitl [Hm]; · iexact Hm
    iexact H3
  iintro HS HO Hm H3
  rw [wp_bind]
  iapply (wp_condA X1 X2 K R c i A1 H1 A2 H2 A3 H3 _ _ _ _ (min (i 0).val 16) (min ((i 0).val + 1) 16) (min ((i 0).val + 1 - 2) 16) (min ((i 0).val + 1 - 4) 16) (min ((i 0).val + 1 - 6) 16) rfl rfl (by omega) (by omega) (by omega) Y2 hY Xb' hXb' Xm
    (fun t h1 h2 => hm t (by omega) h2)) $$ [HS HO H2 Hb Hm]
  · isplitr; · iexact HC
    isplitl [HS]; · iexact HS
    isplitl [HO]; · iexact HO
    isplitl [H2]; · iexact H2
    isplitl [Hb]; · iexact Hb
    iexact Hm
  iintro HS HO H2 Hb Hm
  rw [Prog.pure_eq_ret, wp_ret]
  imodintro
  iapply Hk $$ HS HO H1 H2 H3 [Hb] Hm
  iexists Xb'
  isplitr; · ipureintro; exact hXb'
  iexact Hb

end Stages

end Cert.GradExchange
-- ==== Proof.Obl.lean ====
/-
# What the pipeline is told of a step

The proof data of the pipeline that runs the steps, and that a step keeps it.
-/
module

public import proofs.«01_k».proof.Proof.Body

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig ℕ (Elt F) ℕ UU ℕ

theorem coords_val : ∀ t : Fin cfg0.N, (grid0.coords t 0).val = t.val := by decide +kernel

/-- The step of number `j`. -/
def pt (j : ℕ) : Fin cfg0.N := ⟨j % 22, by show _ < grid0.N; rw [N_0]; exact Nat.mod_lt _ (by decide)⟩

theorem pt_val (t : Fin cfg0.N) : pt t.val = t := Fin.ext (Nat.mod_eq_of_lt (by have h := t.isLt; have h' : cfg0.N = 22 := N_0; omega))

variable (m : (ℓ : Loc nD τ sig) → Buf (Elt F) ℓ)

/-- The left factor's block on device `c`: all of its rows. -/
def X1 (c : Dev nD) : S2048x2048.Idx → Elt F .bf16 := iblk m c 0 (pt 0)
/-- The right factor's block for tile `t` on device `c`. -/
def X2 (c : Dev nD) (t : ℕ) : S2048x512.Idx → Elt F .bf16 := iblk m c 1 (pt t)

abbrev qq : Spec F := qv (X1 m) (X2 m)
abbrev mm : Dev nD → ℕ → S1x1024x512.Idx → Elt F .bf16 := mv (X1 m) (X2 m)

/-- What device `c` holds before step `j`. -/
def Phi (c : Dev nD) (j : ℕ) : sProp 𝕄 :=
  iprop(∃ (K : (Dev nD × Kd × Fin 12) × Bool → ℕ) (R : Dev nD → ℕ), ctx (qq m) K R
    ∗ St (qq m) c (min j 16) (min (j - 2) 16) (min (j - 4) 16) (min (j - 6) 16)
    ∗ (∃ X, ⌜0 < j → XbOK (xh (X1 m) c) (xqv (X1 m) c) X⌝ ∗ owns (c : Thread nD τ) xbM fullShare X)
    ∗ (∃ X, ⌜∀ t, min (j - 6) 16 ≤ t → t < min j 16 → Kept t (mm m c t) X⌝ ∗ owns (c : Thread nD τ) msM fullShare X))

/-- What device `c` owes before step `j`. -/
def owed (c : Dev nD) (j : ℕ) : CellTallies nD τ sig ℕ := ow c (cnts (min j 16) (min (j - 2) 16) (min (j - 4) 16))

/-- What a step may leave in the windows: the factors' as they are; the result's the tile finished, from the fourth on. -/
def aft (c : Dev nD) : (w : Fin cfg0.W) → Fin cfg0.N → (Y X : (cfg0.win w).block.Idx → Elt F (cfg0.win w).elt) → Prop
  | 0 => fun _ Y X => X = Y
  | 1 => fun _ Y X => X = Y
  | 2 => fun t _ X => 9 ≤ t.val → OutOK (qq m) (mm m) c (t.val - 6) X

/-- The proof data of the pipeline on device `c`. -/
def rd (c : Dev nD) : RDat τ (Elt F) ℕ ℕ UU ℕ cfg0 c where
  A w := V m c (Pipeline.arrRef spec0 w)
  after := aft m c
  Φ t := Phi m c t.val
  q _ := fullShare
  owed t := owed c t.val

theorem finds_0 (c : Dev nD) (t : Fin cfg0.N) {X} (h : (rd m c).Finds 0 t X) : X = X1 m c := by
  obtain ⟨d, rfl⟩ := (rd m c).finds_in_eq_fetched 0 rfl (fun _ _ _ => rfl) (fun _ _ _ h => h) t X h
  have e : (rd m c).fetched 0 t d = iblk m c 0 t := rfl
  have e' : (rd m c).fetched 0 (pt 0) d = iblk m c 0 (pt 0) := rfl
  rw [X1, ← e']
  exact (rd m c).fetched_congr 0 rfl rfl d

theorem finds_1 (c : Dev nD) (t : Fin cfg0.N) {X} (h : (rd m c).Finds 1 t X) : X = X2 m c t.val := by
  obtain ⟨d, rfl⟩ := (rd m c).finds_in_eq_fetched 1 rfl (fun _ _ _ => rfl) (fun _ _ _ h => h) t X h
  unfold X2
  rw [pt_val]
  rfl

/-- A step keeps what the pipeline is told. -/
theorem body_obligation (c : Dev nD) : (rd m c).BodyObligation (defs₀ (F := F)) 𝒱₀ 0 Set.univ := fun t Y hY => by
  have h0 := finds_0 m c t (hY 0)
  have h1 := finds_1 m c t (hY 1)
  rw [bigSep_W0, bigSep_W0]
  show iprop(Phi m c t.val ∗ (rd m c).owesAt 0 t.castSucc ∗ owns (c : Thread nD τ) (win0_0.stage (cfg0.slots t 0)) fullShare (Y 0)
      ∗ owns (c : Thread nD τ) (win0_1.stage (cfg0.slots t 1)) fullShare (Y 1) ∗ owns (c : Thread nD τ) (win0_2.stage (cfg0.slots t 2)) fullShare (Y 2))
    ⊢ wp frame (wpE (defs₀ (F := F)) 𝒱₀ (c : Thread nD τ) none) Set.univ (bodyAt0 t) fun _ => iprop(Phi m c (t.val + 1) ∗ (rd m c).owesAt 0 t.succ
      ∗ (∃ X, ⌜X = Y 0⌝ ∗ owns (c : Thread nD τ) (win0_0.stage (cfg0.slots t 0)) fullShare X)
      ∗ (∃ X, ⌜X = Y 1⌝ ∗ owns (c : Thread nD τ) (win0_1.stage (cfg0.slots t 1)) fullShare X)
      ∗ (∃ X, ⌜9 ≤ t.val → OutOK (qq m) (mm m) c (t.val - 6) X⌝ ∗ owns (c : Thread nD τ) (win0_2.stage (cfg0.slots t 2)) fullShare X))
  rw [h0, h1]
  unfold Phi
  iintro ⟨⟨%K, %R, #HC, HS, ⟨%Xb, %hXb, Hb⟩, ⟨%Xm, %hXm, Hm⟩⟩, Ho, H0, H1, H2⟩
  unfold Pipeline.RDat.owesAt Pipeline.owesWithin
  icases Ho with ⟨%W, -, Ho⟩
  iapply (wp_body (X1 m) (X2 m) K R c (grid0.coords t) _ _ _ _ _ _ t.val (coords_val t) (X2 m c t.val) (fun _ => rfl) Xb hXb Xm hXm (Y 2)) $$ [HS Ho H0 H1 H2 Hb Hm]
  · isplitr; · iexact HC
    isplitl [HS]; · iexact HS
    isplitl [Ho]; · iexists W; iexact Ho
    isplitl [H0]; · iexact H0
    isplitl [H1]; · iexact H1
    isplitl [H2]; · iexact H2
    isplitl [Hb]; · iexact Hb
    iexact Hm
  iintro HS ⟨%W', Ho⟩ H0 H1 H2 ⟨%Xb', %hXb', Hb⟩ Hm
  isplitl [HS Hb Hm]
  · iexists K, R
    isplitr; · iexact HC
    isplitl [HS]; · iexact HS
    isplitl [Hb]
    · iexists Xb'
      isplitr; · ipureintro; exact fun _ => hXb'
      iexact Hb
    iexact Hm
  isplitl [Ho]
  · iexists W'
    isplitr; · ipureintro; exact fun _ _ => Or.inl trivial
    iexact Ho
  isplitl [H0]
  · iexists _
    isplitr; · ipureintro; rfl
    iexact H0
  isplitl [H1]
  · iexists _
    isplitr; · ipureintro; rfl
    iexact H1
  iexact H2

end Cert.GradExchange
-- ==== Proof.Places.lean ====
/-
# The places of a device

A device's buffers are cut into the places of the exchange: those it keeps to itself, and those hops land in. The
latter of the first tiles are kept apart, since a hop may land there before the device has started.
-/
module

public import proofs.«01_k».proof.Proof.Obl

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig ℕ (Elt F) ℕ UU ℕ

/-! ## A buffer as twelve slots -/

omit [FloatOps F] in
theorem slots_eq (Φ : ℕ → sProp (MT nD τ sig ℕ (Elt F) ℕ UU ℕ)) : (bigSep Finset.univ fun s : Fin 12 => Φ s.val) = bigSep (Finset.Ico 0 12) Φ := by
  rw [show Finset.Ico 0 12 = (Finset.univ : Finset (Fin 12)).map Fin.valEmbedding from by decide, bigSep_map]
  rfl

theorem sl_fin (s : Fin 12) : sl s.val = s := Fin.ext (Nat.mod_eq_of_lt s.isLt)

omit [FloatOps F] in
/-- The halves of a buffer, slot by slot. -/
theorem halves_eq (c : Dev nD) (M : Buf4) : (bigSep Finset.univ fun p : Fin 12 × Fin 2 => (fr c M p.1 p.2 : sProp 𝕄)) = bigSep (Finset.Ico 0 12) (pair M c) := by
  rw [← slots_eq, bigSep_univ_prod]
  refine bigSep_congr fun s _ => ?_
  unfold pair
  rw [sl_fin]
  exact bigSep_fin_two _

omit [FloatOps F] in
theorem pairs_eq (c : Dev nD) (M : Buf4) : bigSep (Finset.Ico 0 12) (pair M c)
    = (iprop((bigSep (Finset.Ico 0 12) fun t => fr c M (sl t) 0) ∗ bigSep (Finset.Ico 0 12) fun t => fr c M (sl t) 1) : sProp 𝕄) := bigSep_sep _ _ _

theorem buf_pairs (c : Dev nD) (M : Buf4) (hw : M.view.set = Finset.univ) :
    iprop(∃ f : Buf (Elt F) (M.view.loc (c : Thread nD τ)), M.view.loc (c : Thread nD τ) ↦{fullShare} f) ⊢ (bigSep (Finset.Ico 0 12) (pair M c) : sProp 𝕄) := by
  rw [← halves_eq]
  iintro ⟨%f, H⟩
  iapply (buf_out c M hw f)
  iexact H

theorem pairs_buf (c : Dev nD) (M : Buf4) (hw : M.view.set = Finset.univ) :
    (bigSep (Finset.Ico 0 12) (pair M c) : sProp 𝕄) ⊢ iprop(∃ f : Buf (Elt F) (M.view.loc (c : Thread nD τ)), M.view.loc (c : Thread nD τ) ↦{fullShare} f) := by
  rw [← halves_eq]
  exact buf_in c M hw fun _ => Classical.arbitrary _

theorem buf_owns (c : Dev nD) {s : Shape} {e : EltTy} (M : Memref sig .tc .vmem s e) (hw : M.view.set = Finset.univ) :
    iprop(∃ f : Buf (Elt F) (M.view.loc (c : Thread nD τ)), M.view.loc (c : Thread nD τ) ↦{fullShare} f) ⊢ (iprop(∃ X, owns (c : Thread nD τ) M fullShare X) : sProp 𝕄) := by
  unfold owns
  rw [hw]
  iintro ⟨%f, H⟩
  iexists _, f
  isplitr; · ipureintro; rfl
  iexact H

theorem owns_buf (c : Dev nD) {s : Shape} {e : EltTy} (M : Memref sig .tc .vmem s e) (hw : M.view.set = Finset.univ) :
    (iprop(∃ X, owns (c : Thread nD τ) M fullShare X) : sProp 𝕄) ⊢ iprop(∃ f : Buf (Elt F) (M.view.loc (c : Thread nD τ)), M.view.loc (c : Thread nD τ) ↦{fullShare} f) := by
  unfold owns
  rw [hw]
  iintro ⟨%X, %f, -, H⟩
  iexists f
  iexact H

/-! ## All the places of a device -/

omit [FloatOps F] in
theorem hops_eq (Φ : Kd → sProp (MT nD τ sig ℕ (Elt F) ℕ UU ℕ)) : bigSep Finset.univ Φ = iprop(Φ .x ∗ Φ .z1 ∗ Φ .y1 ∗ Φ .y2 ∗ Φ .z2) :=
  bigSep_univ_eq_bigSepL [Kd.x, Kd.z1, Kd.y1, Kd.y2, Kd.z2] (by decide) (by decide) Φ

/-- The places of device `c` no hop lands in. -/
def inner (c : Dev nD) : sProp 𝕄 :=
  iprop((∃ X, owns (c : Thread nD τ) xbM fullShare X) ∗ (∃ X, owns (c : Thread nD τ) msM fullShare X)
    ∗ bigSep (Finset.Ico 0 12) (pair xsM c) ∗ bigSep (Finset.Ico 0 12) (freeG c))

/-- The landing places of device `c`: one per hop and slot. -/
def landing (c : Dev nD) : sProp 𝕄 := bigSep Finset.univ fun k : Kd => bigSep (Finset.Ico 0 12) (freeP k c)

omit [FloatOps F] in
theorem freeG_eq (c : Dev nD) : bigSep (Finset.Ico 0 12) (freeG c)
    = (iprop((bigSep (Finset.Ico 0 12) fun t => fr c gaM (sl t) 0) ∗ bigSep (Finset.Ico 0 12) fun t => fr c gbM (sl t) 0) : sProp 𝕄) := bigSep_sep _ _ _

theorem set_whole' (b : Ref sig .tc) : (View.whole b : View sig .tc _ _ _).set = Finset.univ := View.set_whole _

/-- The buffers of the kernel's own, cut into its places. -/
theorem rest_out (c : Dev nD) : (Pipeline.scopedRest spec0 c : sProp 𝕄) ⊢ iprop(inner c ∗ landing c) := by
  have h0 : iprop(∃ f : Buf (Elt F) ((c : Thread nD τ).loc cc0_scratch0), ((c : Thread nD τ).loc cc0_scratch0) ↦{fullShare} f) ⊢ (iprop(∃ X, owns (c : Thread nD τ) xbM fullShare X) : sProp 𝕄) := buf_owns c xbM (View.set_whole _)
  have h1 : iprop(∃ f : Buf (Elt F) ((c : Thread nD τ).loc cc0_scratch1), ((c : Thread nD τ).loc cc0_scratch1) ↦{fullShare} f) ⊢ (iprop(∃ X, owns (c : Thread nD τ) msM fullShare X) : sProp 𝕄) := buf_owns c msM (View.set_whole _)
  have h2 : iprop(∃ f : Buf (Elt F) ((c : Thread nD τ).loc cc0_scratch2), ((c : Thread nD τ).loc cc0_scratch2) ↦{fullShare} f) ⊢ (bigSep (Finset.Ico 0 12) (pair xsM c) : sProp 𝕄) := buf_pairs c xsM (View.set_whole _)
  have h3 : iprop(∃ f : Buf (Elt F) ((c : Thread nD τ).loc cc0_scratch3), ((c : Thread nD τ).loc cc0_scratch3) ↦{fullShare} f) ⊢ (bigSep (Finset.Ico 0 12) (pair xrM c) : sProp 𝕄) := buf_pairs c xrM (View.set_whole _)
  have h4 : iprop(∃ f : Buf (Elt F) ((c : Thread nD τ).loc cc0_scratch4), ((c : Thread nD τ).loc cc0_scratch4) ↦{fullShare} f) ⊢ (bigSep (Finset.Ico 0 12) (pair gaM c) : sProp 𝕄) := buf_pairs c gaM (View.set_whole _)
  have h5 : iprop(∃ f : Buf (Elt F) ((c : Thread nD τ).loc cc0_scratch5), ((c : Thread nD τ).loc cc0_scratch5) ↦{fullShare} f) ⊢ (bigSep (Finset.Ico 0 12) (pair gbM c) : sProp 𝕄) := buf_pairs c gbM (View.set_whole _)
  have h6 : iprop(∃ f : Buf (Elt F) ((c : Thread nD τ).loc cc0_scratch6), ((c : Thread nD τ).loc cc0_scratch6) ↦{fullShare} f) ⊢ (bigSep (Finset.Ico 0 12) (pair hyM c) : sProp 𝕄) := buf_pairs c hyM (View.set_whole _)
  have h7 : iprop(∃ f : Buf (Elt F) ((c : Thread nD τ).loc cc0_scratch7), ((c : Thread nD τ).loc cc0_scratch7) ↦{fullShare} f) ⊢ (bigSep (Finset.Ico 0 12) (pair hzM c) : sProp 𝕄) := buf_pairs c hzM (View.set_whole _)
  rw [scopedRest0_eq]
  rw [pairs_eq c gaM] at h4
  rw [pairs_eq c gbM] at h5
  unfold inner landing
  rw [hops_eq, freeG_eq]
  iintro ⟨H0, H1, H2, H3, H4, H5, H6, H7⟩
  ihave H0 := h0 $$ H0
  ihave H1 := h1 $$ H1
  ihave H2 := h2 $$ H2
  ihave H3 := h3 $$ H3
  ihave H4 := h4 $$ H4
  icases H4 with ⟨H4, H4'⟩
  ihave H5 := h5 $$ H5
  icases H5 with ⟨H5, H5'⟩
  ihave H6 := h6 $$ H6
  ihave H7 := h7 $$ H7
  isplitl [H0 H1 H2 H4 H5]
  · isplitl [H0]; · iexact H0
    isplitl [H1]; · iexact H1
    isplitl [H2]; · iexact H2
    isplitl [H4]; · iexact H4
    iexact H5
  isplitl [H3]; · iexact H3
  isplitl [H4']; · iexact H4'
  isplitl [H5']; · iexact H5'
  isplitl [H6]; · iexact H6
  iexact H7

/-- The places put together again. -/
theorem rest_in (c : Dev nD) : iprop(inner c ∗ landing c) ⊢ (Pipeline.scopedRest spec0 c : sProp 𝕄) := by
  have h0 : (iprop(∃ X, owns (c : Thread nD τ) xbM fullShare X) : sProp 𝕄) ⊢ iprop(∃ f : Buf (Elt F) ((c : Thread nD τ).loc cc0_scratch0), ((c : Thread nD τ).loc cc0_scratch0) ↦{fullShare} f) := owns_buf c xbM (View.set_whole _)
  have h1 : (iprop(∃ X, owns (c : Thread nD τ) msM fullShare X) : sProp 𝕄) ⊢ iprop(∃ f : Buf (Elt F) ((c : Thread nD τ).loc cc0_scratch1), ((c : Thread nD τ).loc cc0_scratch1) ↦{fullShare} f) := owns_buf c msM (View.set_whole _)
  have h2 : (bigSep (Finset.Ico 0 12) (pair xsM c) : sProp 𝕄) ⊢ iprop(∃ f : Buf (Elt F) ((c : Thread nD τ).loc cc0_scratch2), ((c : Thread nD τ).loc cc0_scratch2) ↦{fullShare} f) := pairs_buf c xsM (View.set_whole _)
  have h3 : (bigSep (Finset.Ico 0 12) (pair xrM c) : sProp 𝕄) ⊢ iprop(∃ f : Buf (Elt F) ((c : Thread nD τ).loc cc0_scratch3), ((c : Thread nD τ).loc cc0_scratch3) ↦{fullShare} f) := pairs_buf c xrM (View.set_whole _)
  have h4 : (bigSep (Finset.Ico 0 12) (pair gaM c) : sProp 𝕄) ⊢ iprop(∃ f : Buf (Elt F) ((c : Thread nD τ).loc cc0_scratch4), ((c : Thread nD τ).loc cc0_scratch4) ↦{fullShare} f) := pairs_buf c gaM (View.set_whole _)
  have h5 : (bigSep (Finset.Ico 0 12) (pair gbM c) : sProp 𝕄) ⊢ iprop(∃ f : Buf (Elt F) ((c : Thread nD τ).loc cc0_scratch5), ((c : Thread nD τ).loc cc0_scratch5) ↦{fullShare} f) := pairs_buf c gbM (View.set_whole _)
  have h6 : (bigSep (Finset.Ico 0 12) (pair hyM c) : sProp 𝕄) ⊢ iprop(∃ f : Buf (Elt F) ((c : Thread nD τ).loc cc0_scratch6), ((c : Thread nD τ).loc cc0_scratch6) ↦{fullShare} f) := pairs_buf c hyM (View.set_whole _)
  have h7 : (bigSep (Finset.Ico 0 12) (pair hzM c) : sProp 𝕄) ⊢ iprop(∃ f : Buf (Elt F) ((c : Thread nD τ).loc cc0_scratch7), ((c : Thread nD τ).loc cc0_scratch7) ↦{fullShare} f) := pairs_buf c hzM (View.set_whole _)
  rw [scopedRest0_eq]
  rw [pairs_eq c gaM] at h4
  rw [pairs_eq c gbM] at h5
  unfold inner landing
  rw [hops_eq, freeG_eq]
  iintro ⟨⟨H0, H1, H2, H4, H5⟩, H3, H4', H5', H6, H7⟩
  isplitl [H0]; · iapply h0; iexact H0
  isplitl [H1]; · iapply h1; iexact H1
  isplitl [H2]; · iapply h2; iexact H2
  isplitl [H3]; · iapply h3; iexact H3
  isplitl [H4 H4']
  · iapply h4
    isplitl [H4]; · iexact H4
    iexact H4'
  isplitl [H5 H5']
  · iapply h5
    isplitl [H5]; · iexact H5
    iexact H5'
  isplitl [H6]; · iapply h6; iexact H6
  iapply h7; iexact H7

/-! ## The early landing places among them -/

omit [FloatOps F] in
theorem bracket8 (A B C D E G H I : sProp (MT nD τ sig ℕ (Elt F) ℕ UU ℕ)) :
    iprop(A ∗ B ∗ C ∗ D ∗ E ∗ G ∗ H ∗ I) = iprop((A ∗ B) ∗ (C ∗ D ∗ E) ∗ (G ∗ H ∗ I) ∗ emp ∗ emp) := by
  have h1 : iprop(A ∗ B ∗ C ∗ D ∗ E ∗ G ∗ H ∗ I) ⊢ iprop((A ∗ B) ∗ (C ∗ D ∗ E) ∗ (G ∗ H ∗ I) ∗ emp ∗ emp) := by
    iintro ⟨H0, H1, H2, H3, H4, H5, H6, H7⟩
    isplitl [H0 H1]
    · isplitl [H0]; · iexact H0
      iexact H1
    isplitl [H2 H3 H4]
    · isplitl [H2]; · iexact H2
      isplitl [H3]; · iexact H3
      iexact H4
    isplitl
    · isplitl [H5]; · iexact H5
      isplitl [H6]; · iexact H6
      iexact H7
    isplitl <;> iempintro
  have h2 : iprop((A ∗ B) ∗ (C ∗ D ∗ E) ∗ (G ∗ H ∗ I) ∗ emp ∗ emp) ⊢ iprop(A ∗ B ∗ C ∗ D ∗ E ∗ G ∗ H ∗ I) := by
    iintro ⟨⟨H0, H1⟩, ⟨H2, H3, H4⟩, ⟨H5, H6, H7⟩, -, -⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  exact equiv_iff.mp ⟨h1, h2⟩

omit [FloatOps F] in
/-- What is said of every early place is said of those of each hop. -/
theorem early_eq (Φ : Kd → ℕ → sProp (MT nD τ sig ℕ (Elt F) ℕ UU ℕ)) :
    (bigSep early fun p => Φ p.1 p.2) = bigSep Finset.univ fun k : Kd => bigSep (Finset.Ico 0 k.rc) (Φ k) := by
  have he : early = {((.x, 0) : Kd × ℕ), (.x, 1), (.z1, 0), (.z1, 1), (.z1, 2), (.y1, 0), (.y1, 1), (.y1, 2)} := by decide
  have h0 : ∀ Ψ : ℕ → sProp 𝕄, bigSep (Finset.Ico 0 0) Ψ = iprop(emp) := fun Ψ => by rw [Finset.Ico_self, bigSep_empty]; rfl
  have h2 : ∀ Ψ : ℕ → sProp 𝕄, bigSep (Finset.Ico 0 2) Ψ = iprop(Ψ 0 ∗ Ψ 1) := fun Ψ => by
    rw [show Finset.Ico 0 2 = {0, 1} from by decide, bigSep_insert (by decide), bigSep_singleton]; rfl
  have h3 : ∀ Ψ : ℕ → sProp 𝕄, bigSep (Finset.Ico 0 3) Ψ = iprop(Ψ 0 ∗ Ψ 1 ∗ Ψ 2) := fun Ψ => by
    rw [show Finset.Ico 0 3 = {0, 1, 2} from by decide, bigSep_insert (by decide), bigSep_insert (by decide), bigSep_singleton]; rfl
  rw [hops_eq, show Kd.rc .x = 2 from rfl, show Kd.rc .z1 = 3 from rfl, show Kd.rc .y1 = 3 from rfl, show Kd.rc .y2 = 0 from rfl, show Kd.rc .z2 = 0 from rfl,
    h0, h0, h2, h3, h3, he, bigSep_insert (by decide), bigSep_insert (by decide), bigSep_insert (by decide), bigSep_insert (by decide), bigSep_insert (by decide),
    bigSep_insert (by decide), bigSep_insert (by decide), bigSep_singleton]
  show iprop(Φ .x 0 ∗ Φ .x 1 ∗ Φ .z1 0 ∗ Φ .z1 1 ∗ Φ .z1 2 ∗ Φ .y1 0 ∗ Φ .y1 1 ∗ Φ .y1 2) = _
  exact bracket8 _ _ _ _ _ _ _ _

/-- The landing places of device `c` of the tiles that are not early. -/
def late (c : Dev nD) : sProp 𝕄 := bigSep Finset.univ fun k : Kd => bigSep (Finset.Ico k.rc 12) (freeP k c)

theorem rc_le (k : Kd) : k.rc ≤ 12 := by cases k <;> decide

omit [FloatOps F] in
theorem landing_eq (c : Dev nD) : (landing c : sProp 𝕄) = iprop((bigSep early fun p => freeP p.1 c p.2) ∗ late c) := by
  rw [early_eq fun k t => freeP k c t]
  unfold landing late
  rw [bigSep_congr (s := (Finset.univ : Finset Kd)) fun k _ => run_append (F := F) (Nat.zero_le k.rc) (rc_le k) (freeP k c)]
  exact bigSep_sep _ _ _

/-- The rights of device `c` to take its early landing places over. -/
def takes (c : Dev nD) : sProp 𝕄 := bigSep early fun p => Rtok p.1 c p.2

omit [FloatOps F] in
/-- While the owner holds the rights to take them over, the early places are still there. -/
theorem early_open (c : Dev nD) : iprop(earlyInv c ∗ takes c) ⊢ (iprop((bigSep early fun p => freeP p.1 c p.2) ∗ takes c) : sProp 𝕄) := by
  have h1 : ∀ p : Kd × ℕ, iprop(spot c p ∗ Rtok p.1 c p.2) ⊢ (iprop(freeP p.1 c p.2 ∗ Rtok p.1 c p.2) : sProp 𝕄) := fun p => by
    unfold spot
    iintro ⟨(H | ⟨-, H⟩), Hr⟩
    · isplitl [H]; · iexact H
      iexact Hr
    · iexfalso
      iapply (dutyTok_dutyTok_false (ER (F := F)))
      isplitl [Hr]; · iexact Hr
      iexact H
  unfold earlyInv takes
  have e1 : (bigSep early fun p => iprop(spot c p ∗ Rtok (F := F) p.1 c p.2)) = iprop(bigSep early (spot c) ∗ bigSep early fun p => Rtok p.1 c p.2) := bigSep_sep _ _ _
  have e2 : (bigSep early fun p => iprop(freeP p.1 c p.2 ∗ Rtok (F := F) p.1 c p.2)) = iprop((bigSep early fun p => freeP p.1 c p.2) ∗ bigSep early fun p => Rtok p.1 c p.2) := bigSep_sep _ _ _
  rw [← e1, ← e2]
  exact bigSep_mono fun p _ => h1 p

omit [FloatOps F] in
theorem early_close (c : Dev nD) : (bigSep early fun p => freeP p.1 c p.2) ⊢ (earlyInv c : sProp 𝕄) := by
  unfold earlyInv
  have h : ∀ p : Kd × ℕ, freeP p.1 c p.2 ⊢ (spot c p : sProp 𝕄) := fun p => by
    unfold spot
    iintro H; ileft; iexact H
  exact bigSep_mono fun p _ => h p

end Cert.GradExchange
-- ==== Proof.Ends.lean ====
/-
# The first and the last state

What a device holds before the first step makes its state there; its state after the last gives the buffers back and
leaves every semaphore at zero.
-/
module

public import proofs.«01_k».proof.Proof.Places

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig ℕ (Elt F) ℕ UU ℕ

/-! ## Runs twelve long -/

omit [FloatOps F] in
theorem run_period (A : ℕ → sProp (MT nD τ sig ℕ (Elt F) ℕ UU ℕ)) (h : ∀ t, A (t + 12) = A t) (n : ℕ) : bigSep (Finset.Ico n (n + 12)) A = bigSep (Finset.Ico 0 12) A := by
  induction n with
  | zero => rfl
  | succ n ih =>
    rw [← ih, run_peel (show n < n + 12 by omega), show n + 1 + 12 = (n + 12) + 1 by omega, run_snoc (show n + 1 ≤ n + 12 by omega), h]
    exact equiv_iff.mp ⟨BI.sep_comm, BI.sep_comm⟩

omit [FloatOps F] in
theorem run_nil (a : ℕ) (A : ℕ → sProp (MT nD τ sig ℕ (Elt F) ℕ UU ℕ)) : bigSep (Finset.Ico a a) A = iprop(emp) := by
  rw [Finset.Ico_self, bigSep_empty]; rfl

/-! ## The state at the start -/

/-- What device `c` holds of hop `k` before it starts, besides places: the tokens of its sends, the landing rights
    for the first tiles, its expectations, and its standing on the semaphores. -/
def kit (c : Dev nD) (k : Kd) : sProp 𝕄 :=
  iprop(bigSep (Finset.Ico 0 16) (stok k c) ∗ bigSep (Finset.Ico 0 k.rc) (right k (k.nb c)) ∗ (bigSep (Finset.Ico 0 16) fun t => cred (tallyAt (cR k c t) t k.amt))
    ∗ bigSep (Finset.Ico 0 12) (pos k c))

omit [FloatOps F] in
theorem rcv_all (k : Kd) (c : Dev nD) :
    iprop((bigSep (Finset.Ico 0 16) fun t => cred (tallyAt (cR k c t) t k.amt)) ∗ bigSep (Finset.Ico 0 k.rc) (Rtok k c)) ⊢ (bigSep (Finset.Ico 0 16) (rcv k c) : sProp 𝕄) := by
  have h1 : bigSep (Finset.Ico 0 16) (rcv (F := F) k c)
      = iprop((bigSep (Finset.Ico 0 16) fun t => cred (tallyAt (cR k c t) t k.amt)) ∗ bigSep (Finset.Ico 0 16) fun t => if t < k.rc then Rtok k c t else iprop(emp)) := bigSep_sep _ _ _
  have h2 : (bigSep (Finset.Ico 0 k.rc) fun t => if t < k.rc then Rtok (F := F) k c t else iprop(emp)) = bigSep (Finset.Ico 0 k.rc) (Rtok k c) :=
    bigSep_congr fun t ht => if_pos (Finset.mem_Ico.mp ht).2
  have h3 : (bigSep (Finset.Ico k.rc 16) fun t => if t < k.rc then Rtok (F := F) k c t else iprop(emp)) = iprop(emp) :=
    (bigSep_congr fun t ht => if_neg (Nat.not_lt.mpr (Finset.mem_Ico.mp ht).1)).trans (bigSep_emp_const _)
  rw [h1, run_append (Nat.zero_le k.rc) (show k.rc ≤ 16 by have := rc_le k; omega) (fun t => if t < k.rc then Rtok (F := F) k c t else iprop(emp)), h2, h3]
  iintro ⟨H, H'⟩
  isplitl [H]; · iexact H
  isplitl [H']; · iexact H'
  iempintro

omit [FloatOps F] in
theorem grp_start (k : Kd) (c : Dev nD) : iprop(kit c k ∗ bigSep (Finset.Ico 0 k.rc) (Rtok k c)) ⊢ (grp k c 0 0 0 : sProp 𝕄) := by
  unfold kit grp
  rw [hb_zero, run_nil]
  iintro ⟨⟨H1, H2, H3, H4⟩, H⟩
  isplitl [H1]; · iexact H1
  isplitl [H2]; · iexact H2
  isplitl [H H3]
  · iapply (rcv_all k c)
    isplitl [H3]; · iexact H3
    iexact H
  isplitr; · iempintro
  iexact H4

omit [FloatOps F] in
/-- A device's state before the first step. -/
theorem St_start (q : Spec F) (c : Dev nD) :
    iprop(bigSep Finset.univ (kit c) ∗ takes c ∗ late c ∗ bigSep (Finset.Ico 0 12) (pair xsM c) ∗ bigSep (Finset.Ico 0 12) (freeG c)) ⊢ (St q c 0 0 0 0 : sProp 𝕄) := by
  have hg : iprop(bigSep Finset.univ (kit c) ∗ takes c) ⊢ (bigSep Finset.univ fun k => grp k c 0 0 0 : sProp 𝕄) := by
    unfold takes
    rw [early_eq fun k t => Rtok k c t]
    have e : (bigSep Finset.univ fun k : Kd => iprop(kit (F := F) c k ∗ bigSep (Finset.Ico 0 k.rc) (Rtok k c)))
      = iprop(bigSep Finset.univ (kit c) ∗ bigSep Finset.univ fun k : Kd => bigSep (Finset.Ico 0 k.rc) (Rtok k c)) := bigSep_sep _ _ _
    rw [← e]
    exact bigSep_mono fun k _ => grp_start k c
  have hg' := hg.trans (Entails.of_eq (hops_eq _))
  have hl : late (F := F) c ⊢ _ := Entails.of_eq (hops_eq _)
  unfold St lands
  rw [run_nil, run_nil]
  iintro ⟨H1, H2, HL, H4, H5⟩
  ihave HL := hl $$ HL
  icases HL with ⟨L1, L2, L3, L4, L5⟩
  ihave HG := hg' $$ [H1 H2]
  · isplitl [H1]; · iexact H1
    iexact H2
  icases HG with ⟨G1, G2, G3, G4, G5⟩
  isplitl [G1]; · iexact G1
  isplitl [G2]; · iexact G2
  isplitl [G3]; · iexact G3
  isplitl [G4]; · iexact G4
  isplitl [G5]; · iexact G5
  isplitl [L1]; · iexact L1
  isplitl [L2]; · iexact L2
  isplitl [L3]; · iexact L3
  isplitl [L4]; · iexact L4
  isplitl [L5]; · iexact L5
  isplitl [H4]; · iexact H4
  isplitl [H5]; · iexact H5
  isplitl <;> iempintro

/-! ## The state at the end -/

omit [FloatOps F] in
theorem grp_end (k : Kd) (c : Dev nD) (u : ℕ) : grp k c 16 16 u ⊢ (bigSep (Finset.Ico 16 28) (pos k c) : sProp 𝕄) := by
  unfold grp
  iintro ⟨-, -, -, -, H⟩
  iexact H

omit [FloatOps F] in
theorem lands_end (k : Kd) (c : Dev nD) : lands k c 16 16 ⊢ (bigSep (Finset.Ico 0 12) (freeP k c) : sProp 𝕄) :=
  Entails.of_eq (run_period (freeP k c) (freeP_add k c) 16)

omit [FloatOps F] in
/-- A device's state after the last step: every place is free, and no semaphore has a tile to come. -/
theorem St_end (q : Spec F) (c : Dev nD) :
    St q c 16 16 16 16 ⊢ (iprop((bigSep Finset.univ fun k : Kd => bigSep (Finset.Ico 16 28) (pos k c)) ∗ landing c
      ∗ bigSep (Finset.Ico 0 12) (pair xsM c) ∗ bigSep (Finset.Ico 0 12) (freeG c)) : sProp 𝕄) := by
  have e1 : bigSep (Finset.Ico 16 (16 + 12)) (pair (F := F) xsM c) = bigSep (Finset.Ico 0 12) (pair xsM c) := run_period _ (fun t => by unfold pair; rw [sl_add]) 16
  have e2 : bigSep (Finset.Ico 16 (16 + 12)) (freeG (F := F) c) = bigSep (Finset.Ico 0 12) (freeG c) := run_period _ (fun t => by unfold freeG; rw [sl_add]) 16
  unfold St landing
  rw [e1, e2, hops_eq, hops_eq, show hx 16 = 16 from rfl, show hh 16 = 16 from rfl, show g2 16 = 16 from rfl]
  iintro ⟨G1, G2, G3, G4, G5, L1, L2, L3, L4, L5, H4, H5, -, -⟩
  isplitl [G1 G2 G3 G4 G5]
  · isplitl [G1]; · iapply (grp_end .x c 16); iexact G1
    isplitl [G2]; · iapply (grp_end .z1 c 16); iexact G2
    isplitl [G3]; · iapply (grp_end .y1 c 16); iexact G3
    isplitl [G4]; · iapply (grp_end .y2 c 16); iexact G4
    iapply (grp_end .z2 c 16); iexact G5
  isplitl [L1 L2 L3 L4 L5]
  · isplitl [L1]; · iapply (lands_end .x c); iexact L1
    isplitl [L2]; · iapply (lands_end .z1 c); iexact L2
    isplitl [L3]; · iapply (lands_end .y1 c); iexact L3
    isplitl [L4]; · iapply (lands_end .y2 c); iexact L4
    iapply (lands_end .z2 c); iexact L5
  isplitl [H4]; · iexact H4
  iexact H5

/-! ## The semaphores of the exchange -/

/-- The semaphores of the exchange: for each hop and slot the one of its sending and the one of its arrival. -/
def osem : (Kd × Fin 12) × Bool → SemLoc sig
  | (p, false) => .dma (semS p.1 p.2)
  | (p, true) => .dma (semR p.1 p.2)

theorem semS_lt (k : Kd) (s : Fin 12) : 5 ≤ (semS k s).val ∧ (semS k s).val < 65 := by
  have := k.num_lt; have := s.isLt
  show 5 ≤ 5 + 12 * k.num + s.val ∧ 5 + 12 * k.num + s.val < 65
  omega
theorem semR_lt (k : Kd) (s : Fin 12) : 65 ≤ (semR k s).val := by
  show 65 ≤ 65 + 12 * k.num + s.val
  omega

theorem semS_inj {k k' : Kd} {s s' : Fin 12} (h : semS k s = semS k' s') : k = k' ∧ s = s' := by
  have hk : k = k' := by rw [← kdOf_semS k s, h, kdOf_semS]
  subst hk
  have h' : 5 + 12 * k.num + s.val = 5 + 12 * k.num + s'.val := congrArg Fin.val h
  exact ⟨rfl, Fin.ext (by omega)⟩
theorem semR_inj {k k' : Kd} {s s' : Fin 12} (h : semR k s = semR k' s') : k = k' ∧ s = s' := by
  have hk : k = k' := by rw [← kdOf_semR k s, h, kdOf_semR]
  subst hk
  have h' : 65 + 12 * k.num + s.val = 65 + 12 * k.num + s'.val := congrArg Fin.val h
  exact ⟨rfl, Fin.ext (by omega)⟩

theorem dma_inj {v v' : DmaSem sig} (h : (SemLoc.dma v : SemLoc sig) = .dma v') : v = v' := by cases h; rfl

theorem osem_inj : Function.Injective osem := by
  rintro ⟨⟨k, s⟩, b⟩ ⟨⟨k', s'⟩, b'⟩ h
  cases b <;> cases b'
  · obtain ⟨rfl, rfl⟩ := semS_inj (dma_inj h); rfl
  · have := congrArg Fin.val (dma_inj h); have h1 := semS_lt k s; have h2 := semR_lt k' s'; simp only at this; omega
  · have := congrArg Fin.val (dma_inj h); have h1 := semS_lt k' s'; have h2 := semR_lt k s; simp only at this; omega
  · obtain ⟨rfl, rfl⟩ := semR_inj (dma_inj h); rfl

theorem stage_sem_lt : ∀ (w : Fin cfg0.W) (s : Fin (cfg0.win w).nbuf), ((cfg0.win w).sem s).val < 5 := by decide

theorem dma_scoped : ∀ v : DmaSem sig, (SemLoc.dma v : SemLoc sig).isScoped .tc = true := by decide

theorem ownSemFacts : Pipeline.OwnSemFacts cfg0.spec osem where
  isScoped := by rintro ⟨⟨k, s⟩, b⟩; cases b <;> exact dma_scoped _
  inj := osem_inj
  disj := by
    rintro ⟨⟨k, s⟩, b⟩ w s' h
    have h1 := stage_sem_lt w s'
    cases b
    · have h2 := congrArg Fin.val (dma_inj h); have h3 := semS_lt k s; have h4 : (semS k s).val < 5 := h2 ▸ h1; omega
    · have h2 := congrArg Fin.val (dma_inj h); have h3 := semR_lt k s; have h4 : (semR k s).val < 5 := h2 ▸ h1; omega

omit [FloatOps F] in
/-- What is said of each semaphore of the exchange, hop by hop and slot by slot. -/
theorem sems_eq (Φ : SemLoc sig → sProp (MT nD τ sig ℕ (Elt F) ℕ UU ℕ)) :
    (bigSep Finset.univ fun i => Φ (osem i)) = bigSep Finset.univ fun k : Kd => bigSep (Finset.Ico 0 12) fun t => iprop(Φ (.dma (semS k (sl t))) ∗ Φ (.dma (semR k (sl t)))) := by
  rw [bigSep_univ_prod, bigSep_univ_prod]
  refine bigSep_congr fun k _ => ?_
  rw [← slots_eq]
  refine bigSep_congr fun s _ => ?_
  rw [sl_fin, bigSep_univ_eq_bigSepL [false, true] (by decide) (by decide)]
  rfl

variable (q : Spec F) (K : (Dev nD × Kd × Fin 12) × Bool → ℕ) (R : Dev nD → ℕ)

omit [FloatOps F] in
/-- The semaphores of a slot whose tiles have all passed are at zero. -/
theorem pos_close (k : Kd) (c : Dev nD) (t : ℕ) (ht : 16 ≤ t) :
    iprop(ctx q K R ∗ pos k c t) ⊢ (iprop(|={Set.univ}=> (semVal (cS k c t) 0 ∗ semVal (cR k c t) 0)) : sProp 𝕄) := by
  unfold pos
  iintro ⟨#HC, HR, HS, -, -⟩
  ihave HcS := (ctx_S q K R k c t) $$ HC
  ihave HcR := (ctx_R q K R k c t) $$ HC
  imod (cell_close (ER (F := F)) (sched q) (Set.mem_univ _) (fun h => h) (R := t / 12) (fun r hr => duties_S_none q k c t ht r hr)) $$ [HcS HS] with HS
  · isplitl [HcS]; · iexact HcS
    iexact HS
  imod (cell_close (ER (F := F)) (sched q) (Set.mem_univ _) (fun h => h) (R := t / 12) (fun r hr => duties_R_none q k c t ht r hr)) $$ [HcR HR] with HR
  · isplitl [HcR]; · iexact HcR
    iexact HR
  imodintro
  isplitl [HS]; · iexact HS
  iexact HR

omit [FloatOps F] in
theorem with_persistent {I : Type} {S : Finset I} {P : sProp (MT nD τ sig ℕ (Elt F) ℕ UU ℕ)} [BI.Persistent P] {Φ Ψ : I → sProp (MT nD τ sig ℕ (Elt F) ℕ UU ℕ)}
    (h : ∀ i ∈ S, iprop(P ∗ Φ i) ⊢ Ψ i) : iprop(P ∗ bigSep S Φ) ⊢ bigSep S Ψ := by
  classical
  have e : (bigSep S fun i => iprop(P ∗ Φ i)) = iprop((bigSep S fun _ => P) ∗ bigSep S Φ) := bigSep_sep _ _ _
  refine (sep_mono_left (BI.bigSep_of_persistent S P)).trans ?_
  rw [← e]
  exact bigSep_mono h

omit [FloatOps F] in
/-- After the last step every semaphore of the exchange is at zero. -/
theorem sems_close (c : Dev nD) : iprop(ctx q K R ∗ bigSep Finset.univ fun k : Kd => bigSep (Finset.Ico 16 28) (pos k c))
    ⊢ (iprop(|={Set.univ}=> Pipeline.ownSems0 osem c) : sProp 𝕄) := by
  have h1 : ∀ k : Kd, iprop(ctx q K R ∗ bigSep (Finset.Ico 16 28) (pos k c)) ⊢ (iprop(|={Set.univ}=> bigSep (Finset.Ico 0 12) fun t => iprop(semVal (cS k c t) 0 ∗ semVal (cR k c t) 0)) : sProp 𝕄) := fun k => by
    rw [← run_period (fun t => iprop(semVal (cS k c t) 0 ∗ semVal (cR k c t) 0)) (fun t => by unfold cS cR; rw [sl_add]) 16]
    exact (with_persistent fun t ht => pos_close q K R k c t (Finset.mem_Ico.mp ht).1).trans (bigSep_fupd _ _)
  have h2 : (Pipeline.ownSems0 osem c : sProp 𝕄) = bigSep Finset.univ fun k : Kd => bigSep (Finset.Ico 0 12) fun t => iprop(semVal (cS k c t) 0 ∗ semVal (cR k c t) 0) :=
    sems_eq fun sm => semVal ((c : Thread nD τ), sm) 0
  rw [h2]
  exact (with_persistent fun k _ => h1 k).trans (bigSep_fupd _ _)

end Cert.GradExchange
-- ==== Proof.Entry.lean ====
/-
# Entering the exchange

A device's scoped buffers when it enters: the places where a peer may already have landed a copy lie in an invariant,
which the entry opens.
-/
module

public import proofs.«01_k».proof.Proof.Ends

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig ℕ (Elt F) ℕ UU ℕ

/-! ## Entering from an invariant

A kernel's entry takes all of a core's scoped buffers at once. Between two of its steps they may lie in an invariant,
which the entry then opens and closes again. -/

section Enter
variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}

/-- The entry of a kernel from scoped buffers that an opened invariant lends. -/
theorem wp_enter (𝒱 : Variants) (c : Thread nD τ) (bd : Option 𝒱.V) (E E₂ : Set Name) {α : Type} {ℓ : Λ.Label} {a : Λ.Args ℓ}
    {k : Λ.Result ℓ → Prog (TpuEff nD τ sig Val Λ c.2) α} {Q : α → sProp (MT nD τ sig Ix Val Name U Lvl)} (v : 𝒱.V) (hv : ∀ u ∈ bd, 𝒱.lt v u)
    {P : sProp (MT nD τ sig Ix Val Name U Lvl)} :
    iprop(|={E,E₂}=> (scopedBufs c ∗ (scopedBufs c -∗ |={E₂,E}=> P)))
      ⊢ iprop((P -∗ wp frame (wpE defs 𝒱 c (some v)) E (defs c.2 ℓ a) fun r => kernelExitSpec c fun _ => wp frame (wpE defs 𝒱 c bd) E (k r) Q)
        -∗ wp frame (wpE defs 𝒱 c bd) E (.op (.customCall ℓ a) k) Q) := by
  rw [wp_op, wpE'_customCall_eq]
  iintro Hsc Hk
  imodintro
  iapply (atomically_intro_at frame E E₂ (scopedSpec c) _)
  imod Hsc with ⟨Hsc, Hback⟩
  imodintro
  rw [scopedSpec_apply]
  isplitl [Hsc]; · iexact Hsc
  iintro Hsc
  imod Hback $$ Hsc with HP
  imodintro
  iapply (callArm_descend 𝒱 c bd E _ true _)
  iexists v
  isplitr; · ipureintro; exact hv
  simp only [bodyOf, wp_bind]
  have hexit (r : Λ.Result ℓ) : kernelExitSpec c (fun _ => wp frame (wpE defs 𝒱 c bd) E (k r) Q)
      ⊢ wp frame (wpE defs 𝒱 c (some v)) E (.op .kernelExit fun _ => .ret r) (fun x => wp frame (wpE defs 𝒱 c bd) E (k x) Q) := by
    rw [wp_op, wpE_kernelExit_eq, wp_ret, kernelExitSpec_apply, kernelExitSpec_apply]
    iintro ⟨Hz, Hk⟩
    imodintro
    isplitl [Hz]; · iexact Hz
    iintro Hz
    ispecialize Hk $$ Hz
    icases Hk with ⟨Hsc', Hk⟩
    isplitl [Hsc']; · iexact Hsc'
    iintro Hsc'
    imodintro
    iapply Hk; iexact Hsc'
  iapply (wp_mono frame _ E hexit)
  iapply Hk
  iexact HP

end Enter

/-! ## The entry of the exchange -/

/-- The pipeline's fixed tables: it has none. -/
abbrev adm : Dev nD → (p : Fin 1) → (pcfgs (F := F) p).Adm := fun _ p => (cfgs p).toPCfg_adm

variable (m : (ℓ : Loc nD τ sig) → Buf (Elt F) ℓ)

/-- The proof data of the program's one pipeline. -/
abbrev rds : (p : Fin 1) → (c : Dev nD) → RDat τ (Elt F) ℕ ℕ UU ℕ (Pipeline.pinD (pcfgs (F := F)) adm c p) c := fun p c => match p with | 0 => rd m c

/-- What a device holds of its buffers before it enters: all but the places of early landings, and the tokens that
    take these out of the invariant. -/
def hands (c : Dev nD) : sProp 𝕄 := iprop(Pipeline.Dat.staging (cfg0) c ∗ inner c ∗ late c ∗ takes c)

theorem bufs_eq (c : Dev nD) : (scopedBufs (c : Thread nD τ) : sProp 𝕄) = iprop(Pipeline.Dat.staging (cfg0) c ∗ Pipeline.scopedRest spec0 c) :=
  Pipeline.scopedBufs_split cfgs 0 winFacts0.to₀.stage_scoped winFacts0.to₀.stage_inj stage_whole0 c

/-- A device that has not entered lends its scoped buffers to the entry and has back what it held. -/
theorem open_bufs (q : Spec F) (K : (Dev nD × Kd × Fin 12) × Bool → ℕ) (R : Dev nD → ℕ) (c : Dev nD) :
    iprop(ctx q K R ∗ hands c) ⊢ (iprop(|={Set.univ,Set.univ \ {R c}}=> (scopedBufs (c : Thread nD τ) ∗ (scopedBufs (c : Thread nD τ) -∗ |={Set.univ \ {R c},Set.univ}=> hands c))) : sProp 𝕄) := by
  have e := bufs_eq (F := F) c
  have eL := landing_eq (F := F) c
  unfold hands
  iintro ⟨#HC, Hst, Hin, Hla, Ht⟩
  ihave HE := (ctx_E q K R c) $$ HC
  imod (inv_acc (Set.mem_univ (R c))) $$ HE with ⟨HE, Hclose⟩
  ihave HE := (early_open c) $$ [HE Ht]
  · isplitl [HE]; · iexact HE
    iexact Ht
  icases HE with ⟨HE, Ht⟩
  imodintro
  isplitl [Hst Hin Hla HE]
  · iapply (Entails.of_eq e.symm)
    isplitl [Hst]; · iexact Hst
    iapply (rest_in c)
    isplitl [Hin]; · iexact Hin
    iapply (Entails.of_eq eL.symm)
    isplitl [HE]; · iexact HE
    iexact Hla
  iintro Hsc
  ihave Hsc := (Entails.of_eq e) $$ Hsc
  icases Hsc with ⟨Hst, Hrest⟩
  ihave Hrest := (rest_out c) $$ Hrest
  icases Hrest with ⟨Hin, HL⟩
  ihave HL := (Entails.of_eq eL) $$ HL
  icases HL with ⟨HE, Hla⟩
  ihave HE := (early_close c) $$ HE
  imod Hclose $$ HE with -
  imodintro
  isplitl [Hst]; · iexact Hst
  isplitl [Hin]; · iexact Hin
  isplitl [Hla]; · iexact Hla
  iexact Ht

/-- The state the first step finds. -/
theorem Phi_start (K : (Dev nD × Kd × Fin 12) × Bool → ℕ) (R : Dev nD → ℕ) (c : Dev nD) :
    iprop(ctx (qq m) K R ∗ bigSep Finset.univ (kit c) ∗ inner c ∗ late c ∗ takes c) ⊢ (Phi m c 0 : sProp 𝕄) := by
  unfold Phi inner
  iintro ⟨#HC, Hk, ⟨⟨%X, HX⟩, ⟨%Y, HY⟩, Hp, Hg⟩, Hl, Ht⟩
  iexists K, R
  isplitr; · iexact HC
  isplitr [HX HY]
  · iapply (St_start (qq m) c)
    isplitl [Hk]; · iexact Hk
    isplitl [Ht]; · iexact Ht
    isplitl [Hl]; · iexact Hl
    isplitl [Hp]; · iexact Hp
    iexact Hg
  isplitl [HX]
  · iexists X
    isplitr; · ipureintro; exact fun h => absurd h (lt_irrefl _)
    iexact HX
  · iexists Y
    isplitr; · ipureintro; exact fun t _ h => absurd h (Nat.not_lt_zero t)
    iexact HY

/-- The state the last step leaves: every semaphore of the exchange at zero and every buffer whole. -/
theorem Phi_end (c : Dev nD) : Phi m c 22 ⊢ (iprop(|={Set.univ}=> (Pipeline.ownSems0 osem c ∗ Pipeline.scopedRest spec0 c)) : sProp 𝕄) := by
  unfold Phi
  rw [show min 22 16 = 16 from rfl, show min (22 - 2) 16 = 16 from rfl, show min (22 - 4) 16 = 16 from rfl, show min (22 - 6) 16 = 16 from rfl]
  iintro ⟨%K, %R, #HC, HS, ⟨%X, -, HX⟩, ⟨%Y, -, HY⟩⟩
  ihave HS := (St_end (qq m) c) $$ HS
  icases HS with ⟨Hpos, HL, Hp, Hg⟩
  imod (sems_close (qq m) K R c) $$ [Hpos] with Hz
  · isplitr; · iexact HC
    iexact Hpos
  imodintro
  isplitl [Hz]; · iexact Hz
  iapply (rest_in c)
  isplitr [HL]
  · unfold inner
    isplitl [HX]; · iexists X; iexact HX
    isplitl [HY]; · iexists Y; iexact HY
    isplitl [Hp]; · iexact Hp
    iexact Hg
  iexact HL

theorem cell_inj : Function.Injective (Pipeline.PerCore.cellOf (nD := nD) (τ := τ) (Pipeline.pinD (pcfgs (F := F)) adm)) := cellOf_inj

/-- The semaphores of a core that neither the pipeline nor the exchange names. -/
def idle (c : Dev nD) : sProp 𝕄 := Pipeline.PerCore.idleSems0 (Pipeline.pinD (pcfgs (F := F)) adm) cell_inj 0 (fun _ => ownSemFacts) c

theorem sems_split (c : Dev nD) : (scopedSems0 (c : Thread nD τ) : sProp 𝕄)
    = iprop((Pipeline.PerCore.cellsSems0 (Pipeline.pinD (pcfgs (F := F)) adm) 0 c ∗ Pipeline.ownSems0 osem c) ∗ idle c) :=
  Pipeline.PerCore.scopedSems0_split (Pipeline.pinD (pcfgs (F := F)) adm) cell_inj 0 (fun _ => winFacts0.to₀) (fun _ => ownSemFacts) c

theorem no_tables (c : Dev nD) : ⊢ (Pipeline.prefHeld (pcfgs (F := F) 0).pre c (fun _ => fullShare) (adm (F := F) c 0).1 : sProp 𝕄) := by
  unfold Pipeline.prefHeld
  rw [Finset.univ_eq_empty, bigSep_empty]
  iempintro

/-- One device's whole run: the entry, the steps, the exit. -/
theorem wp_exchange (κ : GSem nD τ sig → ℕ) (K : (Dev nD × Kd × Fin 12) × Bool → ℕ) (R : Dev nD → ℕ) (c : Dev nD) {Q : PUnit → sProp (MT nD τ sig ℕ (Elt F) ℕ UU ℕ)} :
    iprop(Pipeline.PerCore.RDat.EntryPre (Pipeline.pinD (pcfgs (F := F)) adm) (rds m) 0 EP κ 0 c ∗ ctx (qq m) K R ∗ bigSep Finset.univ (kit c) ∗ hands c ∗ idle c)
      ⊢ iprop(((Pipeline.PerCore.RDat.EntryPost (Pipeline.pinD (pcfgs (F := F)) adm) (rds m) 0 0 c ∗ scopedSems0 (c : Thread nD τ)) -∗
            wp frame (wpE (Pipeline.defs (pcfgs (F := F)) defs₀) (Variants.lift 𝒱₀) (c : Thread nD τ) none) Set.univ (.ret ⟨⟩) Q)
        -∗ wp frame (wpE (Pipeline.defs (pcfgs (F := F)) defs₀) (Variants.lift 𝒱₀) (c : Thread nD τ) none) Set.univ
            (.op (.customCall (Pipeline.entry (0 : Fin 1)) ()) fun _ => .ret ⟨⟩) Q) := by
  have eS := sems_split (F := F) c
  have eB := bufs_eq (F := F) c
  have hΦ : iprop(ctx (qq m) K R ∗ bigSep Finset.univ (kit c) ∗ inner c ∗ late c ∗ takes c) ⊢ ((rds m 0 c).Φ 0 : sProp 𝕄) := Phi_start m K R c
  have hΦ' : ((rds m 0 c).Φ (Fin.last _) : sProp 𝕄) ⊢ (iprop(|={Set.univ}=> (Pipeline.ownSems0 osem c ∗ Pipeline.scopedRest spec0 c)) : sProp 𝕄) := by
    have e : ((rds m 0 c).Φ (Fin.last _) : sProp 𝕄) = Phi m c grid0.N := rfl
    rw [e, N_0]
    exact Phi_end m c
  iintro ⟨Hpre, #HC, Hkit, Hh, Hidle⟩ Hk
  iapply (wp_enter (Variants.lift 𝒱₀) (c : Thread nD τ) none Set.univ (Set.univ \ {R c}) (ℓ := Pipeline.entry (0 : Fin 1)) (a := ())
    (Sum.inr ((cfg0).tripCount + 1) : (Variants.lift 𝒱₀).V) (fun u h => nomatch h) (P := hands c)) $$ [Hh]
  · iapply (open_bufs (qq m) K R c)
    isplitr; · iexact HC
    iexact Hh
  iintro Hh
  rw [Pipeline.defs_tc_entry]
  iapply (Pipeline.PerCore.RDat.wp_prun (pcfgs (F := F)) adm (rds m) 0 EP κ cell_inj 0 defs₀ 𝒱₀ (fun _ => fullShare) c Set.univ (fun _ _ => Set.mem_univ _) (body_obligation m c)
    (some (Sum.inr ((cfg0).tripCount + 1) : (Variants.lift 𝒱₀).V))
    (Q := fun r => kernelExitSpec (c : Thread nD τ) fun _ => wp frame (wpE (Pipeline.defs (pcfgs (F := F)) defs₀) (Variants.lift 𝒱₀) (c : Thread nD τ) none) Set.univ (.ret ⟨⟩) Q)
    (fun u hu => by cases hu; exact Sum.Lex.inr (Nat.lt_succ_self _))) $$ [Hpre Hkit Hh]
  · isplitr; · iapply (no_tables (F := F) c)
    iintro -
    unfold Pipeline.PerCore.RDat.RunPre Pipeline.RDat.Pre Pipeline.PerCore.RDat.EntryPre hands
    icases Hpre with ⟨Ha, Ho, Hw, Hi, Ht⟩
    icases Hh with ⟨Hst, Hin, Hla, Hta⟩
    isplitl [Ha Hst Ho Hin Hla Hta Hkit]
    · isplitl [Ha]; · iexact Ha
      isplitl [Hst]; · iexact Hst
      isplitl [Ho]; · iexact Ho
      iapply hΦ
      isplitr; · iexact HC
      isplitl [Hkit]; · iexact Hkit
      isplitl [Hin]; · iexact Hin
      isplitl [Hla]; · iexact Hla
      iexact Hta
    isplitl [Hw]; · iexact Hw
    isplitl [Hi]; · iexact Hi
    iexact Ht
  iintro ⟨Hpost, Hend⟩
  imod (Pipeline.PerCore.RDat.cellsEnd_close (Pipeline.pinD (pcfgs (F := F)) adm) (rds m) EP κ cell_inj 0 c Set.univ (fun _ _ => Set.mem_univ _) block_pos0) $$ Hend with Hz
  unfold Pipeline.RDat.Post Pipeline.PerCore.RDat.EntryPost
  icases Hpost with ⟨Ha, Hst, Ho, HΦ⟩
  imod hΦ' $$ HΦ with ⟨Hos, Hrest⟩
  rw [kernelExitSpec_apply]
  imodintro
  isplitl [Hz Hos Hidle]
  · iapply (Entails.of_eq eS.symm)
    isplitl [Hz Hos]
    · isplitl [Hz]; · iexact Hz
      iexact Hos
    iexact Hidle
  iintro Hss
  isplitl [Hst Hrest]
  · iapply (Entails.of_eq eB.symm)
    isplitl [Hst]; · iexact Hst
    iexact Hrest
  iintro -
  iapply Hk
  isplitl [Ha Ho]
  · isplitl [Ha]; · iexact Ha
    iexact Ho
  iexact Hss

end Cert.GradExchange
-- ==== Proof.Fund.lean ====
/-
# The start of the exchange

The cells of the exchange, the tokens of its tiles, and each device's share of them.
-/
module

public import proofs.«01_k».proof.Proof.Entry

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig ℕ (Elt F) ℕ UU ℕ

omit [FloatOps F] in
theorem fins_eq {n : ℕ} (Φ : ℕ → sProp (MT nD τ sig ℕ (Elt F) ℕ UU ℕ)) : (bigSep Finset.univ fun s : Fin n => Φ s.val) = bigSep (Finset.Ico 0 n) Φ := by
  have e : (Finset.Ico 0 n) = (Finset.univ : Finset (Fin n)).map Fin.valEmbedding := by
    ext i
    simp only [Finset.mem_Ico, Finset.mem_map, Finset.mem_univ, true_and, Fin.valEmbedding_apply]
    exact ⟨fun h => ⟨⟨i, h.2⟩, rfl⟩, fun ⟨j, h⟩ => ⟨Nat.zero_le _, h ▸ j.isLt⟩⟩
  rw [e, bigSep_map]
  rfl

/-! ## The cells and the tokens -/

/-- The cells of the exchange. -/
def xcell (p : Dev nD × ((Kd × Fin 12) × Bool)) : GSem nD τ sig := ((p.1 : Thread nD τ), osem p.2)

theorem xcell_inj : Function.Injective xcell := by
  rintro ⟨c, i⟩ ⟨c', i'⟩ h
  have h1 : c = c' := congrArg (fun g : GSem nD τ sig => g.1.1) h
  have h2 : i = i' := osem_inj (congrArg Prod.snd h)
  rw [h1, h2]

def xcells : Finset (GSem nD τ sig) := Finset.univ.map ⟨xcell, xcell_inj⟩

/-- The tokens of tile `t` of hop `k` on device `c`: of its sending, of its arrival, of handing its place over, and of
    taking it over. -/
def xtok (p : Dev nD × Kd × Fin 16 × Fin 4) : GSem nD τ sig × ℕ × Unit := match p.2.2.2 with
  | 0 => (cS p.2.1 p.1 p.2.2.1, p.2.2.1 / 12, ())
  | 1 => (cR p.2.1 p.1 p.2.2.1, p.2.2.1 / 12, ())
  | 2 => (cR p.2.1 p.1 p.2.2.1, 100 + p.2.2.1, ())
  | 3 => (cR p.2.1 p.1 p.2.2.1, 200 + p.2.2.1, ())

theorem cS_ne_cR {k k' : Kd} {c c' : Dev nD} {t t' : ℕ} (h : cS k c t = cR k' c' t') : False := by
  have := congrArg Fin.val (dma_inj (congrArg Prod.snd h))
  have h1 := semS_lt k (sl t)
  have h2 := semR_lt k' (sl t')
  omega
theorem cS_eq {k k' : Kd} {c c' : Dev nD} {t t' : ℕ} (h : cS k c t = cS k' c' t') : c = c' ∧ k = k' ∧ t % 12 = t' % 12 := by
  obtain ⟨h1, h2⟩ := semS_inj (dma_inj (congrArg Prod.snd h))
  exact ⟨congrArg (fun g : GSem nD τ sig => g.1.1) h, h1, congrArg Fin.val h2⟩
theorem cR_eq {k k' : Kd} {c c' : Dev nD} {t t' : ℕ} (h : cR k c t = cR k' c' t') : c = c' ∧ k = k' ∧ t % 12 = t' % 12 := by
  obtain ⟨h1, h2⟩ := semR_inj (dma_inj (congrArg Prod.snd h))
  exact ⟨congrArg (fun g : GSem nD τ sig => g.1.1) h, h1, congrArg Fin.val h2⟩

theorem xtok_inj : Function.Injective xtok := by
  rintro ⟨c, k, t, j⟩ ⟨c', k', t', j'⟩ h
  have hr : (xtok (c, k, t, j)).2.1 = (xtok (c', k', t', j')).2.1 := by rw [h]
  have hg : (xtok (c, k, t, j)).1 = (xtok (c', k', t', j')).1 := by rw [h]
  have ht := t.isLt
  have ht' := t'.isLt
  clear h
  have done : c = c' ∧ k = k' ∧ t.val % 12 = t'.val % 12 → t.val / 12 = t'.val / 12 → j = j' → (c, k, t, j) = (c', k', t', j') := by
    rintro ⟨rfl, rfl, h1⟩ h2 rfl
    have : t = t' := Fin.ext (by omega)
    rw [this]
  fin_cases j <;> fin_cases j' <;> simp only [xtok] at hr hg <;>
    first
    | exact (cS_ne_cR hg).elim
    | exact (cS_ne_cR hg.symm).elim
    | exact done (cS_eq hg) hr rfl
    | exact done (cR_eq hg) (by omega) rfl
    | (exfalso; omega)

def xtoks : Finset (GSem nD τ sig × ℕ × Unit) := Finset.univ.map ⟨xtok, xtok_inj⟩

omit [FloatOps F] in
theorem xcells_eq (Φ : GSem nD τ sig → sProp (MT nD τ sig ℕ (Elt F) ℕ UU ℕ)) :
    bigSep xcells Φ = bigSep Finset.univ fun c : Dev nD => bigSep Finset.univ fun k : Kd => bigSep (Finset.Ico 0 12) fun t => iprop(Φ (cS k c t) ∗ Φ (cR k c t)) := by
  unfold xcells
  rw [bigSep_map, bigSep_univ_prod]
  exact bigSep_congr fun c _ => sems_eq fun sm => Φ ((c : Thread nD τ), sm)

/-- The tokens of one device and hop. -/
def T1 (k : Kd) (c : Dev nD) : sProp 𝕄 := bigSep (Finset.Ico 0 16) fun t => dutyTok (ER (F := F)) (cS k c t) (t / 12) ()
def T2 (k : Kd) (c : Dev nD) : sProp 𝕄 := bigSep (Finset.Ico 0 16) fun t => dutyTok (ER (F := F)) (cR k c t) (t / 12) ()
def T3 (k : Kd) (c : Dev nD) : sProp 𝕄 := bigSep (Finset.Ico 0 16) (Stok k c)
def T4 (k : Kd) (c : Dev nD) : sProp 𝕄 := bigSep (Finset.Ico 0 16) (Rtok k c)

/-- One tile's tokens. -/
def four (c : Dev nD) (k : Kd) (t : ℕ) : sProp 𝕄 :=
  iprop(dutyTok (ER (F := F)) (cS k c t) (t / 12) () ∗ dutyTok (ER (F := F)) (cR k c t) (t / 12) () ∗ Stok k c t ∗ Rtok k c t)

omit [FloatOps F] in
theorem four_eq (c : Dev nD) (k : Kd) : (bigSep (Finset.Ico 0 16) (four c k) : sProp 𝕄) = iprop(T1 k c ∗ T2 k c ∗ T3 k c ∗ T4 k c) := by
  unfold four T1 T2 T3 T4
  rw [bigSep_sep', bigSep_sep', bigSep_sep']

omit [FloatOps F] in
theorem xtoks_eq : (bigSep xtoks fun x => (dutyTok (ER (F := F)) x.1 x.2.1 x.2.2 : sProp 𝕄))
    = bigSep Finset.univ fun c : Dev nD => bigSep Finset.univ fun k : Kd => iprop(T1 k c ∗ T2 k c ∗ T3 k c ∗ T4 k c) := by
  unfold xtoks
  rw [bigSep_map, bigSep_univ_prod]
  refine bigSep_congr fun c _ => ?_
  rw [bigSep_univ_prod]
  refine bigSep_congr fun k _ => ?_
  rw [bigSep_univ_prod, ← four_eq, ← fins_eq]
  refine bigSep_congr fun t _ => ?_
  rw [bigSep_univ_eq_bigSepL [0, 1, 2, 3] (by decide) (by decide)]
  rfl

omit [FloatOps F] in
/-- Every device's share handed to its neighbour across the hop. -/
theorem across (Φ : Kd → Dev nD → sProp (MT nD τ sig ℕ (Elt F) ℕ UU ℕ)) :
    (bigSep Finset.univ fun c : Dev nD => bigSep Finset.univ fun k : Kd => Φ k c) = bigSep Finset.univ fun c : Dev nD => bigSep Finset.univ fun k : Kd => Φ k (k.nb c) := by
  rw [bigSep_univ_comm, bigSep_univ_comm (fun (c : Dev nD) (k : Kd) => Φ k (k.nb c))]
  refine bigSep_congr fun k _ => ?_
  exact bigSep_univ_equiv (⟨k.nb, k.nb, nb_nb k, nb_nb k⟩ : Dev nD ≃ Dev nD) (fun c => Φ k c)

/-! ## What one device gets -/

omit [FloatOps F] in
theorem run_drop {a b : ℕ} (h : a ≤ b) (Φ : ℕ → sProp (MT nD τ sig ℕ (Elt F) ℕ UU ℕ)) : bigSep (Finset.Ico 0 b) Φ ⊢ bigSep (Finset.Ico 0 a) Φ := by
  rw [run_append (Nat.zero_le a) h Φ]
  iintro ⟨H, -⟩
  iexact H

/-- That round 0 of every cell is reached. -/
def opened : sProp 𝕄 := bigSep Finset.univ fun c : Dev nD => bigSep Finset.univ fun k : Kd => bigSep (Finset.Ico 0 12) fun t =>
  iprop(reached (ER (F := F)) (cS k c t) 0 ∗ reached (ER (F := F)) (cR k c t) 0)

omit [FloatOps F] in
instance opened_persistent : BI.Persistent (opened (F := F)) := by unfold opened; infer_instance

omit [FloatOps F] in
theorem opened_at (k : Kd) (c : Dev nD) (t : ℕ) (ht : t < 12) : opened ⊢ (iprop(reached (ER (F := F)) (cS k c t) 0 ∗ reached (ER (F := F)) (cR k c t) 0) : sProp 𝕄) := by
  unfold opened
  exact ((bigSep_elim (Finset.mem_univ c)).trans (bigSep_elim (Finset.mem_univ k))).trans (bigSep_elim (Finset.mem_Ico.mpr ⟨Nat.zero_le _, ht⟩))

/-- A device's standing on the cells of a hop. -/
def stand (k : Kd) (c : Dev nD) : sProp 𝕄 := bigSep (Finset.Ico 0 12) fun t => iprop(atPos (ER (F := F)) (cS k c t) 0 ∅ 0 ∗ atPos (ER (F := F)) (cR k c t) 0 ∅ 0)

/-- What a device may expect of a hop. -/
def hopes (k : Kd) (c : Dev nD) : sProp 𝕄 := bigSep (Finset.Ico 0 16) fun t => cred (tallyAt (cR k c t) t k.amt)

omit [FloatOps F] in
theorem kit_intro (k : Kd) (c : Dev nD) :
    iprop(opened ∗ T1 k c ∗ T2 k (k.nb c) ∗ T3 k (k.nb c) ∗ T4 k c ∗ stand k c ∗ hopes k c) ⊢ (iprop(kit c k ∗ bigSep (Finset.Ico 0 k.rc) (Rtok k c)) : sProp 𝕄) := by
  have hrc := rc_le k
  have e1 : bigSep (Finset.Ico 0 16) (stok (F := F) k c) = iprop(T1 k c ∗ T2 k (k.nb c)) := bigSep_sep _ _ _
  have h2 : iprop(opened ∗ bigSep (Finset.Ico 0 k.rc) (Stok k (k.nb c))) ⊢ (bigSep (Finset.Ico 0 k.rc) (right k (k.nb c)) : sProp 𝕄) :=
    with_persistent fun t ht => by
      have ht' := (Finset.mem_Ico.mp ht).2
      unfold right
      rw [if_pos ht', show t / 12 = 0 by omega]
      iintro ⟨HO, H⟩
      ihave HO := (opened_at k (k.nb c) t (by omega)) $$ HO
      icases HO with ⟨-, HO⟩
      isplitl [H]; · iexact H
      iexact HO
  have h3 : iprop(opened ∗ stand k c) ⊢ (bigSep (Finset.Ico 0 12) (pos k c) : sProp 𝕄) :=
    with_persistent fun t ht => by
      have ht' := (Finset.mem_Ico.mp ht).2
      unfold pos
      rw [show t / 12 = 0 by omega]
      iintro ⟨HO, HS, HR⟩
      ihave HO := (opened_at k c t ht') $$ HO
      icases HO with ⟨HO, HO'⟩
      isplitl [HR]; · iexact HR
      isplitl [HS]; · iexact HS
      isplitl [HO']; · iexact HO'
      iexact HO
  have h4 : T3 k (k.nb c) ⊢ (bigSep (Finset.Ico 0 k.rc) (Stok k (k.nb c)) : sProp 𝕄) := run_drop (by omega) _
  have h5 : T4 k c ⊢ (bigSep (Finset.Ico 0 k.rc) (Rtok k c) : sProp 𝕄) := run_drop (by omega) _
  unfold kit hopes
  rw [e1]
  iintro ⟨#HO, H1, H2, H3, H4, Hs, Hh⟩
  isplitr [H4]
  · isplitl [H1 H2]
    · isplitl [H1]; · iexact H1
      iexact H2
    isplitl [H3]
    · iapply h2
      isplitr; · iexact HO
      iapply h4
      iexact H3
    isplitl [Hh]; · iexact Hh
    iapply h3
    isplitr; · iexact HO
    iexact Hs
  iapply h5
  iexact H4

omit [FloatOps F] in
theorem kits_intro :
    iprop(opened ∗ bigSep Finset.univ fun c : Dev nD => bigSep Finset.univ fun k : Kd => iprop(T1 k c ∗ T2 k (k.nb c) ∗ T3 k (k.nb c) ∗ T4 k c ∗ stand k c ∗ hopes k c))
      ⊢ (bigSep Finset.univ fun c : Dev nD => iprop(bigSep Finset.univ (kit c) ∗ takes c) : sProp 𝕄) :=
  with_persistent fun c _ => by
    have e : iprop(bigSep Finset.univ (kit c) ∗ takes c) = (bigSep Finset.univ fun k : Kd => iprop(kit c k ∗ bigSep (Finset.Ico 0 k.rc) (Rtok k c)) : sProp 𝕄) := by
      unfold takes
      rw [early_eq fun k t => Rtok k c t]
      exact (bigSep_sep _ _ _).symm
    rw [e]
    exact with_persistent fun k _ => kit_intro k c

omit [FloatOps F] in
/-- What each device owes at the start lets its neighbours hope. -/
theorem hopes_intro (c : Dev nD) : Pipeline.launchCred (fun d => owed d 0) c ⊢ (bigSep Finset.univ fun k : Kd => hopes k c : sProp 𝕄) := by
  have e : (fun d : Dev nD => owed d 0) = fun d => ∑ k : Kd, ∑ t ∈ Finset.Ico 0 16, tallyAt (cR k (k.nb d) t) t k.amt := by
    funext d
    unfold owed ow
    exact Finset.sum_congr rfl fun k _ => by cases k <;> rfl
  rw [e, Pipeline.launchCred_sum]
  refine bigSep_mono fun k _ => ?_
  rw [Pipeline.launchCred_sum]
  exact bigSep_mono fun t _ => Pipeline.launchCred_tallyAt (.dma (semR k (sl t))) k.nb k.nb (nb_nb k) (nb_nb k) t k.amt c

end Cert.GradExchange
-- ==== Proof.Deal.lean ====
/-
# The devices seated

The cells and the early places go into invariants, and every device gets its share of the tokens.
-/
module

public import proofs.«01_k».proof.Proof.Fund

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig ℕ (Elt F) ℕ UU ℕ

variable (q : Spec F)

omit [FloatOps F] in
/-- The invariants of one device's cells. -/
theorem cells_alloc (c : Dev nD) :
    iprop((Pipeline.ownSems0 osem c : sProp 𝕄) ∗ bigSep Finset.univ fun i => roundState (ER (F := F)) (sched q) (xcell (c, i)) 0)
      ⊢ iprop(|={Set.univ}=> bigSep Finset.univ fun i => iprop(∃ κ : ℕ, cellInv (ER (F := F)) (sched q) κ (xcell (c, i)))) := by
  unfold Pipeline.ownSems0
  rw [← bigSep_sep']
  exact (bigSep_mono fun i _ => (Rounds.body_intro (ER (F := F)) (sched q) (xcell (c, i))).trans inv_alloc).trans (bigSep_fupd _ _)

/-- What a device's scoped buffers leave it after the early places went into their invariant. -/
def keeps (c : Dev nD) : sProp 𝕄 := iprop(Pipeline.Dat.staging cfg0 c ∗ inner c ∗ late c)

/-- The early places of a device, put into an invariant. -/
theorem early_alloc (c : Dev nD) : scopedBufs (c : Thread nD τ) ⊢ (iprop(|={Set.univ}=> ((∃ r : ℕ, inv r (earlyInv c)) ∗ keeps c)) : sProp 𝕄) := by
  have eB := bufs_eq (F := F) c
  have eL := landing_eq (F := F) c
  have hA : earlyInv (F := F) c ⊢ (iprop(|={Set.univ}=> ∃ r : ℕ, inv r (earlyInv c)) : sProp 𝕄) := inv_alloc
  unfold keeps
  iintro H
  ihave H := (Entails.of_eq eB) $$ H
  icases H with ⟨Hst, Hrest⟩
  ihave Hrest := (rest_out c) $$ Hrest
  icases Hrest with ⟨Hin, HL⟩
  ihave HL := (Entails.of_eq eL) $$ HL
  icases HL with ⟨HE, Hla⟩
  ihave HE := (early_close c) $$ HE
  imod hA $$ HE with HE
  imodintro
  isplitl [HE]; · iexact HE
  isplitl [Hst]; · iexact Hst
  isplitl [Hin]; · iexact Hin
  iexact Hla

omit [FloatOps F] in
/-- The invariants of all cells, read at a family of names. -/
theorem ctx_intro (K : Dev nD × ((Kd × Fin 12) × Bool) → ℕ) (R : Dev nD → ℕ) :
    iprop((bigSep Finset.univ fun p => cellInv (ER (F := F)) (sched q) (K p) (xcell p)) ∗ (bigSep Finset.univ fun c => inv (R c) (earlyInv c)) ∗ levAts tiles lev)
      ⊢ (ctx q (fun p => K (p.1.1, ((p.1.2.1, p.1.2.2), p.2))) R : sProp 𝕄) := by
  have h : ∀ p : Dev nD × Kd × Fin 12, (bigSep Finset.univ fun p => cellInv (ER (F := F)) (sched q) (K p) (xcell p))
      ⊢ (cellsAt q (fun p => K (p.1.1, ((p.1.2.1, p.1.2.2), p.2))) p : sProp 𝕄) := fun p => by
    have ha : (bigSep Finset.univ fun p => cellInv (ER (F := F)) (sched q) (K p) (xcell p)) ⊢ (cellInv (ER (F := F)) (sched q) (K (p.1, ((p.2.1, p.2.2), false))) (xcell (p.1, ((p.2.1, p.2.2), false))) : sProp 𝕄) :=
      bigSep_elim (Finset.mem_univ _)
    have hb : (bigSep Finset.univ fun p => cellInv (ER (F := F)) (sched q) (K p) (xcell p)) ⊢ (cellInv (ER (F := F)) (sched q) (K (p.1, ((p.2.1, p.2.2), true))) (xcell (p.1, ((p.2.1, p.2.2), true))) : sProp 𝕄) :=
      bigSep_elim (Finset.mem_univ _)
    unfold cellsAt
    iintro #H
    isplitl
    · iapply ha; iexact H
    · iapply hb; iexact H
  have h' : (bigSep Finset.univ fun p => cellInv (ER (F := F)) (sched q) (K p) (xcell p)) ⊢ (bigSep Finset.univ (cellsAt q (fun p => K (p.1.1, ((p.1.2.1, p.1.2.2), p.2)))) : sProp 𝕄) :=
    BI.bigSep_intro_persistent fun p _ => h p
  unfold ctx earlyAt
  iintro ⟨H, HE, HL⟩
  isplitl [H]; · iapply h'; iexact H
  isplitl [HE]; · iexact HE
  iexact HL

/-- What a device starts with. -/
def seat (c : Dev nD) : sProp 𝕄 := iprop(∃ K R, ctx q K R ∗ bigSep Finset.univ (kit c) ∗ hands c)

omit [FloatOps F] in
theorem regroup : (iprop((bigSep Finset.univ fun c : Dev nD => bigSep Finset.univ fun k : Kd => iprop(T1 k c ∗ T2 k c ∗ T3 k c ∗ T4 k c))
      ∗ (bigSep Finset.univ fun c : Dev nD => bigSep Finset.univ fun k : Kd => stand k c)
      ∗ (bigSep Finset.univ fun c : Dev nD => bigSep Finset.univ fun k : Kd => hopes k c)) : sProp 𝕄)
    ⊢ bigSep Finset.univ fun c : Dev nD => bigSep Finset.univ fun k : Kd => iprop(T1 k c ∗ T2 k (k.nb c) ∗ T3 k (k.nb c) ∗ T4 k c ∗ stand k c ∗ hopes k c) := by
  have e2 := across (F := F) fun k c => T2 k c
  have e3 := across (F := F) fun k c => T3 k c
  simp only [bigSep_sep']
  rw [e2, e3]
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6

/-- The start: every device's semaphores, buffers and hopes, with the launch's tokens, seat every device. -/
theorem deal :
    iprop((bigSep Finset.univ fun c : Dev nD => Pipeline.ownSems0 osem c) ∗ (bigSep Finset.univ fun c : Dev nD => scopedBufs (c : Thread nD τ))
        ∗ (bigSep Finset.univ fun c : Dev nD => Pipeline.launchCred (fun d => owed d 0) c) ∗ levAts tiles lev ∗ BI.own ((ER (F := F)) (initOf xcells xtoks)))
      ⊢ (iprop(|={Set.univ}=> bigSep Finset.univ (seat q)) : sProp 𝕄) := by
  have eX : (bigSep xcells fun g => roundState (ER (F := F)) (sched q) g 0) = bigSep Finset.univ fun c : Dev nD => bigSep Finset.univ fun i => roundState (ER (F := F)) (sched q) (xcell (c, i)) 0 := by
    unfold xcells
    rw [bigSep_map, bigSep_univ_prod]
    rfl
  have eA : (bigSep xcells fun g => atPos (ER (F := F)) g 0 ∅ 0) = bigSep Finset.univ fun c : Dev nD => bigSep Finset.univ fun k : Kd => stand k c := xcells_eq _
  have eR : (bigSep xcells fun g => reached (ER (F := F)) g 0) = opened := xcells_eq _
  have hI : iprop((bigSep Finset.univ fun c : Dev nD => Pipeline.ownSems0 osem c) ∗ bigSep Finset.univ fun c : Dev nD => bigSep Finset.univ fun i => roundState (ER (F := F)) (sched q) (xcell (c, i)) 0)
      ⊢ (iprop(|={Set.univ}=> bigSep Finset.univ fun p => iprop(∃ κ : ℕ, cellInv (ER (F := F)) (sched q) κ (xcell p))) : sProp 𝕄) := by
    rw [← bigSep_sep', bigSep_univ_prod]
    exact (bigSep_mono fun c _ => cells_alloc q c).trans (bigSep_fupd _ _)
  have hE : (bigSep Finset.univ fun c : Dev nD => scopedBufs (c : Thread nD τ)) ⊢ (iprop(|={Set.univ}=> ((bigSep Finset.univ fun c : Dev nD => iprop(∃ r : ℕ, inv r (earlyInv c))) ∗ bigSep Finset.univ keeps)) : sProp 𝕄) := by
    rw [← bigSep_sep']
    exact (bigSep_mono fun c _ => early_alloc c).trans (bigSep_fupd _ _)
  have hH : (bigSep Finset.univ fun c : Dev nD => Pipeline.launchCred (fun d => owed d 0) c) ⊢ (bigSep Finset.univ fun c : Dev nD => bigSep Finset.univ fun k : Kd => hopes k c : sProp 𝕄) :=
    bigSep_mono fun c _ => hopes_intro c
  have hF : ∀ (K : Dev nD × ((Kd × Fin 12) × Bool) → ℕ) (R : Dev nD → ℕ) (c : Dev nD),
      iprop(ctx q (fun p => K (p.1.1, ((p.1.2.1, p.1.2.2), p.2))) R ∗ (bigSep Finset.univ (kit c) ∗ takes c) ∗ keeps c) ⊢ (seat q c : sProp 𝕄) := fun K R c => by
    unfold seat hands keeps
    iintro ⟨HC, ⟨Hk, Ht⟩, Hst, Hin, Hla⟩
    iexists _, R
    isplitl [HC]; · iexact HC
    isplitl [Hk]; · iexact Hk
    isplitl [Hst]; · iexact Hst
    isplitl [Hin]; · iexact Hin
    isplitl [Hla]; · iexact Hla
    iexact Ht
  have hF' : ∀ (K : Dev nD × ((Kd × Fin 12) × Bool) → ℕ) (R : Dev nD → ℕ),
      iprop(ctx q (fun p => K (p.1.1, ((p.1.2.1, p.1.2.2), p.2))) R ∗ (bigSep Finset.univ fun c : Dev nD => iprop(bigSep Finset.univ (kit c) ∗ takes c)) ∗ bigSep Finset.univ keeps)
        ⊢ (bigSep Finset.univ (seat q) : sProp 𝕄) := fun K R => by
    rw [← bigSep_sep']
    exact with_persistent fun c _ => hF K R c
  iintro ⟨Hs, Hb, Hc, HL, HX⟩
  imod (Rounds.fund (ER (F := F)) (sched q) xcells xtoks) $$ HX with ⟨Hst, Hr, Hat, Htok⟩
  ihave Hst := (Entails.of_eq eX) $$ Hst
  ihave Hat := (Entails.of_eq eA) $$ Hat
  ihave Hr := (Entails.of_eq eR) $$ Hr
  ihave Htok := (Entails.of_eq (xtoks_eq (F := F))) $$ Htok
  ihave Hc := hH $$ Hc
  imod hI $$ [Hs Hst] with HI
  · isplitl [Hs]; · iexact Hs
    iexact Hst
  imod hE $$ Hb with ⟨HE, Hk⟩
  ihave HI := (BI.bigSep_exists_pi Finset.univ (fun (p : Dev nD × ((Kd × Fin 12) × Bool)) (κ : ℕ) => (cellInv (ER (F := F)) (sched q) κ (xcell p) : sProp 𝕄))) $$ HI
  icases HI with ⟨%K, HI⟩
  ihave HE := (BI.bigSep_exists_pi Finset.univ (fun (c : Dev nD) (r : ℕ) => (inv r (earlyInv c) : sProp 𝕄))) $$ HE
  icases HE with ⟨%R, HE⟩
  ihave HC := (ctx_intro q K R) $$ [HI HE HL]
  · isplitl [HI]; · iexact HI
    isplitl [HE]; · iexact HE
    iexact HL
  imodintro
  iapply (hF' K R)
  isplitl [HC]; · iexact HC
  isplitr [Hk]
  · iapply (kits_intro (F := F))
    isplitl [Hr]; · iexact Hr
    iapply (regroup (F := F))
    isplitl [Htok]; · iexact Htok
    isplitl [Hat]; · iexact Hat
    iexact Hc
  iexact Hk

end Cert.GradExchange
-- ==== Proof.Run.lean ====
/-
# The run on all eight devices

Every execution ends, with each device's arrays as its steps left them and every semaphore at zero.
-/
module

public import proofs.«01_k».proof.Proof.Deal

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig ℕ (Elt F) ℕ UU ℕ

variable (m : (ℓ : Loc nD τ sig) → Buf (Elt F) ℓ) (ρ : Dev nD → PrngReg)

/-! ## What a core starts with -/

omit [FloatOps F] in
/-- Only the tensor cores have tiles to wait for. -/
theorem tiles_empty (g : GSem nD τ sig) (h : g.1.2 ≠ .tc) : tiles g = ∅ := if_neg h

/-- The memory, the registers and the counters at the start. -/
abbrev s₀ : MemSt nD τ sig (Elt F) := ⟨m, fun _ => 0, ρ⟩

/-- What a core keeps of its start until it enters. -/
def bare (c : Dev nD) : sProp 𝕄 :=
  iprop(Pipeline.PerCore.cellsSems0 (Pipeline.pinD (pcfgs (F := F)) adm) 0 c ∗ idle c ∗ unscopedBufs c (fun b => m ((c : Thread nD τ).loc b)) ∗ owes (c : Thread nD τ) (owed c 0) ∅)

/-- The pipeline's tokens of a core. -/
def ghosts (c : Dev nD) : sProp 𝕄 := iprop(Pipeline.PerCore.cellsGhost (Pipeline.pinD (pcfgs (F := F)) adm) EP 0 c ∗ Pipeline.PerCore.toksInit (Pipeline.pinD (pcfgs (F := F)) adm) EP 0 c)

/-- What a core starts with, piece by piece. -/
theorem core_split (c : Dev nD) :
    coreInit (Ix := ℕ) (Name := ℕ) (U := UU) (Lvl := ℕ) (Pipeline.owing (fun d : Dev nD => owed d 0)) 0 (s₀ m ρ) (c : Thread nD τ)
      ⊢ (iprop(bare m c
        ∗ Pipeline.ownSems0 osem c ∗ scopedBufs (c : Thread nD τ) ∗ Pipeline.launchCred (fun d : Dev nD => owed d 0) c ∗ levels0 c) : sProp 𝕄) := by
  have eS := sems_split (F := F) c
  refine (Pipeline.coreInit_boundary_owing (fun d : Dev nD => owed d 0) m ρ c).trans ?_
  unfold boundary bare
  rw [eS]
  iintro ⟨⟨Hb, ⟨⟨Hcells, Hos⟩, Hidle⟩, -⟩, Hub, -, HO, Hlv, -, Hcr⟩
  isplitl [Hcells Hidle Hub HO]
  · isplitl [Hcells]; · iexact Hcells
    isplitl [Hidle]; · iexact Hidle
    isplitl [Hub]; · iexact Hub
    iexact HO
  isplitl [Hos]; · iexact Hos
  isplitl [Hb]; · iexact Hb
  isplitl [Hcr]; · iexact Hcr
  iexact Hlv

omit [FloatOps F] in
/-- The levels of all cells, fixed once. -/
theorem levels_fix : (bigSep Finset.univ fun c : Dev nD => levels0 (Ix := ℕ) (Val := Elt F) (Name := ℕ) (U := UU) (Lvl := ℕ) (τ := τ) (sig := sig) c)
    ⊢ (|==> levAts tiles lev : sProp 𝕄) := by
  have hsc : (bigSep Finset.univ fun d : Dev nD => bigSep (Finset.univ.erase Proc.tc) fun p => (coreLevAts ((d, p) : Thread nD τ) tiles lev : sProp 𝕄)) = BI.emp := by
    have h1 : ∀ (d : Dev nD) (p : Proc τ), p ∈ (Finset.univ.erase Proc.tc : Finset (Proc τ)) → (coreLevAts ((d, p) : Thread nD τ) tiles lev : sProp 𝕄) = BI.emp := fun d p hp => by
      unfold coreLevAts
      rw [bigSep_congr (Ψ := fun _ : SemLoc sig => (BI.emp : sProp 𝕄)) fun sm _ => by
        rw [tiles_empty (((d, p) : Thread nD τ), sm) (Finset.ne_of_mem_erase hp), BI.bigSep_empty], BI.bigSep_emp_const]
    rw [bigSep_congr fun d _ => (bigSep_congr fun p hp => h1 d p hp).trans (BI.bigSep_emp_const _), BI.bigSep_emp_const]
  have hall : (levAts tiles lev : sProp 𝕄) = iprop((bigSep Finset.univ fun d : Dev nD => coreLevAts (d : Thread nD τ) tiles lev)
      ∗ bigSep Finset.univ fun d : Dev nD => bigSep (Finset.univ.erase Proc.tc) fun p => (coreLevAts ((d, p) : Thread nD τ) tiles lev : sProp 𝕄)) :=
    (bigSep_univ_prod fun g : GSem nD τ sig => bigSep (tiles g) fun ι => (levAt g ι (lev g ι) : sProp 𝕄)).trans (bigSep_threads fun c : Thread nD τ => (coreLevAts c tiles lev : sProp 𝕄))
  have h0 : ∀ c : Dev nD, levels0 c ⊢ (|==> iprop((bigSep Finset.univ fun sm : SemLoc sig => levels ((c : Thread nD τ), sm) (tiles ((c : Thread nD τ), sm))) ∗ coreLevAts (c : Thread nD τ) tiles lev) : sProp 𝕄) :=
    fun c => lev_assign_cells (c : Thread nD τ) tiles lev
  refine ((bigSep_mono fun c _ => h0 c).trans (BI.bigSep_bupd _ _)).trans (BI.bupd_mono ?_)
  rw [hall, hsc, bigSep_sep']
  show iprop(_ ∗ bigSep Finset.univ fun d : Dev nD => coreLevAts (d : Thread nD τ) tiles lev)
    ⊢ (iprop((bigSep Finset.univ fun d : Dev nD => coreLevAts (d : Thread nD τ) tiles lev) ∗ emp) : sProp 𝕄)
  iintro ⟨-, H⟩
  isplitl [H]; · iexact H
  iempintro

/-- The ghost state the launch starts from. -/
def u₀ : UU := (initOf (Pipeline.PerCore.cells (Pipeline.pinD (pcfgs (F := F)) adm) cell_inj) (Pipeline.PerCore.launchToks (Pipeline.pinD (pcfgs (F := F)) adm) cell_inj), initOf xcells xtoks)

/-- What a core holds before it runs. -/
def before (c : Dev nD) : sProp 𝕄 :=
  iprop(bare m c
    ∗ levAts tiles lev ∗ ghosts c ∗ seat (qq m) c)

/-- What a core holds after it has run. -/
def after (c : Dev nD) : sProp 𝕄 := iprop((rds m 0 c).arraysAt grid0.N ∗ scopedSems0 (c : Thread nD τ))

theorem start_all :
    iprop((bigSep Finset.univ fun c : Dev nD => coreInit (Ix := ℕ) (Name := ℕ) (U := UU) (Lvl := ℕ) (Pipeline.owing (fun d : Dev nD => owed d 0)) 0 (s₀ m ρ) (c : Thread nD τ)) ∗ ownU (u₀ (F := F)))
      ⊢ (iprop(|={Set.univ}=> bigSep Finset.univ (before m)) : sProp 𝕄) := by
  have hc : (bigSep Finset.univ fun c : Dev nD => coreInit (Ix := ℕ) (Name := ℕ) (U := UU) (Lvl := ℕ) (Pipeline.owing (fun d : Dev nD => owed d 0)) 0 (s₀ m ρ) (c : Thread nD τ)) ⊢ _ :=
    bigSep_mono fun c _ => core_split m ρ c
  rw [bigSep_sep', bigSep_sep', bigSep_sep', bigSep_sep'] at hc
  have hl := levels_fix (F := F)
  have hP : (bigSep Finset.univ fun c : Dev nD => bigSep Finset.univ fun p : Fin 1 => Pipeline.PerCore.cellsGhost (Pipeline.pinD (pcfgs (F := F)) adm) EP p c) ⊢ (bigSep Finset.univ fun c : Dev nD => Pipeline.PerCore.cellsGhost (Pipeline.pinD (pcfgs (F := F)) adm) EP 0 c : sProp 𝕄) :=
    bigSep_mono fun c _ => bigSep_elim (Finset.mem_univ (0 : Fin 1))
  have hT : (bigSep Finset.univ fun c : Dev nD => bigSep Finset.univ fun p : Fin 1 => Pipeline.PerCore.toksInit (Pipeline.pinD (pcfgs (F := F)) adm) EP p c) ⊢ (bigSep Finset.univ fun c : Dev nD => Pipeline.PerCore.toksInit (Pipeline.pinD (pcfgs (F := F)) adm) EP 0 c : sProp 𝕄) :=
    bigSep_mono fun c _ => bigSep_elim (Finset.mem_univ (0 : Fin 1))
  have hG : iprop((bigSep Finset.univ fun c : Dev nD => Pipeline.PerCore.cellsGhost (Pipeline.pinD (pcfgs (F := F)) adm) EP 0 c) ∗ bigSep Finset.univ fun c : Dev nD => Pipeline.PerCore.toksInit (Pipeline.pinD (pcfgs (F := F)) adm) EP 0 c) ⊢ (bigSep Finset.univ ghosts : sProp 𝕄) :=
    Entails.of_eq (bigSep_sep' _ _ _).symm
  have hb : iprop(bigSep Finset.univ (bare m)
      ∗ levAts tiles lev ∗ bigSep Finset.univ ghosts ∗ bigSep Finset.univ (seat (qq m)))
      ⊢ (bigSep Finset.univ (before m) : sProp 𝕄) := by
    have e : (bigSep Finset.univ (before m) : sProp 𝕄) = _ := bigSep_sep' _ _ _
    have hlv : levAts tiles lev ⊢ (bigSep Finset.univ fun _ : Dev nD => levAts tiles lev : sProp 𝕄) := BI.bigSep_of_persistent _ _
    rw [e, bigSep_sep', bigSep_sep']
    iintro ⟨H, HL, HP, HS⟩
    isplitl [H]; · iexact H
    isplitl [HL]; · iapply hlv; iexact HL
    isplitl [HP]; · iexact HP
    iexact HS
  iintro ⟨Hc, Hu⟩
  ihave Hc := hc $$ Hc
  icases Hc with ⟨Hc, Hos, Hsc, Hcr, Hlv⟩
  imod hl $$ Hlv with #HL
  unfold u₀
  ihave Hu := (ownU_pair _ _) $$ Hu
  icases Hu with ⟨HP, HX⟩
  imod (Pipeline.PerCore.fund_ghost (Pipeline.pinD (pcfgs (F := F)) adm) EP cell_inj) $$ HP with ⟨Hg, Ht⟩
  imod (deal (qq m)) $$ [Hos Hsc Hcr HX] with HS
  · isplitl [Hos]; · iexact Hos
    isplitl [Hsc]; · iexact Hsc
    isplitl [Hcr]; · iexact Hcr
    isplitr; · iexact HL
    iexact HX
  imodintro
  iapply hb
  isplitl [Hc]; · iexact Hc
  isplitr; · iexact HL
  isplitr [HS]
  · iapply hG
    isplitl [Hg]; · iapply hP; iexact Hg
    iapply hT; iexact Ht
  iexact HS

/-! ## One core's run -/

/-- The pipeline's own semaphores have the lowest level. -/
theorem lev_stage (c : Dev nD) (v : DmaSem sig) (h : v.val < 5) (t : ℕ) : lev ((c : Thread nD τ), .dma v) t = 0 := by
  show (if _ then 0 else _) = 0
  rw [if_pos (by omega)]

theorem waits (c : Dev nD) : (levAts tiles lev : sProp 𝕄) ⊢ Pipeline.PerCore.RDat.cellsWaits (Pipeline.pinD (pcfgs (F := F)) adm) (rds m) 0 0 c :=
  Pipeline.PerCore.RDat.cellsWaits_intro (Pipeline.pinD (pcfgs (F := F)) adm) (rds m) 0 0 c fun w s t =>
    mayWait c (.dma ((cfg0.win w).sem s)) 0 (by decide) _ fun k _ => by
      rw [lev_stage c _ (stage_sem_lt w s)]
      have : 0 < k.lag := by cases k <;> decide
      omega

/-- Every array of the launch is held whole. -/
theorem share_full (c : Dev nD) (w : Fin cfg0.W) : (rd m c).share w = fullShare := by unfold RDat.share; split <;> rfl

/-- At the end a device owes nothing more. -/
theorem owed_end (c : Dev nD) : owed c grid0.N = 0 := by
  rw [N_0]
  unfold owed ow
  refine Finset.sum_eq_zero fun k _ => ?_
  rw [show cnts (min 22 16) (min (22 - 2) 16) (min (22 - 4) 16) k = 16 by cases k <;> rfl, Finset.Ico_self, Finset.sum_empty]

/-- One core's run, from what it starts with to what is read at the end. -/
theorem core_run (c : Dev nD) : before m c ⊢ (wp frame (wpE (Pipeline.defs (pcfgs (F := F)) defs₀) (Variants.lift 𝒱₀) (c : Thread nD τ) none) Set.univ (main (F := F) c)
    (fun _ => post (liftTc (after m) BI.emp) (c : Thread nD τ)) : sProp 𝕄) := by
  have hub := Pipeline.PerCore.unscopedBufs_split (Pipeline.pinD (pcfgs (F := F)) adm) 0 c winFacts0.to₀.arr_unscoped winFacts0.arr_inj (Ix := ℕ) (Name := ℕ) (U := UU) (Lvl := ℕ) (fun b => m ((c : Thread nD τ).loc b))
  have harr : (bigSep Finset.univ fun w => (((c : Thread nD τ).loc (Pipeline.arrRef spec0 w)) ↦{fullShare} m ((c : Thread nD τ).loc (Pipeline.arrRef spec0 w)) : sProp 𝕄))
      = (rds m 0 c).arrays (rds m 0 c).A :=
    (Pipeline.PerCore.RDat.arrays_eq (pcfgs (F := F)) adm (rds m) 0 c arr_whole0 (share_full m c) (rds m 0 c).A).symm
  have hend : (rds m 0 c).owed (Fin.last _) = 0 := owed_end c
  have hw := waits m c
  unfold before seat bare ghosts
  rw [show main (F := F) c = .op (.customCall (Pipeline.entry (0 : Fin 1)) ()) fun _ => .ret ⟨⟩ from rfl]
  iintro ⟨⟨Hcells, Hidle, Hub, HO⟩, #HL, ⟨Hg, Ht⟩, ⟨%K, %R, HC, Hkit, Hh⟩⟩
  ihave Hub := (Entails.of_eq hub) $$ Hub
  icases Hub with ⟨Harr, -⟩
  iapply (fupd_wp frame (wpE (Pipeline.defs (pcfgs (F := F)) defs₀) (Variants.lift 𝒱₀) (c : Thread nD τ) none) Set.univ _ _)
  imod (Pipeline.PerCore.RDat.cellsInit_alloc (Pipeline.pinD (pcfgs (F := F)) adm) (rds m) EP cell_inj 0 c) $$ [Hcells Hg] with ⟨%κ, -, Hinit⟩
  · isplitl [Hcells]; · iexact Hcells
    iexact Hg
  imodintro
  iapply (wp_exchange m κ K R c) $$ [Harr HO Hinit Ht HC Hkit Hh Hidle]
  · isplitl [Harr HO Hinit Ht]
    · unfold Pipeline.PerCore.RDat.EntryPre Pipeline.RDat.owesAt Pipeline.owesWithin
      isplitl [Harr]; · iapply (Entails.of_eq harr); iexact Harr
      isplitl [HO]
      · iexists ∅
        isplitr; · ipureintro; rw [Finset.coe_empty]; exact Set.empty_subset _
        iexact HO
      isplitr; · iapply hw; iexact HL
      isplitl [Hinit]; · iexact Hinit
      iexact Ht
    isplitl [HC]; · iexact HC
    isplitl [Hkit]; · iexact Hkit
    isplitl [Hh]; · iexact Hh
    iexact Hidle
  iintro ⟨Hpost, Hss⟩
  rw [wp_ret]
  imodintro
  unfold Pipeline.PerCore.RDat.EntryPost Pipeline.RDat.owesAt Pipeline.owesWithin post
  rw [hend]
  simp only [liftTc_tc]
  icases Hpost with ⟨Ha, ⟨%W, -, HW⟩⟩
  unfold after
  isplitl [Ha Hss]
  · isplitl [Ha]; · iexact Ha
    iexact Hss
  iexists W
  iexact HW

/-! ## The whole run -/

/-- What a final state is known to hold: each windowed array as the steps left it, and no semaphore raised. -/
def Ended (s : MemSt nD τ sig (Elt F)) : Prop :=
  (∀ (c : Dev nD) (w : Fin 3), (rd m c).ArrAt w grid0.N (s.mem ((c : Thread nD τ).loc (Pipeline.arrRef spec0 w)))) ∧ s.sem = fun _ => 0

theorem core_read (c : Dev nD) (s' : Phys nD τ sig (Elt F)) : iprop(after m c ∗ SI s') ⊢ (iprop(|={Set.univ}=>
    (⌜(∀ w : Fin 3, (rd m c).ArrAt w grid0.N (s'.mem.mem ((c : Thread nD τ).loc (Pipeline.arrRef spec0 w)))) ∧ ∀ sm : SemLoc sig, sm.isScoped .tc = true → s'.mem.sem ((c : Thread nD τ), sm) = 0⌝ ∗ SI s')) : sProp 𝕄) := by
  unfold after
  iintro ⟨⟨Ha, Hss⟩, HSI⟩
  ihave %hz := (tcScoped_read_pers c s') $$ [Hss HSI]
  · isplitl [Hss]; · iexact Hss
    iexact HSI
  ihave Hr := (Pipeline.PerCore.RDat.arraysAt_read (pcfgs (F := F)) adm (rds m) 0 c arr_whole0 grid0.N s') $$ [Ha HSI]
  · isplitl [Ha]; · iexact Ha
    iexact HSI
  icases Hr with ⟨%ha, HSI⟩
  imodintro
  isplitr
  · ipureintro; exact ⟨ha, hz⟩
  iexact HSI

set_option maxRecDepth 8000 in
/-- For any float values and from any memory with the counters at zero, every fair execution of the exchange on the
    eight devices ends, in a state `Ended` holds of. -/
theorem run_main : θ_run defs (onTc (τ := τ) (main (F := F))) (s₀ m ρ) (fun r => Ended m r.2) := by
  refine (θ_run _ _ _).mono (Q := fun r => (∀ c : Dev nD, (∀ w : Fin 3, (rd m c).ArrAt w grid0.N (r.2.mem ((c : Thread nD τ).loc (Pipeline.arrRef spec0 w))))
      ∧ ∀ sm : SemLoc sig, sm.isScoped .tc = true → r.2.sem ((c : Thread nD τ), sm) = 0) ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩) (adequate_tpu _ _ _ _
    (reflect_intro_fupd_tc_sems (X := Unit) (Variants.lift 𝒱₀) (Pipeline.owing (fun d : Dev nD => owed d 0)) 0 (noBookings fun _ => le_rfl) (Pipeline.owing_of_ne (fun d : Dev nD => owed d 0)) (u₀ (F := F)) (fun _ => before m) (fun _ => after m)
      (fun _ => iprop(emp)) Set.univ ?_ (fun _ c => core_run m c) fun _ => ?_))
  · iintro ⟨Hc, Hu⟩
    imod (start_all m ρ) $$ [Hc Hu] with H
    · isplitl [Hc]; · iexact Hc
      iexact Hu
    imodintro
    iexists ()
    isplitl [H]; · iexact H
    iempintro
  · iintro ⟨H, -, Hsc⟩ %s' HSI
    ihave %hsc := (scSems_read_zero m ρ s') $$ [Hsc HSI]
    · isplitl [Hsc]; · iexact Hsc
      iexact HSI
    imod (posts_fupd Finset.univ (core_read m) s') $$ [H HSI] with %h
    · isplitl [H]; · iexact H
      iexact HSI
    imodintro
    ipureintro
    exact ⟨fun c => h c (Finset.mem_univ c), hsc⟩

end Cert.GradExchange
-- ==== Proof.Frames.lean ====
/-
# The frames

Each program ends with its arguments unchanged and every semaphore at zero.
-/
module

public import proofs.«01_k».proof.Proof.Run
public import proofs.«01_k».proof.Proof.Gen.Kernel
public import proofs.«01_k».proof.Proof.Gen.ReferenceIdeal.Run
public import proofs.«01_k».proof.Defs

@[expose] public section

noncomputable section

namespace Cert.GradExchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig ℕ (Elt F) ℕ UU ℕ

variable (m : (ℓ : Loc nD τ sig) → Buf (Elt F) ℓ)

/-- A factor's array ends as it began. -/
theorem Ended.arg0 {s : MemSt nD τ sig (Elt F)} (h : Ended m s) (c : Dev nD) : s.mem ((c : Thread nD τ).loc main_arg0) = m ((c : Thread nD τ).loc main_arg0) := by
  have h0 := h.1 c 0
  rw [RDat.ArrAt_in (rd m c) 0 rfl] at h0
  exact h0

theorem Ended.arg1 {s : MemSt nD τ sig (Elt F)} (h : Ended m s) (c : Dev nD) : s.mem ((c : Thread nD τ).loc main_arg1) = m ((c : Thread nD τ).loc main_arg1) := by
  have h1 := h.1 c 1
  rw [RDat.ArrAt_in (rd m c) 1 rfl] at h1
  exact h1

end Cert.GradExchange

namespace Cert.Proof

open Idealize.ShloMosaic Idealize.SL.Sem Cert.GradExchange

/-- Every run of the program, over any values of the floats, ends with its arguments unchanged and every semaphore at zero. -/
theorem frame_any {F : FTy → Type} [FloatOps F] (m : (ℓ : Loc KernelIdeal.nD KernelIdeal.τ KernelIdeal.sig) → Buf (Elt F) ℓ) (ρ : Dev KernelIdeal.nD → PrngReg) :
    θ_run (Cert.KernelIdeal.defs (F := F)) (onTc (τ := KernelIdeal.τ) (Cert.KernelIdeal.main (F := F))) ⟨m, fun _ => 0, ρ⟩ (fun r =>
      (∀ c : Dev KernelIdeal.nD, r.2.mem (c.tc.loc Cert.KernelIdeal.main_arg0) = m (c.tc.loc Cert.KernelIdeal.main_arg0) ∧ r.2.mem (c.tc.loc Cert.KernelIdeal.main_arg1) = m (c.tc.loc Cert.KernelIdeal.main_arg1)) ∧ r.2.sem = fun _ => 0) :=
  (θ_run (Cert.KernelIdeal.defs (F := F)) _ _).mono (fun _ h => ⟨fun c => ⟨h.arg0 m c, h.arg1 m c⟩, h.2⟩) (run_main m ρ)

/-- The printed kernel and its idealization have the same body. -/
theorem defs₀_same {F : FTy → Type} [FloatOps F] : Kernel.defs₀ (F := F) = KernelIdeal.defs₀ (F := F) := by
  unfold Kernel.defs₀ KernelIdeal.defs₀
  refine congrArg Defs.onTc (funext fun l => funext fun x => ?_)
  match l with
  | ⟨0, _⟩ => rfl

theorem defs_same {F : FTy → Type} [FloatOps F] : Kernel.defs (F := F) = KernelIdeal.defs (F := F) :=
  congrArg (Pipeline.defs KernelIdeal.pcfgs) defs₀_same

/-- The kernel on the chip's own numbers. -/
theorem frame_kernel : @Cert.quiescent_Kernel Cert.Kernel.Gen.facts := fun m ρ _ => by
  rw [defs_same]
  exact frame_any (F := Bits) m ρ

/-- The idealized kernel. -/
theorem frame_kernelIdeal : @Cert.quiescent_KernelIdeal Cert.KernelIdeal.Gen.facts := fun m ρ _ => frame_any (F := Ideal) m ρ

/-- The reference's run: it ends, its arguments are unchanged, and it has no semaphore. -/
theorem frame_reference : @Cert.quiescent_ReferenceIdeal Cert.ReferenceIdeal.Gen.facts := fun m ρ _ =>
  (θ_run Cert.ReferenceIdeal.defs _ _).mono (fun r h => ⟨fun c => (h c).2, Idealize.ShloMosaic.sem_eq_zero_of_no_sems (by decide) r.2⟩) (Cert.ReferenceIdeal.Value.run m ρ)

end Cert.Proof
-- ==== Proof.Values.lean ====
/-
# The values over the reals, tile by tile

What `OutOK` says of a tile, read at an entry: the entry's two contractions over the rows of the two factors, the
device's own rows and those of a device across the first axis.
-/
module

public import proofs.«01_k».proof.Proof.Obl
public import Idealize.ShloMosaic.Lib.Pipeline.Value
public import Idealize.ShloMosaic.Lib.ValueIdx
public import Idealize.ShloMosaic.Lib.ValueLayout
public import Idealize.ShloMosaic.Lib.Pointwise.Contract
public import Idealize.ShloMosaic.PureOps.Ideal.Laws

@[expose] public section

noncomputable section

namespace Cert.GradExchange

open Cert.KernelIdeal Cert.KernelIdeal.Gen

open Idealize.ShloMosaic hiding ix1 ix2 ix3 ix4
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

open Idealize.ShloMosaic.ValueIdx
open scoped BigOperators

/-! ## The two products -/

/-- An entry of the product with a whole half of the columns of `x` is a sum of 2048 products. -/
theorem dotA_apply (l : S2048x1024.Idx → EReal) (r : S2048x512.Idx → EReal) (i : Fin 1024) (n : Fin 512) :
    (matmul (F := Ideal) (φ₁ := .bf16) (φ₂ := .bf16) dot_S2048x1024_S2048x512_S1024x512_0_0_1_1_n_n none l r (constant S1024x512 .f32 0x00000000#32) : S1024x512.Idx → EReal) (ix2 i n)
      = ∑ k : Fin 2048, l (ix2 k i) * r (ix2 k n) := by
  refine (Ideal.matmul_constant_zero_apply (φ₁ := .bf16) (φ₂ := .bf16) _ none l r _).trans ?_
  rw [dot_S2048x1024_S2048x512_S1024x512_0_0_1_1_n_n.sum_contr₁ (a := 0) rfl (K := 2048) rfl]
  refine Finset.sum_congr rfl fun k _ => ?_
  congr 2
  · funext a; match a with | ⟨0, _⟩ => rfl | ⟨1, _⟩ => rfl
  · funext a; match a with | ⟨0, _⟩ => rfl | ⟨1, _⟩ => rfl

/-- An entry of the product with a quarter of a half of the columns of `x` is a sum of 2048 products. -/
theorem dotQ_apply (l : S2048x256.Idx → EReal) (r : S2048x512.Idx → EReal) (i : Fin 256) (n : Fin 512) :
    (matmul (F := Ideal) (φ₁ := .bf16) (φ₂ := .bf16) dot_S2048x256_S2048x512_S256x512_0_0_1_1_n_n none l r (constant S256x512 .f32 0x00000000#32) : S256x512.Idx → EReal) (ix2 i n)
      = ∑ k : Fin 2048, l (ix2 k i) * r (ix2 k n) := by
  refine (Ideal.matmul_constant_zero_apply (φ₁ := .bf16) (φ₂ := .bf16) _ none l r _).trans ?_
  rw [dot_S2048x256_S2048x512_S256x512_0_0_1_1_n_n.sum_contr₁ (a := 0) rfl (K := 2048) rfl]
  refine Finset.sum_congr rfl fun k _ => ?_
  congr 2
  · funext a; match a with | ⟨0, _⟩ => rfl | ⟨1, _⟩ => rfl
  · funext a; match a with | ⟨0, _⟩ => rfl | ⟨1, _⟩ => rfl

/-! ## The factors' columns -/

section Factors
variable (Y1 : Dev nD → S2048x2048.Idx → EReal) (Y2 : Dev nD → ℕ → S2048x512.Idx → EReal)

/-- Column `r` of the half of the left factor that belongs to device `c`'s rows of the result. -/
def colH (c : Dev nD) (r : Fin 1024) : Fin 2048 := ⟨1024 * (c.val / 4) + r.val, by have h : c.val < 8 := c.isLt; omega⟩

/-- The first part of the kernel's copy of `x` is the half that device `c` keeps. -/
theorem xh_apply (c : Dev nD) (k : Fin 2048) (r : Fin 1024) :
    (xh (F := Ideal) Y1 c : S2048x1024.Idx → EReal) (ix2 k r) = Y1 c (ix2 k (colH c r)) := by
  unfold xh k0_pay1
  rw [shapeCast_self, shapeCast_self]
  congr 1
  funext a
  apply Fin.ext
  have h := congrFun (k0_off1_eq c) a
  match a with
  | ⟨0, _⟩ => show k0_off1 c 0 + 1 * k.val = k.val; rw [show k0_off1 c 0 = _ from h]; simp
  | ⟨1, _⟩ => show k0_off1 c 1 + 1 * r.val = 1024 * (c.val / 4) + r.val; rw [show k0_off1 c 1 = _ from h]; simp

/-- Column of the left factor for row `r` of piece `p` of the result of the devices across the first axis. -/
theorem xqv_apply (c e : Dev nD) (k : Fin 2048) (r : Fin 256) (hx : c.val / 4 + e.val / 4 = 1) :
    (xqv (F := Ideal) Y1 e : S2048x256.Idx → EReal) (ix2 k r)
      = Y1 e (ix2 k (colH c ⟨256 * (e.val % 4) + r.val, by omega⟩)) := by
  unfold xqv k0_pay2
  rw [shapeCast_self, shapeCast_self]
  congr 1
  funext a
  apply Fin.ext
  have h := congrFun (k0_off2_eq e) a
  match a with
  | ⟨0, _⟩ => show k0_off2 e 0 + 1 * k.val = k.val; rw [show k0_off2 e 0 = _ from h]; simp
  | ⟨1, _⟩ => show k0_off2 e 1 + 1 * r.val = 1024 * (c.val / 4) + (256 * (e.val % 4) + r.val); rw [show k0_off2 e 1 = _ from h]; have h8 : c.val < 8 := c.isLt; have h8' : e.val < 8 := e.isLt; simp; omega

/-- What a device keeps of a tile. -/
theorem mv_apply (c : Dev nD) (t : ℕ) (r : Fin 1024) (n : Fin 512) :
    (mv (F := Ideal) Y1 Y2 c t : S1x1024x512.Idx → EReal) (ix3 (0 : Fin 1) r n) = ∑ k : Fin 2048, Y1 c (ix2 k (colH c r)) * Y2 c t (ix2 k n) := by
  unfold mv k0_pay5 k0_pay15
  refine (shapeCast_ab_1ab_apply _ _ _ _ _).trans ?_
  refine (dotA_apply _ _ r n).trans ?_
  refine Finset.sum_congr rfl fun k _ => ?_
  rw [xh_apply, shapeCast_self]

/-- Column `n` of half `h` of a tile. -/
def colT (h : Fin 2) (n : Fin 256) : Fin 512 := ⟨256 * h.val + n.val, by omega⟩

/-- An entry of the quarter that a device sends across the first axis is a sum of 2048 products. -/
theorem pay16_apply (c e : Dev nD) (t : ℕ) (hx : c.val / 4 + e.val / 4 = 1) (r : Fin 256) (n : Fin 512) :
    (k0_pay16 (F := Ideal) (Y2 e t) (xqv (F := Ideal) Y1 e) : S256x512.Idx → EReal) (ix2 r n)
      = ∑ k : Fin 2048, Y1 e (ix2 k (colH c ⟨256 * (e.val % 4) + r.val, by omega⟩)) * Y2 e t (ix2 k n) := by
  unfold k0_pay16 k0_pay15
  refine (dotQ_apply _ _ r n).trans ?_
  refine Finset.sum_congr rfl fun k _ => ?_
  rw [xqv_apply Y1 c e k r hx, shapeCast_self]

/-- What a device sends of a tile across the first axis. -/
theorem qv_apply (c e : Dev nD) (t : ℕ) (h : Fin 2) (hx : c.val / 4 + e.val / 4 = 1) (r n : Fin 256) :
    (qv (F := Ideal) Y1 Y2 e t h : S1x1x256x256.Idx → EReal) (ix4 (0 : Fin 1) (0 : Fin 1) r n)
      = ∑ k : Fin 2048, Y1 e (ix2 k (colH c ⟨256 * (e.val % 4) + r.val, by omega⟩)) * Y2 e t (ix2 k (colT h n)) := by
  rw [← pay16_apply Y1 Y2 c e t hx r (colT h n)]
  unfold qv
  match h with
  | 0 =>
    rw [if_pos rfl]
    unfold k0_pay17
    refine (shapeCast_apply _ _ _ (ix2 r n) ?_).trans ?_
    · rw [Shape.rowMajor_val_four, Shape.rowMajor_val_two]; simp
    · refine (truncf_apply (ψ := .bf16) _ bitsLt_bf16_f32 _).trans ?_
      refine (extractStridedSlice_apply _ _ _ (ix2 r n) (ix2 r (colT 0 n)) fun a => ?_)
      match a with
      | ⟨0, _⟩ => simp
      | ⟨1, _⟩ => simp [colT]
  | 1 =>
    rw [if_neg (by decide)]
    unfold k0_pay18
    refine (shapeCast_apply _ _ _ (ix2 r n) ?_).trans ?_
    · rw [Shape.rowMajor_val_four, Shape.rowMajor_val_two]; simp
    · refine (truncf_apply (ψ := .bf16) _ bitsLt_bf16_f32 _).trans ?_
      refine (extractStridedSlice_apply _ _ _ (ix2 r n) (ix2 r (colT 1 n)) fun a => ?_)
      match a with
      | ⟨0, _⟩ => simp
      | ⟨1, _⟩ => simp [colT]

/-- An entry of the product of the rows of device `e`. -/
def part (e : Dev nD) (t : ℕ) (R : Fin 2048) (n : Fin 512) : EReal := ∑ k : Fin 2048, Y1 e (ix2 k R) * Y2 e t (ix2 k n)

/-- Row `r` of piece `p` of a tile. -/
def rowT (p : Fin 4) (r : Fin 256) : Fin 1024 := ⟨256 * p.val + r.val, by omega⟩

/-- The device from which quarter `p` comes lies across the first axis, at place `p`. -/
theorem facing (c : Dev nD) (p : Fin 4) : c.val / 4 + (xn (mk c p)).val / 4 = 1 ∧ (xn (mk c p)).val % 4 = p.val := by revert c p; decide

/-- An entry of a piece of the result: what the device kept, and what came from across the first axis. -/
theorem oval_apply (c : Dev nD) (t : ℕ) (p : Fin 4) (h : Fin 2) (r n : Fin 256) :
    (oval (qv (F := Ideal) Y1 Y2) (mv (F := Ideal) Y1 Y2) c t p h : S256x256.Idx → EReal) (ix2 r n)
      = part Y1 Y2 c t (colH c (rowT p r)) (colT h n) + part Y1 Y2 (xn (mk c p)) t (colH c (rowT p r)) (colT h n) := by
  unfold oval k0_pay8 part
  refine congrArg₂ (· + ·) ?_ ?_
  · refine (shapeCast_1ab_ab_apply _ _ r n).trans ?_
    rw [← mv_apply]
    congr 1
    funext a
    apply Fin.ext
    match a with
    | ⟨0, _⟩ => rfl
    | ⟨1, _⟩ => show 256 * p.val + 1 * r.val = 256 * p.val + r.val; omega
    | ⟨2, _⟩ => show 256 * h.val + 1 * n.val = 256 * h.val + n.val; omega
  · obtain ⟨h1, h2⟩ := facing c p
    refine (shapeCast_apply _ _ _ (ix4 (0 : Fin 1) (0 : Fin 1) r n) ?_).trans ?_
    · rw [Shape.rowMajor_val_four, Shape.rowMajor_val_two]; simp
    · rw [qv_apply Y1 Y2 c _ t h h1 r n]
      simp only [h2]
      rfl

/-- A finished tile, entry by entry. -/
theorem outOK_apply {c : Dev nD} {t : ℕ} {X : S1024x512.Idx → EReal} (hX : OutOK (F := Ideal) (qv Y1 Y2) (mv Y1 Y2) c t X) (r : Fin 1024) (n : Fin 512) :
    ∃ e : Dev nD, c.val / 4 + e.val / 4 = 1 ∧ X (ix2 r n) = part Y1 Y2 c t (colH c r) n + part Y1 Y2 e t (colH c r) n := by
  have hp : r.val / 256 < 4 := by omega
  have hh : n.val / 256 < 2 := by omega
  refine ⟨xn (mk c ⟨r.val / 256, hp⟩), (facing c _).1, ?_⟩
  have hr : rowT ⟨r.val / 256, hp⟩ ⟨r.val % 256, by omega⟩ = r := Fin.ext (by show 256 * (r.val / 256) + r.val % 256 = r.val; omega)
  have hn : colT ⟨n.val / 256, hh⟩ ⟨n.val % 256, by omega⟩ = n := Fin.ext (by show 256 * (n.val / 256) + n.val % 256 = n.val; omega)
  have h := (hX ⟨r.val / 256, hp⟩ ⟨n.val / 256, hh⟩ (ix2 ⟨r.val % 256, by omega⟩ ⟨n.val % 256, by omega⟩)).trans (oval_apply Y1 Y2 c t _ _ _ _)
  rw [hr, hn] at h
  rw [← h]
  congr 1
  funext a
  apply Fin.ext
  match a with
  | ⟨0, _⟩ => show r.val = 256 * (r.val / 256) + 1 * (r.val % 256); omega
  | ⟨1, _⟩ => show n.val = 256 * (n.val / 256) + 1 * (n.val % 256); omega

end Factors

end Cert.GradExchange
-- ==== Proof.Columns.lean ====
/-
# The result array after the run

The blocks that the grid points write back, put together: every entry from the fourth column tile on, as two sums of products
of entries of the arguments.
-/
module

public import proofs.«01_k».proof.Proof.Run
public import proofs.«01_k».proof.Proof.Values
public import Idealize.ShloMosaic.Lib.Pipeline.ArrRel
public import Idealize.ShloMosaic.Lib.Pipeline.ValueKit

@[expose] public section

noncomputable section

namespace Cert.GradExchange

open Cert.KernelIdeal Cert.KernelIdeal.Gen

open Idealize.ShloMosaic hiding ix1 ix2 ix3 ix4
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

open Idealize.ShloMosaic.ValueIdx
open scoped BigOperators

variable (m : (ℓ : Loc nD τ sig) → Buf (Elt Ideal) ℓ)

/-- The two arguments of a device. -/
def argX (c : Dev nD) : S2048x2048.Idx → EReal := m ((c : Thread nD τ).loc main_arg0)
/-- Device `c`'s second argument. -/
def argDy (c : Dev nD) : S2048x8192.Idx → EReal := m ((c : Thread nD τ).loc main_arg1)
/-- The result array of a device. -/
def outAt (s : MemSt nD τ sig (Elt Ideal)) (c : Dev nD) : S1024x8192.Idx → EReal := s.mem ((c : Thread nD τ).loc main_v1)

/-- The block of the second argument at each point. -/
theorem index1 : ∀ t : Fin 22, (cfg0.win 1).index (pt t.val) = ![0, min t.val 15] := by decide +kernel
/-- The block of the result at each point. -/
theorem index2 : ∀ t : Fin 22, (cfg0.win 2).index (pt t.val) = ![0, t.val - 6] := by decide +kernel
/-- The blocks of the result cover it. -/
theorem covers2 : (cfg0.win 2).Covers := by decide +kernel

/-- The block of the first argument is all of it. -/
theorem X1_apply (c : Dev nD) (i j : Fin 2048) : X1 m c (ix2 i j) = argX m c (ix2 i j) := by
  unfold X1 iblk
  rw [View.read_apply]
  show m _ _ = m _ _
  congr 1
  funext a
  apply Fin.ext
  match a with
  | ⟨0, _⟩ => exact (Pipeline.Window.rect_emb_val_of_index_zero (cfg0.win 0) (pt 0) 0 (by decide +kernel) _)
  | ⟨1, _⟩ => exact (Pipeline.Window.rect_emb_val_of_index_zero (cfg0.win 0) (pt 0) 1 (by decide +kernel) _)

/-- Column `n` of tile `t` of an argument. -/
def colN (t : ℕ) (n : Fin 512) : Fin 8192 := ⟨(512 * t + n.val) % 8192, Nat.mod_lt _ (by decide)⟩

/-- The block of the second argument at tile `t` is its columns. -/
theorem X2_apply (c : Dev nD) (t : ℕ) (ht : t < 16) (i : Fin 2048) (n : Fin 512) : X2 m c t (ix2 i n) = argDy m c (ix2 i (colN t n)) := by
  unfold X2 iblk
  rw [View.read_apply]
  show m _ _ = m _ _
  congr 1
  funext a
  apply Fin.ext
  have hi := index1 ⟨t, by omega⟩
  match a with
  | ⟨0, _⟩ => exact (Pipeline.Window.rect_emb_val_of_index_zero (cfg0.win 1) (pt t) 0 (congrFun hi 0) _)
  | ⟨1, _⟩ =>
    refine (Pipeline.Window.rect_emb_val (cfg0.win 1) (pt t) (ix2 i n) 1).trans ?_
    have h1 : (cfg0.win 1).index (pt t) 1 = min t 15 := congrFun hi 1
    rw [h1]
    show min t 15 * 512 + n.val = (512 * t + n.val) % 8192
    omega

/-- A partial sum of the product, of the rows that device `e` has. -/
def dotOn (e : Dev nD) (R : Fin 2048) (N : Fin 8192) : EReal := ∑ k : Fin 2048, argX m e (ix2 k R) * argDy m e (ix2 k N)

/-- A device's product of a tile is its product at the columns of the tile. -/
theorem part_eq (e : Dev nD) (t : ℕ) (ht : t < 16) (R : Fin 2048) (n : Fin 512) : part (X1 m) (X2 m) e t R n = dotOn m e R (colN t n) := by
  unfold part dotOn
  exact Finset.sum_congr rfl fun k _ => by rw [X1_apply, X2_apply m e t ht]

/-- What an entry of the result is, from the fourth column tile on. -/
def Good (c : Dev nD) (i : S1024x8192.Idx) (v : EReal) : Prop :=
  1536 ≤ (i 1).val → ∃ e : Dev nD, c.val / 4 + e.val / 4 = 1 ∧ v = dotOn m c (colH c (i 0)) (i 1) + dotOn m e (colH c (i 0)) (i 1)

/-- Every entry of a finished tile is as it should be. -/
theorem good_tile {c : Dev nD} {t : ℕ} (ht : t < 16) {X : S1024x512.Idx → EReal} (hX : OutOK (F := Ideal) (qq m) (mm m) c t X) (r : Fin 1024) (n : Fin 512) :
    Good m c (ix2 r (colN t n)) (X (ix2 r n)) := fun _ => by
  obtain ⟨e, he, h⟩ := outOK_apply (X1 m) (X2 m) hX r n
  refine ⟨e, he, ?_⟩
  rw [h, part_eq m c t ht, part_eq m e t ht]

theorem Ended.good {s : MemSt nD τ sig (Elt Ideal)} (h : Ended m s) (c : Dev nD) (i : S1024x8192.Idx) : Good m c i (outAt s c i) := by
  obtain ⟨X, hX, hA⟩ := (h.1 c 2).exists_exact
  have hG := hA (Function.update (fun _ _ _ => Classical.arbitrary _) 2 X) fun u _ _ => by rw [Function.update_self]
  unfold outAt
  rw [show s.mem ((c : Thread nD τ).loc main_v1) = _ from hG]
  refine Pipeline.Dat.arrAt_forall_of_covers ((rd m c).withAfter _) 2 (fun i v => Good m c i v) covers2 (fun t hf y => ?_) i
  rw [RDat.withAfter_after, Function.update_self]
  obtain ⟨Y, -, hL⟩ := hX t t.isLt hf
  have htv : t.val < 22 := lt_of_lt_of_eq t.isLt N_0
  have hi : (cfg0.win 2).index t 1 = t.val - 6 := by have h := congrFun (index2 ⟨t.val, htv⟩) 1; rw [pt_val] at h; exact h
  have hi0 : (cfg0.win 2).index t 0 = 0 := by have h := congrFun (index2 ⟨t.val, htv⟩) 0; rw [pt_val] at h; exact h
  have hc1 : ((((cfg0.win 2).blk t).view.emb y : S1024x8192.Idx) 1).val = 512 * (t.val - 6) + (y 1).val := by
    refine (Pipeline.Window.rect_emb_val (cfg0.win 2) t y 1).trans ?_
    rw [hi]
    show (t.val - 6) * 512 + _ = _
    omega
  have hc0 : ((((cfg0.win 2).blk t).view.emb y : S1024x8192.Idx) 0).val = (y 0).val :=
    Pipeline.Window.rect_emb_val_of_index_zero (cfg0.win 2) t 0 hi0 y
  have hy1 : (y 1).val < 512 := (y 1).isLt
  by_cases h9 : 9 ≤ t.val
  · have hg := good_tile m (t := t.val - 6) (by omega) (hL h9) ⟨(y 0).val, (y 0).isLt⟩ ⟨(y 1).val, hy1⟩
    have he : (((cfg0.win 2).blk t).view.emb y : S1024x8192.Idx) = ix2 ⟨(y 0).val, (y 0).isLt⟩ (colN (t.val - 6) ⟨(y 1).val, hy1⟩) := by
      funext a
      apply Fin.ext
      match a with
      | ⟨0, _⟩ => exact hc0
      | ⟨1, _⟩ => refine hc1.trans ?_; show _ = (512 * (t.val - 6) + (y 1).val) % 8192; omega
    rw [he]
    refine Eq.mp (congrArg _ ?_) hg
    show X t _ = X t _
    congr 1
    funext a
    match a with
    | ⟨0, _⟩ => rfl
    | ⟨1, _⟩ => rfl
  · intro hN
    rw [hc1] at hN
    omega

end Cert.GradExchange
-- ==== Proof.Product.lean ====
/-
# The value claim

The result of the kernel, from the fourth column tile on, is the reference's product of the two whole arrays.
-/
module

public import proofs.«01_k».proof.Proof.Columns
public import proofs.«01_k».proof.Proof.Frames
public import proofs.«01_k».proof.Proof.Gen.ReferenceIdeal.Run
public import proofs.«01_k».proof.Defs
public import Idealize.ShloMosaic.Lib.Layout
public import Idealize.ShloMosaic.Lib.IdealHost

@[expose] public section

noncomputable section

namespace Cert.GradExchange

open Cert.KernelIdeal Cert.KernelIdeal.Gen

open Idealize.ShloMosaic hiding ix1 ix2 ix3 ix4
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

open Idealize.ShloMosaic.ValueIdx
open scoped BigOperators

/-! ## The reference's product -/

/-- The type of the whole first argument. -/
abbrev WholeX := (⟨2, ![4096, 2048]⟩ : Shape).Idx → EReal
/-- The type of the whole second argument. -/
abbrev WholeDy := (⟨2, ![4096, 8192]⟩ : Shape).Idx → EReal

/-- The reference's result. -/
def product (x : WholeX) (dy : WholeDy) : (⟨2, ![2048, 8192]⟩ : Shape).Idx → EReal :=
  (truncf (F := Ideal) .bf16 (Host.dotGeneral (F := Ideal) (φ₁ := .bf16) (φ₂ := .bf16) Cert.ReferenceIdeal.dot_S2048x4096_S4096x8192_S2048x8192_1_0_0_1_n_n none
    (transpose Cert.ReferenceIdeal.S2048x4096 [1, 0] x Cert.ReferenceIdeal.Facts₀.transposes_S4096x2048_S2048x4096_1_0) dy) Cert.ReferenceIdeal.Facts₀.bitsLt_bf16_f32)

/-- An entry of the reference's result is a sum of 4096 products. -/
theorem product_apply (x : WholeX) (dy : WholeDy) (R : Fin 2048) (N : Fin 8192) : product x dy (ix2 R N) = ∑ k : Fin 4096, x (ix2 k R) * dy (ix2 k N) := by
  unfold product
  refine (truncf_apply (ψ := .bf16) _ Cert.ReferenceIdeal.Facts₀.bitsLt_bf16_f32 _).trans ?_
  refine (Ideal.dotGeneral_apply (φ₁ := .bf16) (φ₂ := .bf16) _ none _ _ _ _).trans ?_
  rw [Cert.ReferenceIdeal.dot_S2048x4096_S4096x8192_S2048x8192_1_0_0_1_n_n.sum_contr₁ (a := 1) rfl (K := 4096) rfl]
  refine Finset.sum_congr rfl fun k _ => ?_
  refine congrArg₂ (· * ·) ?_ ?_
  · refine transpose_apply _ _ _ _ (ix2 k R) fun b => ?_
    match b with | ⟨0, _⟩ => rfl | ⟨1, _⟩ => rfl
  · refine congrArg dy ?_
    funext a; match a with | ⟨0, _⟩ => rfl | ⟨1, _⟩ => rfl

/-! ## The layout of the arrays over the devices -/

/-- Row `k` of device `e`'s rows of the two arguments, in the whole arrays. -/
def rowK (e : Dev nD) (k : Fin 2048) : Fin 4096 := ⟨2048 * (e.val / 4) + k.val, by have h : e.val < 8 := e.isLt; omega⟩

/-- A device's block number is its place along the first axis. -/
theorem meshLin_x (c : Dev nD) : Layout.meshLin [2, 2, 2] c.val [0] = c.val / 4 := by revert c; decide

variable (m : (ℓ : Loc nD τ sig) → Buf (Elt Ideal) ℓ) (x : WholeX) (dy : WholeDy)

/-- Every device has its rows of the two arguments. -/
def Laid : Prop := ∀ c : Dev nD, argX m c = Layout.blockN ⟨2, ![2048, 2048]⟩ ⟨2, ![4096, 2048]⟩ (Layout.meshBlock [2, 2, 2] ![[0], []] c) x
  ∧ argDy m c = Layout.blockN ⟨2, ![2048, 8192]⟩ ⟨2, ![4096, 8192]⟩ (Layout.meshBlock [2, 2, 2] ![[0], []] c) dy

variable {m x dy}

/-- A device's first argument is its rows of the whole one. -/
theorem Laid.x_apply (h : Laid m x dy) (c : Dev nD) (k R : Fin 2048) : argX m c (ix2 k R) = x (ix2 (rowK c k) R) := by
  rw [(h c).1, Layout.blockN_apply]
  congr 1
  funext a
  apply Fin.ext
  match a with
  | ⟨0, _⟩ =>
    rw [Layout.TilesN.idx_val]
    show Layout.meshLin [2, 2, 2] c.val [0] * 2048 + k.val = 2048 * (c.val / 4) + k.val
    rw [meshLin_x]; omega
  | ⟨1, _⟩ =>
    rw [Layout.TilesN.idx_val]
    show 0 * 2048 + R.val = R.val
    omega

/-- A device's second argument is its rows of the whole one. -/
theorem Laid.dy_apply (h : Laid m x dy) (c : Dev nD) (k : Fin 2048) (N : Fin 8192) : argDy m c (ix2 k N) = dy (ix2 (rowK c k) N) := by
  rw [(h c).2, Layout.blockN_apply]
  congr 1
  funext a
  apply Fin.ext
  match a with
  | ⟨0, _⟩ =>
    rw [Layout.TilesN.idx_val]
    show Layout.meshLin [2, 2, 2] c.val [0] * 2048 + k.val = 2048 * (c.val / 4) + k.val
    rw [meshLin_x]; omega
  | ⟨1, _⟩ =>
    rw [Layout.TilesN.idx_val]
    show 0 * 8192 + N.val = N.val
    omega

/-- A device's product is the sum over its rows. -/
theorem Laid.dotOn_eq (h : Laid m x dy) (c : Dev nD) (R : Fin 2048) (N : Fin 8192) :
    dotOn m c R N = ∑ k : Fin 2048, x (ix2 (rowK c k) R) * dy (ix2 (rowK c k) N) := by
  unfold dotOn
  exact Finset.sum_congr rfl fun k _ => by rw [h.x_apply, h.dy_apply]

/-- The rows of the devices on the two sides of the first axis are all the rows. -/
theorem sum_sides (f : Fin 4096 → EReal) (c e : Dev nD) (hx : c.val / 4 + e.val / 4 = 1) :
    ∑ k : Fin 2048, f (rowK c k) + ∑ k : Fin 2048, f (rowK e k) = ∑ k : Fin 4096, f k := by
  have hs : ∑ k : Fin 4096, f k = ∑ k : Fin 2048, f (Fin.castAdd 2048 k) + ∑ k : Fin 2048, f (Fin.natAdd 2048 k) := Fin.sum_univ_add (a := 2048) (b := 2048) f
  have hlow : ∀ d : Dev nD, d.val / 4 = 0 → ∀ k : Fin 2048, rowK d k = Fin.castAdd 2048 k := fun d hd k => Fin.ext (by show 2048 * (d.val / 4) + k.val = k.val; omega)
  have hhigh : ∀ d : Dev nD, d.val / 4 = 1 → ∀ k : Fin 2048, rowK d k = Fin.natAdd 2048 k := fun d hd k => Fin.ext (by show 2048 * (d.val / 4) + k.val = 2048 + k.val; omega)
  rw [hs]
  by_cases hc : c.val / 4 = 0
  · simp only [hlow c hc, hhigh e (by omega)]
  · simp only [hhigh c (by omega), hlow e (by omega)]
    exact add_comm _ _

/-- The result of the kernel, from the fourth column tile on, is the product's. -/
theorem Ended.whole (hl : Laid m x dy) {s : MemSt nD τ sig (Elt Ideal)} (h : Ended m s) (c : Dev nD) (i : S1024x8192.Idx) (hi : 1536 ≤ (i 1).val) :
    outAt s c i = (Layout.blockN ⟨2, ![1024, 8192]⟩ ⟨2, ![2048, 8192]⟩ (Layout.meshBlock [2, 2, 2] ![[0], []] c) (product x dy) : S1024x8192.Idx → EReal) i := by
  obtain ⟨e, he, hv⟩ := h.good m c i hi
  refine hv.trans ((congrArg₂ (· + ·) (hl.dotOn_eq c (colH c (i 0)) (i 1)) (hl.dotOn_eq e (colH c (i 0)) (i 1))).trans ?_)
  refine (sum_sides (fun k => x (ix2 k (colH c (i 0))) * dy (ix2 k (i 1))) c e he).trans ?_
  refine (product_apply x dy (colH c (i 0)) (i 1)).symm.trans ?_
  rw [Layout.blockN_apply]
  refine congrArg (product x dy) ?_
  funext a
  apply Fin.ext
  match a with
  | ⟨0, _⟩ =>
    rw [Layout.TilesN.idx_val]
    show 1024 * (c.val / 4) + (i 0).val = Layout.meshLin [2, 2, 2] c.val [0] * 1024 + (i 0).val
    rw [meshLin_x]; omega
  | ⟨1, _⟩ =>
    rw [Layout.TilesN.idx_val]
    show (i 1).val = 0 * 8192 + (i 1).val
    omega

end Cert.GradExchange

namespace Cert.Proof

open Idealize.ShloMosaic Idealize.SL.Sem Cert.GradExchange

/-- The side condition of the mask holds. -/
theorem on_settled_facts : Cert.On_settled.Facts := ⟨by decide⟩

/-- The comparison of the mask, on the numbers. -/
theorem sge_1536 (n : ℕ) (hn : n < 8192) (h : BitVec.ofBool (BitVec.sle 1536#32 (BitVec.ofNat 32 n)) = 1#1) : 1536 ≤ n := by
  have h2 : BitVec.sle 1536#32 (BitVec.ofNat 32 n) = true := by
    by_contra hc
    rw [Bool.eq_false_of_not_eq_true hc] at h
    exact absurd h (by decide)
  have hi : (BitVec.ofNat 32 n).toInt = n := by
    rw [BitVec.toInt_eq_toNat_cond, BitVec.toNat_ofNat, Nat.mod_eq_of_lt (by omega), if_pos (by omega)]
  have h3 : (1536#32 : BitVec 32).toInt ≤ (BitVec.ofNat 32 n).toInt := of_decide_eq_true h2
  have h4 : (1536#32 : BitVec 32).toInt = 1536 := by decide
  omega

/-- The mask is the columns from the fourth tile on. -/
theorem settled_col (x : WholeX) (dy : WholeDy) (i : (⟨2, ![2048, 8192]⟩ : Shape).Idx)
    (h : (@Cert.On_settled.fn on_settled_facts Ideal _ x dy) i = 1#1) : 1536 ≤ (i 1).val :=
  sge_1536 (i 1).val (i 1).isLt h

/-- The kernel computes the reference's product, under the mask. -/
theorem value : @Cert.algebraic_KernelIdeal_ReferenceIdeal_on_settled Cert.KernelIdeal.Gen.facts Cert.ReferenceIdeal.Gen.facts on_settled_facts := by
  intro m ρ m' ρ' _ hm
  refine ⟨product (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨fun i hi => ?_, h.arg0 m c, h.arg1 m c⟩) (run_main (F := Ideal) m ρ)
    refine h.whole (x := m' (((0 : Dev Cert.ReferenceIdeal.nD).tc : Thread Cert.ReferenceIdeal.nD Cert.ReferenceIdeal.τ).loc Cert.ReferenceIdeal.main_arg0)) (dy := m' (((0 : Dev Cert.ReferenceIdeal.nD).tc : Thread Cert.ReferenceIdeal.nD Cert.ReferenceIdeal.τ).loc Cert.ReferenceIdeal.main_arg1)) hm c i ?_
    have hc := settled_col _ _ _ hi
    rw [Layout.TilesN.idx_val] at hc
    have h0 : (0 : ℕ) * 8192 + (i 1).val = (i 1).val := by omega
    exact h0 ▸ hc
  · exact (θ_run Cert.ReferenceIdeal.defs _ _).mono (fun r h => ⟨fun i _ => congrFun (h 0).1 i, (h 0).2⟩) (Cert.ReferenceIdeal.Value.run m' ρ')

end Cert.Proof
-- ==== Proof.lean ====
/-
The certificate: the claims of the statement, assembled from the modules under `Proof/`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Product
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, on_settled_facts,
    frame_kernel, frame_kernelIdeal, frame_reference, trivial, value⟩

end Cert.Proof

end
